-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_largest_logits_are_finite [hPre_largest_logits_are_finite : Cert.Pre_largest_logits_are_finite.Facts] (m : (ℓ : Loc Cert.MoeIdeal.nD Cert.MoeIdeal.τ Cert.MoeIdeal.sig) → Buf (Elt Ideal) ℓ) : Prop :=
  ∀ c : Dev Cert.MoeIdeal.nD,
    (Cert.Pre_largest_logits_are_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_largest_logits_are_finite [hPre_largest_logits_are_finite : Cert.Pre_largest_logits_are_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_largest_logits_are_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_entries_are_finite [hPre_entries_are_finite : Cert.Pre_entries_are_finite.Facts] (m : (ℓ : Loc Cert.DiffIdeal.nD Cert.DiffIdeal.τ Cert.DiffIdeal.sig) → Buf (Elt Ideal) ℓ) : Prop :=
  ∀ c : Dev Cert.DiffIdeal.nD,
    (Cert.Pre_entries_are_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_entries_are_finite [hPre_entries_are_finite : Cert.Pre_entries_are_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_entries_are_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_largest_logits_are_finite [hMoeIdeal : Cert.MoeIdeal.Facts] [hPre_largest_logits_are_finite : Cert.Pre_largest_logits_are_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_largest_logits_are_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_largest_logits_are_finite [hMoeRefIdeal : Cert.MoeRefIdeal.Facts] [hPre_largest_logits_are_finite : Cert.Pre_largest_logits_are_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_largest_logits_are_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_entries_are_finite [hDiffIdeal : Cert.DiffIdeal.Facts] [hPre_entries_are_finite : Cert.Pre_entries_are_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_entries_are_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_entries_are_finite [hDiffRefIdeal : Cert.DiffRefIdeal.Facts] [hPre_entries_are_finite : Cert.Pre_entries_are_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_entries_are_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def preserves_Moe_MoeIdeal : Prop :=
  True

def algebraic_MoeIdeal_MoeRefIdeal_pre_largest_logits_are_finite [hMoeIdeal : Cert.MoeIdeal.Facts] [hMoeRefIdeal : Cert.MoeRefIdeal.Facts] [hPre_largest_logits_are_finite : Cert.Pre_largest_logits_are_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_largest_logits_are_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v85) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_v51) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v50_0)) (v1 : (c : Dev Cert.InprojIdeal.nD) → Buf (Elt Ideal) ((c.tc : Thread Cert.InprojIdeal.nD Cert.InprojIdeal.τ).loc Cert.InprojIdeal.main_v50_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v50_0) = v0 c
          ∧ r.2.mem ((c.tc : Thread Cert.InprojIdeal.nD Cert.InprojIdeal.τ).loc Cert.InprojIdeal.main_v50_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v114) = v0 c
          ∧ r.2.mem ((c.tc : Thread Cert.InprojRefIdeal.nD Cert.InprojRefIdeal.τ).loc Cert.InprojRefIdeal.main_v113) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Diff_DiffIdeal : Prop :=
  True

def algebraic_DiffIdeal_DiffRefIdeal_pre_entries_are_finite [hDiffIdeal : Cert.DiffIdeal.Facts] [hDiffRefIdeal : Cert.DiffRefIdeal.Facts] [hPre_entries_are_finite : Cert.Pre_entries_are_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_entries_are_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v191)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v191) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v113) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def Claim : Prop :=
  ∃ (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hDiff : Cert.Diff.Facts) (hDiffIdeal : Cert.DiffIdeal.Facts) (hDiffRefIdeal : Cert.DiffRefIdeal.Facts) (hPre_largest_logits_are_finite : Cert.Pre_largest_logits_are_finite.Facts) (hPre_entries_are_finite : Cert.Pre_entries_are_finite.Facts),
    quiescent_Moe (hMoe := hMoe)
    ∧ quiescent_MoeIdeal (hMoeIdeal := hMoeIdeal)
    ∧ quiescent_MoeIdeal_pre_largest_logits_are_finite (hMoeIdeal := hMoeIdeal) (hPre_largest_logits_are_finite := hPre_largest_logits_are_finite)
    ∧ quiescent_MoeRefIdeal (hMoeRefIdeal := hMoeRefIdeal)
    ∧ quiescent_MoeRefIdeal_pre_largest_logits_are_finite (hMoeRefIdeal := hMoeRefIdeal) (hPre_largest_logits_are_finite := hPre_largest_logits_are_finite)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Diff (hDiff := hDiff)
    ∧ quiescent_DiffIdeal (hDiffIdeal := hDiffIdeal)
    ∧ quiescent_DiffIdeal_pre_entries_are_finite (hDiffIdeal := hDiffIdeal) (hPre_entries_are_finite := hPre_entries_are_finite)
    ∧ quiescent_DiffRefIdeal (hDiffRefIdeal := hDiffRefIdeal)
    ∧ quiescent_DiffRefIdeal_pre_entries_are_finite (hDiffRefIdeal := hDiffRefIdeal) (hPre_entries_are_finite := hPre_entries_are_finite)
    ∧ preserves_Moe_MoeIdeal
    ∧ algebraic_MoeIdeal_MoeRefIdeal_pre_largest_logits_are_finite (hMoeIdeal := hMoeIdeal) (hMoeRefIdeal := hMoeRefIdeal) (hPre_largest_logits_are_finite := hPre_largest_logits_are_finite)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Diff_DiffIdeal
    ∧ algebraic_DiffIdeal_DiffRefIdeal_pre_entries_are_finite (hDiffIdeal := hDiffIdeal) (hDiffRefIdeal := hDiffRefIdeal) (hPre_entries_are_finite := hPre_entries_are_finite)
-- ==== Pre_entries_are_finite.lean ====
abbrev S32768x8192 : Shape := ⟨2, ![32768, 8192]⟩
abbrev S32x4 : Shape := ⟨2, ![32, 4]⟩
abbrev S4x64 : Shape := ⟨2, ![4, 64]⟩
abbrev S128 : Shape := ⟨1, ![128]⟩
abbrev S32768x1536 : Shape := ⟨2, ![32768, 1536]⟩
abbrev S_ : Shape := ⟨0, ![]⟩

class Facts : Prop where
  slices_S32768x8192_S32768x1536_0_3584 : S32768x8192.Slices ![0, 3584] S32768x1536
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S32x4 : S_.BroadcastsInDim S32x4 (![] : Fin 0 → Fin S32x4.rank)
  reducesTo_S32x4_S_d0_1 : S32x4.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x8192 .bf16) (main_arg1 : FVec F S32x4 .f32) (main_arg2 : FVec F S4x64 .f32) (main_arg3 : FVec F S128 .f32) : IVec S_ 1 :=
  let main_v0 : FVec F S32768x1536 .bf16 := (extractStridedSlice S32768x1536 ![0, 3584] · slices_S32768x8192_S32768x1536_0_3584) main_arg0
  let main_v1 : FVec F S32768x1536 .f32 := (extf .f32 · bitsLt_bf16_f32) main_v0
  let main_v2 : FVec F S32768x1536 .f32 := Host.absf main_v1
  let main_cst : FVec F S_ .f32 := constant S_ .f32 0x7F800000#32
  let main_v3 : FVec F S32768x1536 .f32 := broadcastInDim S32768x1536 ![] bcast_S_S32768x1536 main_cst
  let main_v4 : IVec S32768x1536 1 := cmpf .olt main_v2 main_v3
  let main_c : IVec S_ 1 := constantI S_ 1 1#1
  let main_v5 : IVec S_ 1 := (fun x v => Host.reduce IntOp.andi x v reducesTo_S32768x1536_S_d0_1 h_S_) main_v4 main_c
  let main_v6 : FVec F S32x4 .f32 := Host.absf main_arg1
  let main_cst_0 : FVec F S_ .f32 := constant S_ .f32 0x7F800000#32
  let main_v7 : FVec F S32x4 .f32 := broadcastInDim S32x4 ![] bcast_S_S32x4 main_cst_0
  let main_v8 : IVec S32x4 1 := cmpf .olt main_v6 main_v7
  let main_c_1 : IVec S_ 1 := constantI S_ 1 1#1
  let main_v9 : IVec S_ 1 := (fun x v => Host.reduce IntOp.andi x v reducesTo_S32x4_S_d0_1 h_S_) main_v8 main_c_1
  let main_v10 : IVec S_ 1 := andi main_v5 main_v9
  let main_v11 : FVec F S4x64 .f32 := Host.absf main_arg2
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Pre_largest_logits_are_finite.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S32768x4 : Shape := ⟨2, ![32768, 4]⟩
abbrev S_ : Shape := ⟨0, ![]⟩
abbrev S32768 : Shape := ⟨1, ![32768]⟩
abbrev S32768x32 : Shape := ⟨2, ![32768, 32]⟩
abbrev S32768x4x8 : Shape := ⟨3, ![32768, 4, 8]⟩

class Facts : Prop where
  slices_S32768x128_S32768x4_0_32 : S32768x128.Slices ![0, 32] S32768x4
  reducesTo_S32768x4_S32768_d1 : S32768x4.ReducesTo [1] S32768
  h_S_ : 0 < S_.numel
  slices_S32768x128_S32768x32_0_0 : S32768x128.Slices ![0, 0] S32768x32
  shapeCasts_S32768x32_S32768x4x8 : S32768x32.ShapeCasts S32768x4x8
  reducesTo_S32768x4x8_S32768x4_d2 : S32768x4x8.ReducesTo [2] S32768x4
  bcast_S_S32768 : S_.BroadcastsInDim S32768 (![] : Fin 0 → Fin S32768.rank)
  reducesTo_S32768_S_d0 : S32768.ReducesTo [0] S_
  bcast_S_S32768x4 : S_.BroadcastsInDim S32768x4 (![] : Fin 0 → Fin S32768x4.rank)
  reducesTo_S32768x4_S_d0_1 : S32768x4.ReducesTo [0, 1] S_

variable [Facts]

def fn {F : FTy → Type} [FloatOps F] (main_arg0 : FVec F S32768x1024 .f32) (main_arg1 : FVec F S32768x1024 .bf16) (main_arg2 : FVec F S32768x128 .f32) (main_arg3 : FVec F S32x1024x256 .f32) (main_arg4 : FVec F S32x1024x256 .f32) (main_arg5 : FVec F S32x256x1024 .f32) : IVec S_ 1 :=
  let main_v0 : FVec F S32768x4 .f32 := (extractStridedSlice S32768x4 ![0, 32] · slices_S32768x128_S32768x4_0_32) main_arg2
  let main_cst : FVec F S_ .f32 := constant S_ .f32 0xFF800000#32
  let main_v1 : FVec F S32768 .f32 := (fun x v => Host.reduce FloatOps.maximumf x v reducesTo_S32768x4_S32768_d1 h_S_) main_v0 main_cst
  let main_v2 : FVec F S32768x32 .f32 := (extractStridedSlice S32768x32 ![0, 0] · slices_S32768x128_S32768x32_0_0) main_arg2
  let main_v3 : FVec F S32768x4x8 .f32 := shapeCast S32768x4x8 main_v2 shapeCasts_S32768x32_S32768x4x8
  let main_cst_0 : FVec F S_ .f32 := constant S_ .f32 0xFF800000#32
  let main_v4 : FVec F S32768x4 .f32 := (fun x v => Host.reduce FloatOps.maximumf x v reducesTo_S32768x4x8_S32768x4_d2 h_S_) main_v3 main_cst_0
  let main_v5 : FVec F S32768 .f32 := Host.absf main_v1
  let main_cst_1 : FVec F S_ .f32 := constant S_ .f32 0x7F800000#32
  let main_v6 : FVec F S32768 .f32 := broadcastInDim S32768 ![] bcast_S_S32768 main_cst_1
  let main_v7 : IVec S32768 1 := cmpf .olt main_v5 main_v6
  let main_c : IVec S_ 1 := constantI S_ 1 1#1
  let main_v8 : IVec S_ 1 := (fun x v => Host.reduce IntOp.andi x v reducesTo_S32768_S_d0 h_S_) main_v7 main_c
  let main_v9 : FVec F S32768x4 .f32 := Host.absf main_v4
  let main_cst_2 : FVec F S_ .f32 := constant S_ .f32 0x7F800000#32
  let main_v10 : FVec F S32768x4 .f32 := broadcastInDim S32768x4 ![] bcast_S_S32768x4 main_cst_2
  let main_v11 : IVec S32768x4 1 := cmpf .olt main_v9 main_v10
  let main_c_3 : IVec S_ 1 := constantI S_ 1 1#1
  let main_v12 : IVec S_ 1 := (fun x v => Host.reduce IntOp.andi x v reducesTo_S32768x4_S_d0_1 h_S_) main_v11 main_c_3
  let main_v13 : IVec S_ 1 := andi main_v8 main_v12
  main_v13
-- ==== Moe.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S32x1024x512 : Shape := ⟨3, ![32, 1024, 512]⟩
abbrev S1024x1024 : Shape := ⟨2, ![1024, 1024]⟩
abbrev S1024x128 : Shape := ⟨2, ![1024, 128]⟩
abbrev S1x1024x512 : Shape := ⟨3, ![1, 1024, 512]⟩
abbrev S1x256x1024 : Shape := ⟨3, ![1, 256, 1024]⟩
abbrev S1024 : Shape := ⟨1, ![1024]⟩
abbrev S1024x1 : Shape := ⟨2, ![1024, 1]⟩
abbrev S1024x512 : Shape := ⟨2, ![1024, 512]⟩
abbrev S1024x256 : Shape := ⟨2, ![1024, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32x1024x512, .f32⟩
  | .hbm, ⟨7, _⟩ => ⟨S32x1024x512, .bf16⟩
  | .hbm, ⟨8, _⟩ => ⟨S32x256x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S32768 : Shape := ⟨1, ![32768]⟩
abbrev S32768x4 : Shape := ⟨2, ![32768, 4]⟩
abbrev S32768x1 : Shape := ⟨2, ![32768, 1]⟩
abbrev S_ : Shape := ⟨0, ![]⟩
abbrev S32768x2 : Shape := ⟨2, ![32768, 2]⟩
abbrev S32768x32 : Shape := ⟨2, ![32768, 32]⟩
abbrev S32768x4x8 : Shape := ⟨3, ![32768, 4, 8]⟩
abbrev S32768x8 : Shape := ⟨2, ![32768, 8]⟩
abbrev S32768x2x1 : Shape := ⟨3, ![32768, 2, 1]⟩
abbrev S1x1x32 : Shape := ⟨3, ![1, 1, 32]⟩
abbrev S32768x2x32 : Shape := ⟨3, ![32768, 2, 32]⟩
abbrev S32x256x32768 : Shape := ⟨3, ![32, 256, 32768]⟩
abbrev S32x32768x256 : Shape := ⟨3, ![32, 32768, 256]⟩
abbrev S32x32768x1024 : Shape := ⟨3, ![32, 32768, 1024]⟩
abbrev S32x32768 : Shape := ⟨2, ![32, 32768]⟩
abbrev S32x32768x1 : Shape := ⟨3, ![32, 32768, 1]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32768x1024, .f32⟩
  | .hbm, ⟨7, _⟩ => ⟨S32768, .i32⟩
  | .hbm, ⟨8, _⟩ => ⟨S32768x4, .f32⟩
  | .hbm, ⟨9, _⟩ => ⟨S32768x1, .f32⟩
  | .hbm, ⟨10, _⟩ => ⟨S32768x1, .i32⟩
  | .hbm, ⟨11, _⟩ => ⟨S32768, .i32⟩
  | .hbm, ⟨12, _⟩ => ⟨S_, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S32768x1, .f32⟩
  | .hbm, ⟨18, _⟩ => ⟨S32768x4, .f32⟩
  | .hbm, ⟨19, _⟩ => ⟨S32768x4, .f32⟩
  | .hbm, ⟨20, _⟩ => ⟨S32768x4, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S32768x4, .f32⟩
  | .hbm, ⟨25, _⟩ => ⟨S32768x4, .f32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S32768, .i32⟩
  | .hbm, ⟨40, _⟩ => ⟨S32768x1, .i32⟩
  | .hbm, ⟨41, _⟩ => ⟨S32768x1, .i32⟩
  | .hbm, ⟨42, _⟩ => ⟨S32768x2, .i32⟩
  | .hbm, ⟨43, _⟩ => ⟨S32768, .f32⟩
  | .hbm, ⟨44, _⟩ => ⟨S32768x32, .f32⟩
  | .hbm, ⟨45, _⟩ => ⟨S32768x4x8, .f32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S_, .i32⟩
  | .hbm, ⟨54, _⟩ => ⟨S32768, .i32⟩
  | .hbm, ⟨55, _⟩ => ⟨S32768, .i1⟩
  | .hbm, ⟨56, _⟩ => ⟨S_, .i32⟩
  | .hbm, ⟨57, _⟩ => ⟨S32768, .i32⟩
  | .hbm, ⟨58, _⟩ => ⟨S32768, .i32⟩
  | .hbm, ⟨59, _⟩ => ⟨S32768, .i32⟩
  | .hbm, ⟨60, _⟩ => ⟨S32768x1, .i32⟩
  | .hbm, ⟨61, _⟩ => ⟨S32768x1, .i32⟩
  | .hbm, ⟨62, _⟩ => ⟨S32768x2, .i32⟩
  | .hbm, ⟨63, _⟩ => ⟨S32768x8, .f32⟩
  | .hbm, ⟨64, _⟩ => ⟨S_, .f32⟩
  | .hbm, ⟨65, _⟩ => ⟨S32768, .f32⟩
  | .hbm, ⟨66, _⟩ => ⟨S_, .f32⟩
  | .hbm, ⟨67, _⟩ => ⟨S32768, .f32⟩
  | .hbm, ⟨68, _⟩ => ⟨S32768, .f32⟩
  | .hbm, ⟨69, _⟩ => ⟨S32768x1, .f32⟩
  | .hbm, ⟨70, _⟩ => ⟨S32768x8, .f32⟩
  | .hbm, ⟨71, _⟩ => ⟨S32768x8, .f32⟩
  | .hbm, ⟨72, _⟩ => ⟨S32768x8, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S32768x8, .f32⟩
  | .hbm, ⟨77, _⟩ => ⟨S32768x8, .f32⟩
  | .hbm, ⟨78, _⟩ => ⟨S32768x2, .f32⟩
  | .hbm, ⟨79, _⟩ => ⟨S32768x2, .i32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S32768x2, .f32⟩
  | .hbm, ⟨84, _⟩ => ⟨S32768x2, .f32⟩
  | .hbm, ⟨85, _⟩ => ⟨S32768x1, .f32⟩
  | .hbm, ⟨86, _⟩ => ⟨S32768x2, .f32⟩
  | .hbm, ⟨87, _⟩ => ⟨S32768x2, .f32⟩
  | .hbm, ⟨88, _⟩ => ⟨S32768x1, .i32⟩
  | .hbm, ⟨89, _⟩ => ⟨S_, .i32⟩
  | .hbm, ⟨90, _⟩ => ⟨S32768x1, .i32⟩
  | .hbm, ⟨91, _⟩ => ⟨S32768x1, .i32⟩
  | .hbm, ⟨92, _⟩ => ⟨S32768x2, .i32⟩
  | .hbm, ⟨93, _⟩ => ⟨S32768x2, .i32⟩
  | .hbm, ⟨94, _⟩ => ⟨S32768x2x1, .i32⟩
  | .hbm, ⟨95, _⟩ => ⟨S1x1x32, .i32⟩
  | .hbm, ⟨96, _⟩ => ⟨S32768x2x32, .i32⟩
  | .hbm, ⟨97, _⟩ => ⟨S32768x2x32, .i32⟩
  | .hbm, ⟨98, _⟩ => ⟨S32768x2x32, .i1⟩
  | .hbm, ⟨99, _⟩ => ⟨S32768x2x32, .f32⟩
  | .hbm, ⟨100, _⟩ => ⟨S32768x2x1, .f32⟩
  | .hbm, ⟨101, _⟩ => ⟨S32768x2x32, .f32⟩
  | .hbm, ⟨102, _⟩ => ⟨S32768x2x32, .f32⟩
  | .hbm, ⟨103, _⟩ => ⟨S_, .f32⟩
  | .hbm, ⟨104, _⟩ => ⟨S32768x32, .f32⟩
  | .hbm, ⟨105, _⟩ => ⟨S32x256x32768, .f32⟩
  | .hbm, ⟨106, _⟩ => ⟨S32x32768x256, .f32⟩
  | .hbm, ⟨107, _⟩ => ⟨S32x256x32768, .f32⟩
  | .hbm, ⟨108, _⟩ => ⟨S32x32768x256, .f32⟩
  | .hbm, ⟨109, _⟩ => ⟨S32x32768x256, .f32⟩
  | .hbm, ⟨110, _⟩ => ⟨S32x32768x256, .f32⟩
  | .hbm, ⟨111, _⟩ => ⟨S_, .f32⟩
  | .hbm, ⟨112, _⟩ => ⟨S32x32768x256, .f32⟩
  | .hbm, ⟨113, _⟩ => ⟨S32x32768x256, .f32⟩
  | .hbm, ⟨114, _⟩ => ⟨S_, .f32⟩
  | .hbm, ⟨115, _⟩ => ⟨S32x32768x256, .f32⟩
  | .hbm, ⟨116, _⟩ => ⟨S32x32768x256, .f32⟩
  | .hbm, ⟨117, _⟩ => ⟨S32x32768x256, .f32⟩
  | .hbm, ⟨118, _⟩ => ⟨S32x32768x256, .f32⟩
  | .hbm, ⟨119, _⟩ => ⟨S32x32768x1024, .f32⟩
  | .hbm, ⟨120, _⟩ => ⟨S32x32768, .f32⟩
  | .hbm, ⟨121, _⟩ => ⟨S32x32768x1, .f32⟩
  | .hbm, ⟨122, _⟩ => ⟨S32x32768x1024, .f32⟩
  | .hbm, ⟨123, _⟩ => ⟨S32x32768x1024, .f32⟩
  | .hbm, ⟨124, _⟩ => ⟨S_, .f32⟩
  | .hbm, ⟨125, _⟩ => ⟨S32768x1024, .f32⟩
  | .hbm, ⟨126, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_values_12 : Ref sig .tc := ⟨.hbm, 78, rfl⟩
abbrev main_indices_13 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩

abbrev nD : Nat := 1
abbrev τ : Topo := Topo.v7x

variable {F : FTy → Type} [FloatOps F]
-- ==== Merge.lean ====
abbrev S32768x512 : Shape := ⟨2, ![32768, 512]⟩
abbrev S32768x8192 : Shape := ⟨2, ![32768, 8192]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩

abbrev nBuf : Space → Nat
  | .hbm => 28
  | .vmem => 25
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x8192, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S3x512x1024, .bf16⟩
  | .hbm, ⟨23, _⟩ => ⟨S1024x1024, .bf16⟩
  | .hbm, ⟨24, _⟩ => ⟨S1x1024, .f32⟩
  | .hbm, ⟨25, _⟩ => ⟨S32768x1024, .f32⟩
  | .hbm, ⟨26, _⟩ => ⟨S32768x1024, .bf16⟩
  | .hbm, ⟨27, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x128, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S32768x512 : Shape := ⟨2, ![32768, 512]⟩
abbrev S32768x8192 : Shape := ⟨2, ![32768, 8192]⟩
abbrev S32768x1024 : Shape := ⟨2, ![32768, 1024]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S1x512x1024 : Shape := ⟨3, ![1, 512, 1024]⟩
abbrev S512x1024 : Shape := ⟨2, ![512, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x92 : Shape := ⟨2, ![32768, 92]⟩
abbrev S32768x128 : Shape := ⟨2, ![32768, 128]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x8192, .bf16⟩
  | .hbm, ⟨4, _⟩ => ⟨S32768x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S32768x3072, .bf16⟩
  | .hbm, ⟨13, _⟩ => ⟨S32768x3072, .f32⟩
  | .hbm, ⟨14, _⟩ => ⟨S32768x3x1024, .f32⟩
  | .hbm, ⟨15, _⟩ => ⟨S32768x1x1024, .f32⟩
  | .hbm, ⟨16, _⟩ => ⟨S32768x1024, .f32⟩
  | .hbm, ⟨17, _⟩ => ⟨S32768x512, .f32⟩
  | .hbm, ⟨18, _⟩ => ⟨S1x512x1024, .f32⟩
  | .hbm, ⟨19, _⟩ => ⟨S512x1024, .f32⟩
  | .hbm, ⟨20, _⟩ => ⟨S32768x1024, .f32⟩
  | .hbm, ⟨21, _⟩ => ⟨S32768x1024, .f32⟩
  | .hbm, ⟨22, _⟩ => ⟨S32768x1x1024, .f32⟩
  | .hbm, ⟨23, _⟩ => ⟨S32768x1024, .f32⟩
  | .hbm, ⟨24, _⟩ => ⟨S32768x512, .f32⟩
  | .hbm, ⟨25, _⟩ => ⟨S1x512x1024, .f32⟩
  | .hbm, ⟨26, _⟩ => ⟨S512x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S32768x512, .f32⟩
  | .hbm, ⟨33, _⟩ => ⟨S1x512x1024, .f32⟩
  | .hbm, ⟨34, _⟩ => ⟨S512x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x4, .f32⟩
  | .hbm, ⟨57, _⟩ => ⟨S1x4, .f32⟩
  | .hbm, ⟨58, _⟩ => ⟨S32768x4, .f32⟩
  | .hbm, ⟨59, _⟩ => ⟨S32768x4, .f32⟩
  | .hbm, ⟨60, _⟩ => ⟨S32768x32, .f32⟩
  | .hbm, ⟨61, _⟩ => ⟨S1x32, .f32⟩
  | .hbm, ⟨62, _⟩ => ⟨S32768x32, .f32⟩
  | .hbm, ⟨63, _⟩ => ⟨S32768x32, .f32⟩
  | .hbm, ⟨64, _⟩ => ⟨S_, .f32⟩
  | .hbm, ⟨65, _⟩ => ⟨S32768x92, .f32⟩
  | .hbm, ⟨66, _⟩ => ⟨S32768x1024, .bf16⟩
  | .hbm, ⟨67, _⟩ => ⟨S32768x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x8200 : Shape := ⟨2, ![1024, 8200]⟩
abbrev S2x64 : Shape := ⟨2, ![2, 64]⟩
abbrev S1024x2048 : Shape := ⟨2, ![1024, 2048]⟩
abbrev S1024x6144 : Shape := ⟨2, ![1024, 6144]⟩
abbrev S1024x8192 : Shape := ⟨2, ![1024, 8192]⟩
abbrev S1024x8 : Shape := ⟨2, ![1024, 8]⟩
abbrev S_ : Shape := ⟨0, ![]⟩
abbrev S1024x128 : Shape := ⟨2, ![1024, 128]⟩
abbrev S16x512 : Shape := ⟨2, ![16, 512]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1 : Shape := ⟨1, ![1]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S16x1x512 : Shape := ⟨3, ![16, 1, 512]⟩
abbrev S32768x8192 : Shape := ⟨2, ![32768, 8192]⟩
abbrev S32768x128 : Shape := ⟨2, ![32768, 128]⟩
abbrev S1024x1024 : Shape := ⟨2, ![1024, 1024]⟩
abbrev S1024x512 : Shape := ⟨2, ![1024, 512]⟩
abbrev S1x1x512 : Shape := ⟨3, ![1, 1, 512]⟩
abbrev S1024x1 : Shape := ⟨2, ![1024, 1]⟩

abbrev nBuf : Space → Nat
  | .hbm => 83
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8200, .f32⟩
  | .hbm, ⟨3, _⟩ => ⟨S2x64, .f32⟩
  | .hbm, ⟨4, _⟩ => ⟨S2x64, .f32⟩
  | .hbm, ⟨5, _⟩ => ⟨S1024x2048, .f32⟩
  | .hbm, ⟨6, _⟩ => ⟨S1024x6144, .f32⟩
  | .hbm, ⟨7, _⟩ => ⟨S1024x8192, .f32⟩
  | .hbm, ⟨8, _⟩ => ⟨S1024x8192, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S16x512, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .i32⟩
  | .hbm, ⟨25, _⟩ => ⟨S1, .i32⟩
  | .hbm, ⟨26, _⟩ => ⟨S16x512, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S_, .i32⟩
  | .hbm, ⟨33, _⟩ => ⟨S1, .i32⟩
  | .hbm, ⟨34, _⟩ => ⟨S16x512, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .i32⟩
  | .hbm, ⟨44, _⟩ => ⟨S1, .i32⟩
  | .hbm, ⟨45, _⟩ => ⟨S16x512, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S_, .i32⟩
  | .hbm, ⟨52, _⟩ => ⟨S1, .i32⟩
  | .hbm, ⟨53, _⟩ => ⟨S16x512, .f32⟩
  | .hbm, ⟨54, _⟩ => ⟨S512, .i32⟩
  | .hbm, ⟨55, _⟩ => ⟨S_, .i32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S512, .i32⟩
  | .hbm, ⟨64, _⟩ => ⟨S512, .i32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S512, .i1⟩
  | .hbm, ⟨69, _⟩ => ⟨S_, .i32⟩
  | .hbm, ⟨70, _⟩ => ⟨S512, .i32⟩
  | .hbm, ⟨71, _⟩ => ⟨S512, .i32⟩
  | .hbm, ⟨72, _⟩ => ⟨S512, .i32⟩
  | .hbm, ⟨73, _⟩ => ⟨S512x1, .i32⟩
  | .hbm, ⟨74, _⟩ => ⟨S1x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S1x1024, .f32⟩
  | .hbm, ⟨80, _⟩ => ⟨S16x1x512, .f32⟩
  | .hbm, ⟨81, _⟩ => ⟨S32768x8192, .bf16⟩
  | .hbm, ⟨82, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1x1x512, .f32⟩
  | .local _ .vmem, ⟨7, _⟩ => ⟨S1x1x512, .f32⟩
  | .local _ .vmem, ⟨8, _⟩ => ⟨S512x512, .bf16⟩
  | .local _ .vmem, ⟨9, _⟩ => ⟨S1024x512, .bf16⟩
  | .local _ .vmem, ⟨10, _⟩ => ⟨S1024x512, .bf16⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c4_i32 : BitVec 32 := 4#32
  let v7 : BitVec 1 := Scalar.cmpi .eq arg1 c4_i32
  let c5_i32 : BitVec 32 := 5#32
  let v8 : BitVec 1 := Scalar.cmpi .eq arg1 c5_i32
  let v9 : BitVec 1 := Scalar.ori v7 v8
  let c7_i32 : BitVec 32 := 7#32
  let v10 : BitVec 1 := Scalar.cmpi .eq arg1 c7_i32
  let v11 : BitVec 1 := Scalar.ori v9 v10
  let c8_i32 : BitVec 32 := 8#32
  let v12 : BitVec 1 := Scalar.cmpi .eq arg1 c8_i32
  let v13 : BitVec 1 := Scalar.ori v11 v12
  let v17 : BitVec 32 := Scalar.extui v13
  let c0_i32_4 : BitVec 32 := 0#32
  let v18 : BitVec 1 := Scalar.cmpi .ne v17 c0_i32_4
  v18

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let c10_i32 : BitVec 32 := 10#32
  let v15 : BitVec 1 := Scalar.cmpi .sge arg1 c10_i32
  let v16 : BitVec 1 := Scalar.ori v14 v15
  let v19 : BitVec 32 := Scalar.extui v16
  let c0_i32_5 : BitVec 32 := 0#32
  let v20 : BitVec 1 := Scalar.cmpi .ne v19 c0_i32_5
  v20

def k0_cond4 (i : grid0.Coords) : BitVec 1 :=
  let arg1 : BitVec 32 := BitVec.ofNat 32 (i 1).val
  let c4_i32 : BitVec 32 := 4#32
  let v7 : BitVec 1 := Scalar.cmpi .eq arg1 c4_i32
  let c5_i32 : BitVec 32 := 5#32
  let v8 : BitVec 1 := Scalar.cmpi .eq arg1 c5_i32
  let v9 : BitVec 1 := Scalar.ori v7 v8
  let c7_i32 : BitVec 32 := 7#32
  let v10 : BitVec 1 := Scalar.cmpi .eq arg1 c7_i32
  let v11 : BitVec 1 := Scalar.ori v9 v10
  let c8_i32 : BitVec 32 := 8#32
  let v12 : BitVec 1 := Scalar.cmpi .eq arg1 c8_i32
  let v13 : BitVec 1 := Scalar.ori v11 v12
  let c3_i32 : BitVec 32 := 3#32
  let v14 : BitVec 1 := Scalar.cmpi .eq arg1 c3_i32
  let c10_i32 : BitVec 32 := 10#32
  let v15 : BitVec 1 := Scalar.cmpi .sge arg1 c10_i32
  let v16 : BitVec 1 := Scalar.ori v14 v15
  let v21 : BitVec 1 := Scalar.ori v13 v16
  let v_true : BitVec 1 := 1#1
  let v22 : BitVec 1 := Scalar.xori v21 v_true
  let v23 : BitVec 32 := Scalar.extui v22
  let c0_i32_6 : BitVec 32 := 0#32
  let v24 : BitVec 1 := Scalar.cmpi .ne v23 c0_i32_6
  v24

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InprojRefIdeal.lean ====
abbrev S32768x1024 : Shape := ⟨2, ![32768, 1024]⟩
abbrev S1024 : Shape := ⟨1, ![1024]⟩
abbrev S1024x8200 : Shape := ⟨2, ![1024, 8200]⟩
abbrev S2x64 : Shape := ⟨2, ![2, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8200 : Shape := ⟨2, ![32768, 8200]⟩
abbrev S32768x512 : Shape := ⟨2, ![32768, 512]⟩
abbrev S32768x4 : Shape := ⟨2, ![32768, 4]⟩
abbrev S32768x3072 : Shape := ⟨2, ![32768, 3072]⟩
abbrev S1x64 : Shape := ⟨2, ![1, 64]⟩
abbrev S64 : Shape := ⟨1, ![64]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S32768x8192 : Shape := ⟨2, ![32768, 8192]⟩
abbrev S32768x120 : Shape := ⟨2, ![32768, 120]⟩
abbrev S32768x128 : Shape := ⟨2, ![32768, 128]⟩

abbrev nBuf : Space → Nat
  | .hbm => 142
  | .vmem => 0
  | .smem => 0
  | _ => 0

abbrev hbmTy0_0 (i : Nat) : BufTy := match i % 128 with
  | 0 => ⟨S32768x1024, .f32⟩
  | 1 => ⟨S1024, .f32⟩
  | 2 => ⟨S1024x8200, .f32⟩
  | 3 => ⟨S2x64, .f32⟩
  | 4 => ⟨S2x64, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x8200, .f32⟩
  | 22 => ⟨S32768x512, .f32⟩
  | 23 => ⟨S32768x512, .f32⟩
  | 24 => ⟨S32768x512, .f32⟩
  | 25 => ⟨S32768x512, .f32⟩
  | 26 => ⟨S32768x4, .f32⟩
  | 27 => ⟨S32768x4, .f32⟩
  | 28 => ⟨S32768x512, .f32⟩
  | 29 => ⟨S32768x512, .f32⟩
  | 30 => ⟨S32768x512, .f32⟩
  | 31 => ⟨S32768x512, .f32⟩
  | 32 => ⟨S32768x512, .f32⟩
  | 33 => ⟨S32768x512, .f32⟩
  | 34 => ⟨S32768x3072, .f32⟩
  | 35 => ⟨S1x64, .f32⟩
  | 36 => ⟨S64, .f32⟩
  | 37 => ⟨S32768x8x64, .f32⟩
  | 38 => ⟨S32768x8x64, .f32⟩
  | 39 => ⟨S_, .f32⟩
  | 40 => ⟨S32768x8, .f32⟩
  | 41 => ⟨S32768x8x1, .f32⟩
  | 42 => ⟨S_, .f32⟩
  | 43 => ⟨S32768x8x1, .f32⟩
  | 44 => ⟨S32768x8x1, .f32⟩
  | 45 => ⟨S_, .f32⟩
  | 46 => ⟨S32768x8x1, .f32⟩
  | 47 => ⟨S32768x8x1, .f32⟩
  | 48 => ⟨S32768x8x1, .f32⟩
  | 49 => ⟨S32768x8x64, .f32⟩
  | 50 => ⟨S32768x8x64, .f32⟩
  | 51 => ⟨S1x1x64, .f32⟩
  | 52 => ⟨S32768x8x64, .f32⟩
  | 53 => ⟨S32768x8x64, .f32⟩
  | 54 => ⟨S32768x512, .f32⟩
  | 55 => ⟨S_, .f32⟩
  | 56 => ⟨S32768x512, .f32⟩
  | 57 => ⟨S32768x512, .f32⟩
  | 58 => ⟨S1x64, .f32⟩
  | 59 => ⟨S64, .f32⟩
  | 60 => ⟨S32768x8x64, .f32⟩
  | 61 => ⟨S32768x8x64, .f32⟩
  | 62 => ⟨S_, .f32⟩
  | 63 => ⟨S32768x8, .f32⟩
  | 64 => ⟨S32768x8x1, .f32⟩
  | 65 => ⟨S_, .f32⟩
  | 66 => ⟨S32768x8x1, .f32⟩
  | 67 => ⟨S32768x8x1, .f32⟩
  | 68 => ⟨S_, .f32⟩
  | 69 => ⟨S32768x8x1, .f32⟩
  | 70 => ⟨S32768x8x1, .f32⟩
  | 71 => ⟨S32768x8x1, .f32⟩
  | 72 => ⟨S32768x8x64, .f32⟩
  | 73 => ⟨S32768x8x64, .f32⟩
  | 74 => ⟨S1x1x64, .f32⟩
  | 75 => ⟨S32768x8x64, .f32⟩
  | 76 => ⟨S32768x8x64, .f32⟩
  | 77 => ⟨S32768x512, .f32⟩
  | 78 => ⟨S1x64, .f32⟩
  | 79 => ⟨S64, .f32⟩
  | 80 => ⟨S32768x8x64, .f32⟩
  | 81 => ⟨S32768x8x64, .f32⟩
  | 82 => ⟨S_, .f32⟩
  | 83 => ⟨S32768x8, .f32⟩
  | 84 => ⟨S32768x8x1, .f32⟩
  | 85 => ⟨S_, .f32⟩
  | 86 => ⟨S32768x8x1, .f32⟩
  | 87 => ⟨S32768x8x1, .f32⟩
  | 88 => ⟨S_, .f32⟩
  | 89 => ⟨S32768x8x1, .f32⟩
  | 90 => ⟨S32768x8x1, .f32⟩
  | 91 => ⟨S32768x8x1, .f32⟩
  | 92 => ⟨S32768x8x64, .f32⟩
  | 93 => ⟨S32768x8x64, .f32⟩
  | 94 => ⟨S1x1x64, .f32⟩
  | 95 => ⟨S32768x8x64, .f32⟩
  | 96 => ⟨S32768x8x64, .f32⟩
  | 97 => ⟨S32768x512, .f32⟩
  | 98 => ⟨S_, .f32⟩
  | 99 => ⟨S32768x512, .f32⟩
  | 100 => ⟨S32768x512, .f32⟩
  | 101 => ⟨S1x64, .f32⟩
  | 102 => ⟨S64, .f32⟩
  | 103 => ⟨S32768x8x64, .f32⟩
  | 104 => ⟨S32768x8x64, .f32⟩
  | 105 => ⟨S_, .f32⟩
  | 106 => ⟨S32768x8, .f32⟩
  | 107 => ⟨S32768x8x1, .f32⟩
  | 108 => ⟨S_, .f32⟩
  | 109 => ⟨S32768x8x1, .f32⟩
  | 110 => ⟨S32768x8x1, .f32⟩
  | 111 => ⟨S_, .f32⟩
  | 112 => ⟨S32768x8x1, .f32⟩
  | 113 => ⟨S32768x8x1, .f32⟩
  | 114 => ⟨S32768x8x1, .f32⟩
  | 115 => ⟨S32768x8x64, .f32⟩
  | 116 => ⟨S32768x8x64, .f32⟩
  | 117 => ⟨S1x1x64, .f32⟩
  | 118 => ⟨S32768x8x64, .f32⟩
  | 119 => ⟨S32768x8x64, .f32⟩
  | 120 => ⟨S32768x512, .f32⟩
  | 121 => ⟨S32768x512, .f32⟩
  | 122 => ⟨S32768x512, .f32⟩
  | 123 => ⟨S_, .f32⟩
  | 124 => ⟨S32768x512, .f32⟩
  | 125 => ⟨S32768x512, .f32⟩
  | 126 => ⟨S_, .f32⟩
  | 127 => ⟨S32768x512, .f32⟩
  | _ => ⟨S32768x1024, .f32⟩

abbrev hbmTy0_1 (i : Nat) : BufTy := match i % 128 with
  | 0 => ⟨S32768x512, .f32⟩
  | 1 => ⟨S32768x3072, .f32⟩
  | 2 => ⟨S32768x3072, .f32⟩
  | 3 => ⟨S_, .f32⟩
  | 4 => ⟨S32768x3072, .f32⟩
  | 5 => ⟨S32768x3072, .f32⟩
  | 6 => ⟨S_, .f32⟩
  | 7 => ⟨S32768x3072, .f32⟩
  | 8 => ⟨S32768x3072, .f32⟩
  | 9 => ⟨S32768x8192, .f32⟩
  | 10 => ⟨S_, .f32⟩
  | 11 => ⟨S32768x120, .f32⟩
  | 12 => ⟨S32768x128, .f32⟩
  | 13 => ⟨S32768x8192, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_cst_11 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_cst_14 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_16 : Ref sig .tc := ⟨.hbm, 123, rfl⟩
abbrev main_v101 : Ref sig .tc := ⟨.hbm, 124, rfl⟩
abbrev main_v102 : Ref sig .tc := ⟨.hbm, 125, rfl⟩
abbrev main_cst_17 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_18 : Ref sig .tc := ⟨.hbm, 131, rfl⟩
abbrev main_v107 : Ref sig .tc := ⟨.hbm, 132, rfl⟩
abbrev main_v108 : Ref sig .tc := ⟨.hbm, 133, rfl⟩
abbrev main_cst_19 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_20 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩

abbrev nD : Nat := 1
abbrev τ : Topo := Topo.v7x

variable {F : FTy → Type} [FloatOps F]
-- ==== Diff.lean ====
abbrev S32768x8192 : Shape := ⟨2, ![32768, 8192]⟩
abbrev S32x4 : Shape := ⟨2, ![32, 4]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S128x1 : Shape := ⟨2, ![128, 1]⟩
abbrev S32768x512 : Shape := ⟨2, ![32768, 512]⟩
abbrev S4x16x512x4x128 : Shape := ⟨5, ![4, 16, 512, 4, 128]⟩
abbrev S4x4x16x128x512 : Shape := ⟨5, ![4, 4, 16, 128, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x4 : Shape := ⟨3, ![512, 512, 4]⟩
abbrev S4x512x512 : Shape := ⟨3, ![4, 512, 512]⟩
abbrev S1x512x512 : Shape := ⟨3, ![1, 512, 512]⟩
abbrev S4x1x512x512 : Shape := ⟨4, ![4, 1, 512, 512]⟩
abbrev S4x4x512x512 : Shape := ⟨4, ![4, 4, 512, 512]⟩
abbrev S1 : Shape := ⟨1, ![1]⟩
abbrev S4x512x8192 : Shape := ⟨3, ![4, 512, 8192]⟩
abbrev S512x128 : Shape := ⟨2, ![512, 128]⟩
abbrev S8192x128 : Shape := ⟨2, ![8192, 128]⟩
abbrev S1x1x16x128x512 : Shape := ⟨5, ![1, 1, 16, 128, 512]⟩
abbrev S1x4x512x512 : Shape := ⟨4, ![1, 4, 512, 512]⟩
abbrev S1x128x512 : Shape := ⟨3, ![1, 128, 512]⟩
abbrev S1024x128 : Shape := ⟨2, ![1024, 128]⟩
abbrev S2x128x512 : Shape := ⟨3, ![2, 128, 512]⟩
abbrev S2x1x512 : Shape := ⟨3, ![2, 1, 512]⟩
abbrev S512x1024 : Shape := ⟨2, ![512, 1024]⟩
abbrev S1x1x512x512 : Shape := ⟨4, ![1, 1, 512, 512]⟩
abbrev S1x1x1x128x512 : Shape := ⟨5, ![1, 1, 1, 128, 512]⟩
abbrev S128x512 : Shape := ⟨2, ![128, 512]⟩
abbrev S1x1x512 : Shape := ⟨3, ![1, 1, 512]⟩

abbrev nBuf : Space → Nat
  | .hbm => 286
  | .vmem => 15
  | .smem => 1
  | _ => 0

abbrev hbmTy0_0 (i : Nat) : BufTy := match i % 128 with
  | 0 => ⟨S32768x8192, .bf16⟩
  | 1 => ⟨S32x4, .f32⟩
  | 2 => ⟨S4x64, .f32⟩
  | 3 => ⟨S128, .f32⟩
  | 4 => ⟨S1x64, .f32⟩
  | 5 => ⟨S64, .f32⟩
  | 6 => ⟨S1x64, .f32⟩
  | 7 => ⟨S64, .f32⟩
  | 8 => ⟨S64, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128x1, .f32⟩
  | 27 => ⟨S32768x512, .bf16⟩
  | 28 => ⟨S4x16x512x4x128, .bf16⟩
  | 29 => ⟨S4x4x16x128x512, .bf16⟩
  | 30 => ⟨S512, .i32⟩
  | 31 => ⟨S512x1, .i32⟩
  | 32 => ⟨S512, .i32⟩
  | 33 => ⟨S1x512, .i32⟩
  | 34 => ⟨S_, .i32⟩
  | 35 => ⟨S512x1, .i32⟩
  | 36 => ⟨S512x1, .i32⟩
  | 37 => ⟨S512x512, .i32⟩
  | 38 => ⟨S512x512, .i32⟩
  | 39 => ⟨S512x512, .i32⟩
  | 40 => ⟨S_, .i32⟩
  | 41 => ⟨S512x512, .i32⟩
  | 42 => ⟨S512x512, .i1⟩
  | 43 => ⟨S512x512, .i32⟩
  | 44 => ⟨S_, .i32⟩
  | 45 => ⟨S512x512, .i32⟩
  | 46 => ⟨S512x512, .i32⟩
  | 47 => ⟨S512x512, .i32⟩
  | 48 => ⟨S_, .i32⟩
  | 49 => ⟨S512x512, .i32⟩
  | 50 => ⟨S512x512, .i32⟩
  | 51 => ⟨S512x512, .f32⟩
  | 52 => ⟨S_, .f32⟩
  | 53 => ⟨S512x512, .f32⟩
  | 54 => ⟨S512x512, .f32⟩
  | 55 => ⟨S512x512, .f32⟩
  | 56 => ⟨S_, .f32⟩
  | 57 => ⟨S512x512, .f32⟩
  | 58 => ⟨S512x512, .f32⟩
  | 59 => ⟨S_, .f32⟩
  | 60 => ⟨S512x512, .f32⟩
  | 61 => ⟨S512x512, .f32⟩
  | 62 => ⟨S512x512, .i32⟩
  | 63 => ⟨S_, .i32⟩
  | 64 => ⟨S512x512, .i32⟩
  | 65 => ⟨S512x512, .i32⟩
  | 66 => ⟨S_, .i32⟩
  | 67 => ⟨S512x512, .i32⟩
  | 68 => ⟨S512x512, .i32⟩
  | 69 => ⟨S_, .i32⟩
  | 70 => ⟨S512x512, .i32⟩
  | 71 => ⟨S512x512, .i1⟩
  | 72 => ⟨S512x512, .i32⟩
  | 73 => ⟨S512x512, .i32⟩
  | 74 => ⟨S_, .i32⟩
  | 75 => ⟨S512x512, .i32⟩
  | 76 => ⟨S512x512, .i1⟩
  | 77 => ⟨S_, .i32⟩
  | 78 => ⟨S512x512, .i32⟩
  | 79 => ⟨S512x512, .i32⟩
  | 80 => ⟨S512x512, .i32⟩
  | 81 => ⟨S512x512x1, .i32⟩
  | 82 => ⟨S512x512x4, .f32⟩
  | 83 => ⟨S4x512x512, .f32⟩
  | 84 => ⟨S_, .i32⟩
  | 85 => ⟨S_, .i32⟩
  | 86 => ⟨S512x1, .i32⟩
  | 87 => ⟨S512x1, .i32⟩
  | 88 => ⟨S512x1, .i32⟩
  | 89 => ⟨S_, .i32⟩
  | 90 => ⟨S512x1, .i32⟩
  | 91 => ⟨S512x1, .i1⟩
  | 92 => ⟨S512x1, .i32⟩
  | 93 => ⟨S512x1, .i32⟩
  | 94 => ⟨S_, .i32⟩
  | 95 => ⟨S512x1, .i32⟩
  | 96 => ⟨S512x1, .i1⟩
  | 97 => ⟨S512x1, .i1⟩
  | 98 => ⟨S_, .i32⟩
  | 99 => ⟨S512x1, .i32⟩
  | 100 => ⟨S512x1, .i32⟩
  | 101 => ⟨S512x1, .i32⟩
  | 102 => ⟨S_, .i32⟩
  | 103 => ⟨S_, .i32⟩
  | 104 => ⟨S1x512, .i32⟩
  | 105 => ⟨S1x512, .i32⟩
  | 106 => ⟨S1x512, .i32⟩
  | 107 => ⟨S_, .i32⟩
  | 108 => ⟨S1x512, .i32⟩
  | 109 => ⟨S1x512, .i1⟩
  | 110 => ⟨S1x512, .i32⟩
  | 111 => ⟨S1x512, .i32⟩
  | 112 => ⟨S_, .i32⟩
  | 113 => ⟨S1x512, .i32⟩
  | 114 => ⟨S1x512, .i1⟩
  | 115 => ⟨S1x512, .i1⟩
  | 116 => ⟨S_, .i32⟩
  | 117 => ⟨S1x512, .i32⟩
  | 118 => ⟨S1x512, .i32⟩
  | 119 => ⟨S1x512, .i32⟩
  | 120 => ⟨S512x512, .i32⟩
  | 121 => ⟨S512x512, .i32⟩
  | 122 => ⟨S512x512, .i1⟩
  | 123 => ⟨S1x512x512, .i1⟩
  | 124 => ⟨S_, .f32⟩
  | 125 => ⟨S_, .f32⟩
  | 126 => ⟨S4x512x512, .i1⟩
  | 127 => ⟨S4x512x512, .f32⟩
  | _ => ⟨S32768x8192, .bf16⟩

abbrev hbmTy0_1 (i : Nat) : BufTy := match i % 128 with
  | 0 => ⟨S4x512x512, .f32⟩
  | 1 => ⟨S_, .i32⟩
  | 2 => ⟨S512x1, .i32⟩
  | 3 => ⟨S512x1, .i32⟩
  | 4 => ⟨S512x512, .i32⟩
  | 5 => ⟨S512x512, .i32⟩
  | 6 => ⟨S512x512, .i32⟩
  | 7 => ⟨S_, .i32⟩
  | 8 => ⟨S512x512, .i32⟩
  | 9 => ⟨S512x512, .i1⟩
  | 10 => ⟨S512x512, .i32⟩
  | 11 => ⟨S_, .i32⟩
  | 12 => ⟨S512x512, .i32⟩
  | 13 => ⟨S512x512, .i32⟩
  | 14 => ⟨S512x512, .i32⟩
  | 15 => ⟨S_, .i32⟩
  | 16 => ⟨S512x512, .i32⟩
  | 17 => ⟨S512x512, .i32⟩
  | 18 => ⟨S512x512, .f32⟩
  | 19 => ⟨S_, .f32⟩
  | 20 => ⟨S512x512, .f32⟩
  | 21 => ⟨S512x512, .f32⟩
  | 22 => ⟨S512x512, .f32⟩
  | 23 => ⟨S_, .f32⟩
  | 24 => ⟨S512x512, .f32⟩
  | 25 => ⟨S512x512, .f32⟩
  | 26 => ⟨S_, .f32⟩
  | 27 => ⟨S512x512, .f32⟩
  | 28 => ⟨S512x512, .f32⟩
  | 29 => ⟨S512x512, .i32⟩
  | 30 => ⟨S_, .i32⟩
  | 31 => ⟨S512x512, .i32⟩
  | 32 => ⟨S512x512, .i32⟩
  | 33 => ⟨S_, .i32⟩
  | 34 => ⟨S512x512, .i32⟩
  | 35 => ⟨S512x512, .i32⟩
  | 36 => ⟨S_, .i32⟩
  | 37 => ⟨S512x512, .i32⟩
  | 38 => ⟨S512x512, .i1⟩
  | 39 => ⟨S512x512, .i32⟩
  | 40 => ⟨S512x512, .i32⟩
  | 41 => ⟨S_, .i32⟩
  | 42 => ⟨S512x512, .i32⟩
  | 43 => ⟨S512x512, .i1⟩
  | 44 => ⟨S_, .i32⟩
  | 45 => ⟨S512x512, .i32⟩
  | 46 => ⟨S512x512, .i32⟩
  | 47 => ⟨S512x512, .i32⟩
  | 48 => ⟨S512x512x1, .i32⟩
  | 49 => ⟨S512x512x4, .f32⟩
  | 50 => ⟨S4x512x512, .f32⟩
  | 51 => ⟨S_, .i32⟩
  | 52 => ⟨S512x1, .i32⟩
  | 53 => ⟨S512x1, .i32⟩
  | 54 => ⟨S512x512, .i32⟩
  | 55 => ⟨S512x512, .i32⟩
  | 56 => ⟨S512x512, .i32⟩
  | 57 => ⟨S_, .i32⟩
  | 58 => ⟨S512x512, .i32⟩
  | 59 => ⟨S512x512, .i1⟩
  | 60 => ⟨S512x512, .i32⟩
  | 61 => ⟨S_, .i32⟩
  | 62 => ⟨S512x512, .i32⟩
  | 63 => ⟨S512x512, .i32⟩
  | 64 => ⟨S512x512, .i32⟩
  | 65 => ⟨S_, .i32⟩
  | 66 => ⟨S512x512, .i32⟩
  | 67 => ⟨S512x512, .i32⟩
  | 68 => ⟨S512x512, .f32⟩
  | 69 => ⟨S_, .f32⟩
  | 70 => ⟨S512x512, .f32⟩
  | 71 => ⟨S512x512, .f32⟩
  | 72 => ⟨S512x512, .f32⟩
  | 73 => ⟨S_, .f32⟩
  | 74 => ⟨S512x512, .f32⟩
  | 75 => ⟨S512x512, .f32⟩
  | 76 => ⟨S_, .f32⟩
  | 77 => ⟨S512x512, .f32⟩
  | 78 => ⟨S512x512, .f32⟩
  | 79 => ⟨S512x512, .i32⟩
  | 80 => ⟨S_, .i32⟩
  | 81 => ⟨S512x512, .i32⟩
  | 82 => ⟨S512x512, .i32⟩
  | 83 => ⟨S_, .i32⟩
  | 84 => ⟨S512x512, .i32⟩
  | 85 => ⟨S512x512, .i32⟩
  | 86 => ⟨S_, .i32⟩
  | 87 => ⟨S512x512, .i32⟩
  | 88 => ⟨S512x512, .i1⟩
  | 89 => ⟨S512x512, .i32⟩
  | 90 => ⟨S512x512, .i32⟩
  | 91 => ⟨S_, .i32⟩
  | 92 => ⟨S512x512, .i32⟩
  | 93 => ⟨S512x512, .i1⟩
  | 94 => ⟨S_, .i32⟩
  | 95 => ⟨S512x512, .i32⟩
  | 96 => ⟨S512x512, .i32⟩
  | 97 => ⟨S512x512, .i32⟩
  | 98 => ⟨S512x512x1, .i32⟩
  | 99 => ⟨S512x512x4, .f32⟩
  | 100 => ⟨S4x512x512, .f32⟩
  | 101 => ⟨S_, .i32⟩
  | 102 => ⟨S512x1, .i32⟩
  | 103 => ⟨S512x1, .i32⟩
  | 104 => ⟨S512x512, .i32⟩
  | 105 => ⟨S512x512, .i32⟩
  | 106 => ⟨S512x512, .i32⟩
  | 107 => ⟨S_, .i32⟩
  | 108 => ⟨S512x512, .i32⟩
  | 109 => ⟨S512x512, .i1⟩
  | 110 => ⟨S512x512, .i32⟩
  | 111 => ⟨S_, .i32⟩
  | 112 => ⟨S512x512, .i32⟩
  | 113 => ⟨S512x512, .i32⟩
  | 114 => ⟨S512x512, .i32⟩
  | 115 => ⟨S_, .i32⟩
  | 116 => ⟨S512x512, .i32⟩
  | 117 => ⟨S512x512, .i32⟩
  | 118 => ⟨S512x512, .f32⟩
  | 119 => ⟨S_, .f32⟩
  | 120 => ⟨S512x512, .f32⟩
  | 121 => ⟨S512x512, .f32⟩
  | 122 => ⟨S512x512, .f32⟩
  | 123 => ⟨S_, .f32⟩
  | 124 => ⟨S512x512, .f32⟩
  | 125 => ⟨S512x512, .f32⟩
  | 126 => ⟨S_, .f32⟩
  | 127 => ⟨S512x512, .f32⟩
  | _ => ⟨S32768x8192, .bf16⟩

abbrev hbmTy0_2 (i : Nat) : BufTy := match i % 128 with
  | 0 => ⟨S512x512, .f32⟩
  | 1 => ⟨S512x512, .i32⟩
  | 2 => ⟨S_, .i32⟩
  | 3 => ⟨S512x512, .i32⟩
  | 4 => ⟨S512x512, .i32⟩
  | 5 => ⟨S_, .i32⟩
  | 6 => ⟨S512x512, .i32⟩
  | 7 => ⟨S512x512, .i32⟩
  | 8 => ⟨S_, .i32⟩
  | 9 => ⟨S512x512, .i32⟩
  | 10 => ⟨S512x512, .i1⟩
  | 11 => ⟨S512x512, .i32⟩
  | 12 => ⟨S512x512, .i32⟩
  | 13 => ⟨S_, .i32⟩
  | 14 => ⟨S512x512, .i32⟩
  | 15 => ⟨S512x512, .i1⟩
  | 16 => ⟨S_, .i32⟩
  | 17 => ⟨S512x512, .i32⟩
  | 18 => ⟨S512x512, .i32⟩
  | 19 => ⟨S512x512, .i32⟩
  | 20 => ⟨S512x512x1, .i32⟩
  | 21 => ⟨S512x512x4, .f32⟩
  | 22 => ⟨S4x512x512, .f32⟩
  | 23 => ⟨S4x1x512x512, .f32⟩
  | 24 => ⟨S4x1x512x512, .f32⟩
  | 25 => ⟨S4x1x512x512, .f32⟩
  | 26 => ⟨S4x1x512x512, .f32⟩
  | 27 => ⟨S4x4x512x512, .f32⟩
  | 28 => ⟨S1, .f32⟩
  | 29 => ⟨S4x512x8192, .bf16⟩
  | _ => ⟨S32768x8192, .bf16⟩

abbrev hbmTy (i : Nat) : BufTy := match i / 128 with
  | 0 => hbmTy0_0 i
  | 1 => hbmTy0_1 i
  | 2 => hbmTy0_2 i
  | _ => ⟨S32768x8192, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S1x1x16x128x512, .bf16⟩
  | .local _ .vmem, ⟨5, _⟩ => ⟨S1x1x16x128x512, .bf16⟩
  | .local _ .vmem, ⟨6, _⟩ => ⟨S1x4x512x512, .f32⟩
  | .local _ .vmem, ⟨7, _⟩ => ⟨S1x4x512x512, .f32⟩
  | .local _ .vmem, ⟨8, _⟩ => ⟨S128x1, .f32⟩
  | .local _ .vmem, ⟨9, _⟩ => ⟨S1x128x512, .bf16⟩
  | .local _ .vmem, ⟨10, _⟩ => ⟨S1x128x512, .bf16⟩
  | .local _ .vmem, ⟨11, _⟩ => ⟨S1024x128, .bf16⟩
  | .local _ .vmem, ⟨12, _⟩ => ⟨S2x128x512, .f32⟩
  | .local _ .vmem, ⟨13, _⟩ => ⟨S2x1x512, .f32⟩
  | .local _ .vmem, ⟨14, _⟩ => ⟨S2x1x512, .f32⟩
  | .local _ .smem, ⟨0, _⟩ => ⟨S1, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_v56 : Ref sig .tc := ⟨.hbm, 75, rfl⟩
abbrev main_v57 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v64 : Ref sig .tc := ⟨.hbm, 101, rfl⟩
abbrev main_c_15 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_16 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v70 : Ref sig .tc := ⟨.hbm, 128, rfl⟩
abbrev main_c_17 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_c_18 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_c_19 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_c_20 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_21 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_22 : Ref sig .tc := ⟨.hbm, 151, rfl⟩
abbrev main_v88 : Ref sig .tc := ⟨.hbm, 152, rfl⟩
abbrev main_v89 : Ref sig .tc := ⟨.hbm, 153, rfl⟩
abbrev main_cst_23 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_24 : Ref sig .tc := ⟨.hbm, 158, rfl⟩
abbrev main_v93 : Ref sig .tc := ⟨.hbm, 159, rfl⟩
abbrev main_v94 : Ref sig .tc := ⟨.hbm, 160, rfl⟩
abbrev main_c_25 : Ref sig .tc := ⟨.hbm, 161, rfl⟩
abbrev main_v95 : Ref sig .tc := ⟨.hbm, 162, rfl⟩
abbrev main_v96 : Ref sig .tc := ⟨.hbm, 163, rfl⟩
abbrev main_c_26 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_c_27 : Ref sig .tc := ⟨.hbm, 169, rfl⟩
abbrev main_v101 : Ref sig .tc := ⟨.hbm, 170, rfl⟩
abbrev main_v102 : Ref sig .tc := ⟨.hbm, 171, rfl⟩
abbrev main_c_28 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c_29 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_c_30 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_c_31 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_c_32 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_33 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_cst_34 : Ref sig .tc := ⟨.hbm, 201, rfl⟩
abbrev main_v126 : Ref sig .tc := ⟨.hbm, 202, rfl⟩
abbrev main_v127 : Ref sig .tc := ⟨.hbm, 203, rfl⟩
abbrev main_cst_35 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_c_36 : Ref sig .tc := ⟨.hbm, 208, rfl⟩
abbrev main_v131 : Ref sig .tc := ⟨.hbm, 209, rfl⟩
abbrev main_v132 : Ref sig .tc := ⟨.hbm, 210, rfl⟩
abbrev main_c_37 : Ref sig .tc := ⟨.hbm, 211, rfl⟩
abbrev main_v133 : Ref sig .tc := ⟨.hbm, 212, rfl⟩
abbrev main_v134 : Ref sig .tc := ⟨.hbm, 213, rfl⟩
abbrev main_c_38 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_c_39 : Ref sig .tc := ⟨.hbm, 219, rfl⟩
abbrev main_v139 : Ref sig .tc := ⟨.hbm, 220, rfl⟩
abbrev main_v140 : Ref sig .tc := ⟨.hbm, 221, rfl⟩
abbrev main_c_40 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_c_41 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_c_42 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_43 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_c_44 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_cst_45 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_46 : Ref sig .tc := ⟨.hbm, 251, rfl⟩
abbrev main_v164 : Ref sig .tc := ⟨.hbm, 252, rfl⟩
abbrev main_v165 : Ref sig .tc := ⟨.hbm, 253, rfl⟩
abbrev main_cst_47 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_c_48 : Ref sig .tc := ⟨.hbm, 258, rfl⟩
abbrev main_v169 : Ref sig .tc := ⟨.hbm, 259, rfl⟩
abbrev main_v170 : Ref sig .tc := ⟨.hbm, 260, rfl⟩
abbrev main_c_49 : Ref sig .tc := ⟨.hbm, 261, rfl⟩
abbrev main_v171 : Ref sig .tc := ⟨.hbm, 262, rfl⟩
abbrev main_v172 : Ref sig .tc := ⟨.hbm, 263, rfl⟩
abbrev main_c_50 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_c_51 : Ref sig .tc := ⟨.hbm, 269, rfl⟩
abbrev main_v177 : Ref sig .tc := ⟨.hbm, 270, rfl⟩
abbrev main_v178 : Ref sig .tc := ⟨.hbm, 271, rfl⟩
abbrev main_c_52 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_17 : BitVec 32 := 0#32
  let arg2 : BitVec 32 := BitVec.ofNat 32 (i 2).val
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_19 : BitVec 32 := 1#32
  ⟨c0_i32_17, v32, c1_i32_19⟩
def k0_mult1 (i : grid0.Coords) (k0_t1 : Fin (k0_t1_loop i).trips) : BitVec 32 :=
  let c0_i32_17 : BitVec 32 := 0#32
  let c1_i32_19 : BitVec 32 := 1#32
  let arg14 : BitVec 32 := Scf.iv c0_i32_17 c1_i32_19 k0_t1
  let c512_i32 : BitVec 32 := 512#32
  let v67 : BitVec 32 := Scalar.muli arg14 c512_i32
  v67
def k0_off1 (i : grid0.Coords) (k0_t1 : Fin (k0_t1_loop i).trips) : Fin 2 → Nat :=
  let c0_i32_17 : BitVec 32 := 0#32
  let c1_i32_19 : BitVec 32 := 1#32
  let arg14 : BitVec 32 := Scf.iv c0_i32_17 c1_i32_19 k0_t1
  let c512_i32 : BitVec 32 := 512#32
  let v67 : BitVec 32 := Scalar.muli arg14 c512_i32
  let v68 : BitVec 32 := v67
  let v69 : Index := Scalar.indexCast v68
  let c0_41 : Index := 0#32
  ![v69.toNat, 0]
def k0_off2 (i : grid0.Coords) (k0_t1 : Fin (k0_t1_loop i).trips) : Fin 4 → Nat :=
  let c0_45 : Index := 0#32
  let arg2 : BitVec 32 := BitVec.ofNat 32 (i 2).val
  let c0_i32_17 : BitVec 32 := 0#32
  let c1_i32_19 : BitVec 32 := 1#32
  let arg14 : BitVec 32 := Scf.iv c0_i32_17 c1_i32_19 k0_t1
  let v73 : BitVec 32 := Scalar.subi arg2 arg14
  let c3_i32 : BitVec 32 := 3#32
  let v74 : BitVec 32 := Scalar.minsi v73 c3_i32
  let v75 : Index := Scalar.indexCast v74
  let c0_46 : Index := 0#32
  let c0_47 : Index := 0#32
  ![0, v75.toNat, 0, 0]
def k0_off3 (i : grid0.Coords) (k0_t1 : Fin (k0_t1_loop i).trips) : Fin 5 → Nat :=
  let c0_48 : Index := 0#32
  let c0_49 : Index := 0#32
  let c0_i32_17 : BitVec 32 := 0#32
  let c1_i32_19 : BitVec 32 := 1#32
  let arg14 : BitVec 32 := Scf.iv c0_i32_17 c1_i32_19 k0_t1
  let v78 : Index := Scalar.indexCast arg14
  let c0_50 : Index := 0#32
  let c0_51 : Index := 0#32
  ![0, 0, v78.toNat, 0, 0]
@[reducible] def k0_t2_loop (i : grid0.Coords) : Scf.Loop 32 :=
  let c0_i32_17 : BitVec 32 := 0#32
  let arg2 : BitVec 32 := BitVec.ofNat 32 (i 2).val
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let v29 : BitVec 32 := Scalar.addi c0_i32_17 v28
  let c1_i32_20 : BitVec 32 := 1#32
  ⟨v32, v29, c1_i32_20⟩
def k0_mult2 (i : grid0.Coords) (k0_t2 : Fin (k0_t2_loop i).trips) : BitVec 32 :=
  let c0_i32_17 : BitVec 32 := 0#32
  let arg2 : BitVec 32 := BitVec.ofNat 32 (i 2).val
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg14 : BitVec 32 := Scf.iv v32 c1_i32_20 k0_t2
  let c512_i32 : BitVec 32 := 512#32
  let v67 : BitVec 32 := Scalar.muli arg14 c512_i32
  v67
def k0_off4 (i : grid0.Coords) (k0_t2 : Fin (k0_t2_loop i).trips) : Fin 2 → Nat :=
  let c0_i32_17 : BitVec 32 := 0#32
  let arg2 : BitVec 32 := BitVec.ofNat 32 (i 2).val
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg14 : BitVec 32 := Scf.iv v32 c1_i32_20 k0_t2
  let c512_i32 : BitVec 32 := 512#32
  let v67 : BitVec 32 := Scalar.muli arg14 c512_i32
  let v68 : BitVec 32 := v67
  let v69 : Index := Scalar.indexCast v68
  let c0_41 : Index := 0#32
  ![v69.toNat, 0]
def k0_off5 (i : grid0.Coords) (k0_t2 : Fin (k0_t2_loop i).trips) : Fin 4 → Nat :=
  let c0_45 : Index := 0#32
  let arg2 : BitVec 32 := BitVec.ofNat 32 (i 2).val
  let c0_i32_17 : BitVec 32 := 0#32
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg14 : BitVec 32 := Scf.iv v32 c1_i32_20 k0_t2
  let v73 : BitVec 32 := Scalar.subi arg2 arg14
  let c3_i32 : BitVec 32 := 3#32
  let v74 : BitVec 32 := Scalar.minsi v73 c3_i32
  let v75 : Index := Scalar.indexCast v74
  let c0_46 : Index := 0#32
  let c0_47 : Index := 0#32
  ![0, v75.toNat, 0, 0]
def k0_off6 (i : grid0.Coords) (k0_t2 : Fin (k0_t2_loop i).trips) : Fin 5 → Nat :=
  let c0_48 : Index := 0#32
  let c0_49 : Index := 0#32
  let c0_i32_17 : BitVec 32 := 0#32
  let arg2 : BitVec 32 := BitVec.ofNat 32 (i 2).val
  let c1_i32 : BitVec 32 := 1#32
  let v27 : BitVec 32 := Scalar.addi arg2 c1_i32
  let v28 : BitVec 32 := Scalar.subi v27 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg14 : BitVec 32 := Scf.iv v32 c1_i32_20 k0_t2
  let v78 : Index := Scalar.indexCast arg14
  let c0_50 : Index := 0#32
  let c0_51 : Index := 0#32
  ![0, 0, v78.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffRefIdeal.lean ====
abbrev S32768x8192 : Shape := ⟨2, ![32768, 8192]⟩
abbrev S32x4 : Shape := ⟨2, ![32, 4]⟩
abbrev S4x64 : Shape := ⟨2, ![4, 64]⟩
abbrev S128 : Shape := ⟨1, ![128]⟩
abbrev S32768x512 : Shape := ⟨2, ![32768, 512]⟩
abbrev S4x8192x4x2x64 : Shape := ⟨5, ![4, 8192, 4, 2, 64]⟩
abbrev S4x8192x4x128 : Shape := ⟨4, ![4, 8192, 4, 128]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x4 : Shape := ⟨3, ![8192, 8192, 4]⟩
abbrev S4x4x2x8192x8192 : Shape := ⟨5, ![4, 4, 2, 8192, 8192]⟩
abbrev S4x8192x8192 : Shape := ⟨3, ![4, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8192x512 : Shape := ⟨3, ![4, 8192, 512]⟩
abbrev S4x512x8192 : Shape := ⟨3, ![4, 512, 8192]⟩

abbrev nBuf : Space → Nat
  | .hbm => 177
  | .vmem => 0
  | .smem => 0
  | _ => 0

abbrev hbmTy0_0 (i : Nat) : BufTy := match i % 128 with
  | 0 => ⟨S32768x8192, .bf16⟩
  | 1 => ⟨S32x4, .f32⟩
  | 2 => ⟨S4x64, .f32⟩
  | 3 => ⟨S128, .f32⟩
  | 4 => ⟨S32768x512, .bf16⟩
  | 5 => ⟨S32768x512, .f32⟩
  | 6 => ⟨S4x8192x4x2x64, .f32⟩
  | 7 => ⟨S32768x512, .bf16⟩
  | 8 => ⟨S32768x512, .f32⟩
  | 9 => ⟨S4x8192x4x2x64, .f32⟩
  | 10 => ⟨S32768x512, .bf16⟩
  | 11 => ⟨S32768x512, .f32⟩
  | 12 => ⟨S4x8192x4x128, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8192, .i32⟩
  | 33 => ⟨S1x8192, .i32⟩
  | 34 => ⟨S8192x1, .i32⟩
  | 35 => ⟨S8192x8192, .i32⟩
  | 36 => ⟨S8192x8192, .i32⟩
  | 37 => ⟨S8192x8192, .i32⟩
  | 38 => ⟨S_, .i32⟩
  | 39 => ⟨S8192x8192, .i32⟩
  | 40 => ⟨S8192x8192, .i1⟩
  | 41 => ⟨S8192x8192, .i32⟩
  | 42 => ⟨S_, .i32⟩
  | 43 => ⟨S8192x8192, .i32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S8192x8192, .i32⟩
  | 61 => ⟨S_, .i32⟩
  | 62 => ⟨S8192x8192, .i32⟩
  | 63 => ⟨S8192x8192, .i32⟩
  | 64 => ⟨S_, .i32⟩
  | 65 => ⟨S8192x8192, .i32⟩
  | 66 => ⟨S8192x8192, .i32⟩
  | 67 => ⟨S_, .i32⟩
  | 68 => ⟨S8192x8192, .i32⟩
  | 69 => ⟨S8192x8192, .i1⟩
  | 70 => ⟨S8192x8192, .i32⟩
  | 71 => ⟨S8192x8192, .i32⟩
  | 72 => ⟨S_, .i32⟩
  | 73 => ⟨S8192x8192, .i32⟩
  | 74 => ⟨S8192x8192, .i1⟩
  | 75 => ⟨S_, .i32⟩
  | 76 => ⟨S8192x8192, .i32⟩
  | 77 => ⟨S8192x8192, .i32⟩
  | 78 => ⟨S8192x8192, .i32⟩
  | 79 => ⟨S8192x8192x1, .i32⟩
  | 80 => ⟨S8192x8192x4, .f32⟩
  | 81 => ⟨S1x8192, .i32⟩
  | 82 => ⟨S_, .i32⟩
  | 83 => ⟨S_, .i32⟩
  | 84 => ⟨S1x8192, .i32⟩
  | 85 => ⟨S1x8192, .i32⟩
  | 86 => ⟨S1x8192, .i32⟩
  | 87 => ⟨S_, .i32⟩
  | 88 => ⟨S1x8192, .i32⟩
  | 89 => ⟨S1x8192, .i1⟩
  | 90 => ⟨S1x8192, .i32⟩
  | 91 => ⟨S1x8192, .i32⟩
  | 92 => ⟨S_, .i32⟩
  | 93 => ⟨S1x8192, .i32⟩
  | 94 => ⟨S1x8192, .i1⟩
  | 95 => ⟨S1x8192, .i1⟩
  | 96 => ⟨S_, .i32⟩
  | 97 => ⟨S1x8192, .i32⟩
  | 98 => ⟨S1x8192, .i32⟩
  | 99 => ⟨S1x8192, .i32⟩
  | 100 => ⟨S8192x1, .i32⟩
  | 101 => ⟨S_, .i32⟩
  | 102 => ⟨S_, .i32⟩
  | 103 => ⟨S8192x1, .i32⟩
  | 104 => ⟨S8192x1, .i32⟩
  | 105 => ⟨S8192x1, .i32⟩
  | 106 => ⟨S_, .i32⟩
  | 107 => ⟨S8192x1, .i32⟩
  | 108 => ⟨S8192x1, .i1⟩
  | 109 => ⟨S8192x1, .i32⟩
  | 110 => ⟨S8192x1, .i32⟩
  | 111 => ⟨S_, .i32⟩
  | 112 => ⟨S8192x1, .i32⟩
  | 113 => ⟨S8192x1, .i1⟩
  | 114 => ⟨S8192x1, .i1⟩
  | 115 => ⟨S_, .i32⟩
  | 116 => ⟨S8192x1, .i32⟩
  | 117 => ⟨S8192x1, .i32⟩
  | 118 => ⟨S8192x1, .i32⟩
  | 119 => ⟨S8192x8192, .i32⟩
  | 120 => ⟨S8192x8192, .i32⟩
  | 121 => ⟨S8192x8192, .i1⟩
  | 122 => ⟨S4x4x2x8192x8192, .f32⟩
  | 123 => ⟨S4x8192x8192, .f32⟩
  | 124 => ⟨S1x4x1x8192x8192, .f32⟩
  | 125 => ⟨S4x4x2x8192x8192, .f32⟩
  | 126 => ⟨S4x4x2x8192x8192, .f32⟩
  | 127 => ⟨S_, .f32⟩
  | _ => ⟨S32768x8192, .bf16⟩

abbrev hbmTy0_1 (i : Nat) : BufTy := match i % 128 with
  | 0 => ⟨S_, .f32⟩
  | 1 => ⟨S4x4x2x8192x8192, .i1⟩
  | 2 => ⟨S4x4x2x8192x8192, .f32⟩
  | 3 => ⟨S4x4x2x8192x8192, .f32⟩
  | 4 => ⟨S_, .f32⟩
  | 5 => ⟨S4x4x2x8192, .f32⟩
  | 6 => ⟨S_, .f32⟩
  | 7 => ⟨S4x4x2x8192, .f32⟩
  | 8 => ⟨S4x4x2x8192, .f32⟩
  | 9 => ⟨S4x4x2x8192x1, .f32⟩
  | 10 => ⟨S4x4x2x8192x8192, .f32⟩
  | 11 => ⟨S4x4x2x8192x8192, .f32⟩
  | 12 => ⟨S4x4x2x8192x8192, .f32⟩
  | 13 => ⟨S_, .f32⟩
  | 14 => ⟨S4x4x2x8192, .f32⟩
  | 15 => ⟨S4x4x2x8192x1, .f32⟩
  | 16 => ⟨S4x4x2x8192x8192, .f32⟩
  | 17 => ⟨S4x4x2x8192x8192, .f32⟩
  | 18 => ⟨S4x4x1x8192x8192, .f32⟩
  | 19 => ⟨S4x4x8192x8192, .f32⟩
  | 20 => ⟨S4x4x1x8192x8192, .f32⟩
  | 21 => ⟨S4x4x8192x8192, .f32⟩
  | 22 => ⟨S4x4x8192x8192, .f32⟩
  | 23 => ⟨S4x4x8192x8192, .f32⟩
  | 24 => ⟨S4x4x8192x8192, .f32⟩
  | 25 => ⟨S4x4x128x8192, .f32⟩
  | 26 => ⟨S4x8192x4x128, .f32⟩
  | 27 => ⟨S4x8192x4x128, .f32⟩
  | 28 => ⟨S_, .f32⟩
  | 29 => ⟨S4x8192x4, .f32⟩
  | 30 => ⟨S4x8192x4x1, .f32⟩
  | 31 => ⟨S_, .f32⟩
  | 32 => ⟨S4x8192x4x1, .f32⟩
  | 33 => ⟨S4x8192x4x1, .f32⟩
  | 34 => ⟨S_, .f32⟩
  | 35 => ⟨S4x8192x4x1, .f32⟩
  | 36 => ⟨S4x8192x4x1, .f32⟩
  | 37 => ⟨S4x8192x4x1, .f32⟩
  | 38 => ⟨S4x8192x4x128, .f32⟩
  | 39 => ⟨S4x8192x4x128, .f32⟩
  | 40 => ⟨S1x1x1x128, .f32⟩
  | 41 => ⟨S4x8192x4x128, .f32⟩
  | 42 => ⟨S4x8192x4x128, .f32⟩
  | 43 => ⟨S_, .f32⟩
  | 44 => ⟨S4x8192x4x128, .f32⟩
  | 45 => ⟨S4x8192x4x128, .f32⟩
  | 46 => ⟨S4x8192x512, .f32⟩
  | 47 => ⟨S4x512x8192, .f32⟩
  | 48 => ⟨S4x512x8192, .bf16⟩
  | _ => ⟨S32768x8192, .bf16⟩

abbrev hbmTy (i : Nat) : BufTy := match i / 128 with
  | 0 => hbmTy0_0 i
  | 1 => hbmTy0_1 i
  | _ => ⟨S32768x8192, .bf16⟩

abbrev bufTy : (tb : Table) → Fin (tcTables nBuf tb) → BufTy
  | .hbm, ⟨i, _⟩ => hbmTy i
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_c : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_0 : Ref sig .tc := ⟨.hbm, 96, rfl⟩
abbrev main_call1_v12 : Ref sig .tc := ⟨.hbm, 97, rfl⟩
abbrev main_call1_v13 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_c : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_0 : Ref sig .tc := ⟨.hbm, 115, rfl⟩
abbrev main_call2_v12 : Ref sig .tc := ⟨.hbm, 116, rfl⟩
abbrev main_call2_v13 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_14 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v75 : Ref sig .tc := ⟨.hbm, 131, rfl⟩
abbrev main_cst_15 : Ref sig .tc := ⟨.hbm, 132, rfl⟩
abbrev main_v76 : Ref sig .tc := ⟨.hbm, 133, rfl⟩
abbrev main_cst_16 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_17 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_18 : Ref sig .tc := ⟨.hbm, 156, rfl⟩
abbrev main_v97 : Ref sig .tc := ⟨.hbm, 157, rfl⟩
abbrev main_v98 : Ref sig .tc := ⟨.hbm, 158, rfl⟩
abbrev main_cst_19 : Ref sig .tc := ⟨.hbm, 159, rfl⟩
abbrev main_v99 : Ref sig .tc := ⟨.hbm, 160, rfl⟩
abbrev main_v100 : Ref sig .tc := ⟨.hbm, 161, rfl⟩
abbrev main_cst_20 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_21 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩

abbrev nD : Nat := 1
abbrev τ : Topo := Topo.v7x

variable {F : FTy → Type} [FloatOps F]
-- ==== Proof.Moe.Route.lean ====
/-
  The mathematics of taking the greatest and the second greatest entry of a finite family of extended reals, ties going
  to the lower index: as a stable sort takes them, and as a maximum followed by the least index that attains it.
-/
module

public import Idealize.ShloMosaic.PureOps.Ideal
public import Idealize.ShloMosaic.Lib.SortFacts
public import Mathlib.Data.Finset.Fold

@[expose] public section

noncomputable section

namespace Cert.MoeRoute

open Idealize.ShloMosaic

/-- `i` comes before `j` when entries are ordered by greater value first and equal values by index. -/
def Before {n : ℕ} (F : Fin n → EReal) (i j : Fin n) : Prop := F j < F i ∨ (F i = F j ∧ i < j)

/-- `i` comes before every other index. -/
def IsTop {n : ℕ} (F : Fin n → EReal) (i : Fin n) : Prop := ∀ j, j ≠ i → Before F i j

/-- `b` comes before every index other than `a` and itself. -/
def IsSecond {n : ℕ} (F : Fin n → EReal) (a b : Fin n) : Prop := b ≠ a ∧ ∀ j, j ≠ a → j ≠ b → Before F b j

/-- The value at the top index is the greatest. -/
theorem IsTop.le {n : ℕ} {F : Fin n → EReal} {i : Fin n} (h : IsTop F i) (j : Fin n) : F j ≤ F i := by
  by_cases hj : j = i
  · rw [hj]
  · rcases h j hj with h | h
    · exact h.le
    · exact h.1.symm.le

/-- Among the indices with the greatest value the top index is the least. -/
theorem IsTop.idx_le {n : ℕ} {F : Fin n → EReal} {i : Fin n} (h : IsTop F i) {j : Fin n} (hj : F j = F i) : i ≤ j := by
  by_cases hji : j = i
  · rw [hji]
  · rcases h j hji with h | h
    · exact absurd hj h.ne
    · exact h.2.le

/-- The maximum of the family is its value at the top index. -/
theorem IsTop.fold_max {n : ℕ} {F : Fin n → EReal} {i : Fin n} (h : IsTop F i) :
    Finset.univ.fold max ⊥ F = F i :=
  le_antisymm (Finset.fold_max_le _ |>.2 ⟨bot_le, fun j _ => h.le j⟩)
    (Finset.le_fold_max _ |>.2 (Or.inr ⟨i, Finset.mem_univ _, le_rfl⟩))

/-- The least label among the indices that attain the maximum is the top index's, where the labels grow with the index
    and none exceeds the filler. -/
theorem IsTop.fold_min {n : ℕ} {F : Fin n → EReal} {i : Fin n} (h : IsTop F i) (M : EReal) (hM : M = F i)
    (L : Fin n → EReal) (hL : ∀ j, i ≤ j → L i ≤ L j) (B : EReal) (hB : L i ≤ B) :
    Finset.univ.fold min ⊤ (fun x => if F x = M then L x else B) = L i := by
  refine le_antisymm (Finset.fold_min_le _ |>.2 (Or.inr ⟨i, Finset.mem_univ _, ?_⟩))
    (Finset.le_fold_min _ |>.2 ⟨le_top, fun j _ => ?_⟩)
  · rw [if_pos hM.symm]
  · show L i ≤ if F j = M then L j else B
    split
    · exact hL j (h.idx_le (by rw [‹F j = M›, hM]))
    · exact hB

/-- A family placed in a longer one, in order, keeps its top index when everything else is less. -/
theorem IsTop.embed {n k : ℕ} {F : Fin k → EReal} {i : Fin k} (h : IsTop F i) (e : Fin k → Fin n) (he : StrictMono e)
    (G : Fin n → EReal) (hG : ∀ j, G (e j) = F j) (hlt : ∀ l, (∀ j, l ≠ e j) → G l < F i) : IsTop G (e i) := by
  intro l hl
  by_cases hx : ∃ j, l = e j
  · obtain ⟨j, rfl⟩ := hx
    have hj : j ≠ i := fun hji => hl (by rw [hji])
    rcases h j hj with h | h
    · exact Or.inl (by rw [hG, hG]; exact h)
    · exact Or.inr ⟨by rw [hG, hG]; exact h.1, he h.2⟩
  · exact Or.inl (by rw [hG]; exact hlt l fun j hj => hx ⟨j, hj⟩)

/-- A family placed in a longer one, in order, but with its top entry removed: the second index is the longer one's top
    when everything else is less. -/
theorem IsSecond.embed {n k : ℕ} {F : Fin k → EReal} {a b : Fin k} (h : IsSecond F a b) (e : Fin k → Fin n)
    (he : StrictMono e) (G : Fin n → EReal) (hG : ∀ j, j ≠ a → G (e j) = F j)
    (hlt : ∀ l, (∀ j, j ≠ a → l ≠ e j) → G l < F b) : IsTop G (e b) := by
  intro l hl
  by_cases hx : ∃ j, j ≠ a ∧ l = e j
  · obtain ⟨j, hja, rfl⟩ := hx
    have hj : j ≠ b := fun hjb => hl (by rw [hjb])
    rcases h.2 j hja hj with h' | h'
    · exact Or.inl (by rw [hG _ hja, hG _ h.1]; exact h')
    · exact Or.inr ⟨by rw [hG _ hja, hG _ h.1]; exact h'.1, he h'.2⟩
  · exact Or.inl (by rw [hG _ h.1]; exact hlt l fun j hja hj => hx ⟨j, hja, hj⟩)

/-- A maximum over a longer family that is `-∞` outside a shorter one is the shorter one's maximum. -/
theorem fold_max_embed {n k : ℕ} (F : Fin k → EReal) (e : Fin k → Fin n) (G : Fin n → EReal) (hG : ∀ j, G (e j) = F j)
    (hbot : ∀ l, (∀ j, l ≠ e j) → G l = ⊥) : Finset.univ.fold max ⊥ G = Finset.univ.fold max ⊥ F := by
  refine le_antisymm (Finset.fold_max_le _ |>.2 ⟨bot_le, fun l _ => ?_⟩)
    (Finset.fold_max_le _ |>.2 ⟨bot_le, fun j _ => Finset.le_fold_max _ |>.2 (Or.inr ⟨e j, Finset.mem_univ _, (hG j).ge⟩)⟩)
  by_cases hx : ∃ j, l = e j
  · obtain ⟨j, rfl⟩ := hx
    exact Finset.le_fold_max _ |>.2 (Or.inr ⟨j, Finset.mem_univ _, (hG j).le⟩)
  · rw [hbot l fun j hj => hx ⟨j, hj⟩]
    exact bot_le

/-- A sum over a longer family that vanishes outside a shorter one is the shorter one's sum. -/
theorem sum_embed {n k : ℕ} (F : Fin k → EReal) (e : Fin k → Fin n) (he : StrictMono e) (G : Fin n → EReal)
    (hG : ∀ j, G (e j) = F j) (hzero : ∀ l, (∀ j, l ≠ e j) → G l = 0) : ∑ l, G l = ∑ j, F j :=
  (Fintype.sum_of_injective e he.injective F G (fun l hl => hzero l fun j hj => hl ⟨j, hj.symm⟩) fun j => (hG j).symm).symm

/-! ## The stable sort by greater value -/

/-- Inserting an index lower than all of a list sorted by `Before` keeps the list sorted. -/
theorem pairwise_insert {n : ℕ} (F : Fin n → EReal) (B : Fin n → Fin n → Bool) (hB : ∀ i j, B i j = true ↔ F j < F i)
    (a : Fin n) (l : List (Fin n)) (ha : ∀ b ∈ l, a < b) (hl : l.Pairwise (Before F)) :
    (insertBefore B a l).Pairwise (Before F) := by
  induction l with
  | nil => exact List.pairwise_singleton _ _
  | cons b l ih =>
    rw [List.pairwise_cons] at hl
    unfold insertBefore
    split
    · rename_i h
      rw [List.pairwise_cons]
      refine ⟨fun x hx => ?_, ih (fun x hx => ha x (List.mem_cons_of_mem _ hx)) hl.2⟩
      rcases List.mem_cons.1 ((perm_insertBefore B a l).mem_iff.1 hx) with rfl | hx
      · exact Or.inl ((hB _ _).1 h)
      · exact hl.1 x hx
    · rename_i h
      have hba : F b ≤ F a := not_lt.1 fun h' => h ((hB b a).2 h')
      have hab : a < b := ha b (List.mem_cons_self ..)
      rw [List.pairwise_cons]
      refine ⟨fun x hx => ?_, List.pairwise_cons.2 hl⟩
      rcases List.mem_cons.1 hx with rfl | hx
      · rcases hba.lt_or_eq with h' | h'
        · exact Or.inl h'
        · exact Or.inr ⟨h'.symm, hab⟩
      · rcases hl.1 x hx with h' | h'
        · exact Or.inl (h'.trans_le hba)
        · rcases hba.lt_or_eq with h'' | h''
          · exact Or.inl (h'.1 ▸ h'')
          · exact Or.inr ⟨h''.symm.trans h'.1, hab.trans h'.2⟩

/-- The stable sort of increasing indices by greater value is sorted by `Before`. -/
theorem pairwise_sort {n : ℕ} (F : Fin n → EReal) (B : Fin n → Fin n → Bool) (hB : ∀ i j, B i j = true ↔ F j < F i)
    (l : List (Fin n)) (hl : l.Pairwise (· < ·)) : (stableSort B l).Pairwise (Before F) := by
  induction l with
  | nil => exact List.Pairwise.nil
  | cons a l ih =>
    rw [List.pairwise_cons] at hl
    unfold stableSort
    exact pairwise_insert F B hB a _ (fun b hb => hl.1 b ((perm_stableSort B l).mem_iff.1 hb)) (ih hl.2)

/-- An index sorted to an earlier place comes before one sorted to a later place. -/
theorem before_sortedFrom {n : ℕ} (F : Fin n → EReal) (B : Fin n → Fin n → Bool) (hB : ∀ i j, B i j = true ↔ F j < F i)
    (p q : Fin n) (hpq : p < q) : Before F (sortedFrom B p) (sortedFrom B q) := by
  have h := pairwise_sort F B hB (List.finRange n) (List.pairwise_lt_finRange n)
  exact List.pairwise_iff_get.1 h _ _ (Fin.lt_def.2 (Fin.lt_def.1 hpq))

/-- The index sorted to place 0 is the top one. -/
theorem isTop_sortedFrom {n : ℕ} (F : Fin n → EReal) (B : Fin n → Fin n → Bool) (hB : ∀ i j, B i j = true ↔ F j < F i)
    (p : Fin n) (hp : p.val = 0) : IsTop F (sortedFrom B p) := by
  intro j hj
  obtain ⟨q, rfl⟩ := sortedFrom_surjective B j
  refine before_sortedFrom F B hB p q ?_
  have : q ≠ p := fun h => hj (by rw [h])
  rw [Fin.lt_def]
  have := Fin.val_ne_of_ne this
  omega

/-- The index sorted to place 1 is the second one. -/
theorem isSecond_sortedFrom {n : ℕ} (F : Fin n → EReal) (B : Fin n → Fin n → Bool)
    (hB : ∀ i j, B i j = true ↔ F j < F i) (p q : Fin n) (hp : p.val = 0) (hq : q.val = 1) :
    IsSecond F (sortedFrom B p) (sortedFrom B q) := by
  have hinj := sortedFrom_injective B
  refine ⟨fun h => ?_, fun j hj hj' => ?_⟩
  · have := hinj h
    rw [this] at hq
    omega
  · obtain ⟨s, rfl⟩ := sortedFrom_surjective B j
    refine before_sortedFrom F B hB q s ?_
    have h1 := Fin.val_ne_of_ne fun h : s = p => hj (by rw [h])
    have h2 := Fin.val_ne_of_ne fun h : s = q => hj' (by rw [h])
    rw [Fin.lt_def]
    omega

end Cert.MoeRoute

end
-- ==== Proof.Moe.Model.lean ====
/-
  The router of one token as mathematics: the group with the greatest logit, the two experts of it with the greatest
  probabilities, and the weight every expert is given.
-/
module

public import proofs.«01_k».proof.Proof.Moe.Route
public import Idealize.ShloMosaic.Lib.IdealHost

@[expose] public section

noncomputable section

namespace Cert.MoeRoute

open Idealize.ShloMosaic

/-- The lane of group `g`'s logit. -/
def gLane (g : Fin 4) : Fin 128 := ⟨32 + g.val, by omega⟩

/-- The lane of the logit of expert `k` of group `g`. -/
def xLane (g : Fin 4) (k : Fin 8) : Fin 128 := ⟨8 * g.val + k.val, by omega⟩

/-- The group logits of a token. -/
def gLogit (z : Fin 128 → EReal) (g : Fin 4) : EReal := z (gLane g)

/-- The logits of the experts of a group. -/
def xLogit (z : Fin 128 → EReal) (g : Fin 4) (k : Fin 8) : EReal := z (xLane g k)

/-- The softmax numerator of a family: the exponential of the entry less the greatest. -/
def ex {n : ℕ} (F : Fin n → EReal) (k : Fin n) : EReal := Ideal.exp (F k - Finset.univ.fold max ⊥ F)

/-- The softmax of a family. -/
def sm {n : ℕ} (F : Fin n → EReal) (k : Fin n) : EReal := Ideal.div (ex F k) (∑ j, ex F j)

/-- The weight of lane `l` when group `g` is chosen and in it the experts `a` and `b`. -/
def weight (z : Fin 128 → EReal) (g : Fin 4) (a b : Fin 8) (l : Fin 128) : EReal :=
  (if l = xLane g a then sm (gLogit z) g * Ideal.div (sm (xLogit z g) a) (sm (xLogit z g) a + sm (xLogit z g) b) else 0)
    + (if l = xLane g b then sm (gLogit z) g * Ideal.div (sm (xLogit z g) b) (sm (xLogit z g) a + sm (xLogit z g) b)
        else 0)

/-- The extended real of a lane number. -/
def laneVal (l : Fin 128) : EReal := ((l.val : ℝ) : EReal)

theorem gLane_strictMono : StrictMono gLane := fun i j h => by
  rw [Fin.lt_def] at h ⊢
  simp only [gLane]
  omega

theorem xLane_strictMono (g : Fin 4) : StrictMono (xLane g) := fun i j h => by
  rw [Fin.lt_def] at h ⊢
  simp only [xLane]
  omega

theorem laneVal_le {i j : Fin 128} (h : i ≤ j) : laneVal i ≤ laneVal j :=
  EReal.coe_le_coe_iff.2 (Nat.cast_le.2 h)

theorem laneVal_inj {i j : Fin 128} : laneVal i = laneVal j ↔ i = j := by
  simp only [laneVal, EReal.coe_eq_coe_iff, Nat.cast_inj, Fin.ext_iff]

theorem ofBits_32 : Ideal.ofBits .f32 1107296256#32 = ((32 : ℝ) : EReal) := by
  simp [Ideal.ofBits, Ideal.ieee]; rw [← EReal.coe_mul]; norm_num
theorem ofBits_36 : Ideal.ofBits .f32 1108344832#32 = ((36 : ℝ) : EReal) := by
  simp [Ideal.ofBits, Ideal.ieee]; rw [← EReal.coe_mul]; norm_num
theorem ofBits_8 : Ideal.ofBits .f32 1090519040#32 = ((8 : ℝ) : EReal) := by
  simp [Ideal.ofBits, Ideal.ieee]; rw [← EReal.coe_mul]; norm_num
theorem ofBits_neg1 : Ideal.ofBits .f32 3212836864#32 = ((-1 : ℝ) : EReal) := by
  simp [Ideal.ofBits, Ideal.ieee]; rw [← EReal.coe_mul]; norm_num
theorem ofBits_big : Ideal.ofBits .f32 1315859240#32 = ((1000000000 : ℝ) : EReal) := by
  simp [Ideal.ofBits, Ideal.ieee]; rw [← EReal.coe_pow, ← EReal.coe_mul]; norm_num
theorem ofBits_bot : Ideal.ofBits .f32 4286578688#32 = ⊥ := by simp [Ideal.ofBits, Ideal.ieee]
theorem ofBits_top : Ideal.ofBits .f32 2139095040#32 = ⊤ := by simp [Ideal.ofBits, Ideal.ieee]

theorem laneVal_le_big (i : Fin 128) : laneVal i ≤ ((1000000000 : ℝ) : EReal) := by
  refine EReal.coe_le_coe_iff.2 ?_
  have : (i.val : ℝ) ≤ 128 := by exact_mod_cast i.isLt.le
  linarith

/-! ## The softmax of a family with a finite greatest entry -/

theorem exp_bot : Ideal.exp ⊥ = 0 := rfl
theorem exp_top : Ideal.exp ⊤ = ⊤ := rfl
theorem exp_coe (x : ℝ) : Ideal.exp (x : EReal) = ((Real.exp x : ℝ) : EReal) := rfl

/-- No exponential is negative. -/
theorem exp_nonneg (x : EReal) : 0 ≤ Ideal.exp x := by
  induction x with
  | bot => rw [exp_bot]
  | top => rw [exp_top]; exact le_top
  | coe x => rw [exp_coe]; exact EReal.coe_nonneg.2 (Real.exp_pos x).le

theorem ex_nonneg {n : ℕ} (F : Fin n → EReal) (k : Fin n) : 0 ≤ ex F k := exp_nonneg _

/-- Where the greatest entry is finite its exponential is 1. -/
theorem ex_top {n : ℕ} {F : Fin n → EReal} {i : Fin n} (h : IsTop F i) (hb : F i ≠ ⊥) (ht : F i ≠ ⊤) : ex F i = 1 := by
  unfold ex
  rw [h.fold_max]
  lift F i to ℝ using ⟨ht, hb⟩ with x
  rw [← EReal.coe_sub, sub_self, exp_coe, Real.exp_zero, EReal.coe_one]

/-- Where the greatest entry is finite the sum of the exponentials is at least 1. -/
theorem one_le_sum_ex {n : ℕ} {F : Fin n → EReal} {i : Fin n} (h : IsTop F i) (hb : F i ≠ ⊥) (ht : F i ≠ ⊤) :
    1 ≤ ∑ j, ex F j := by
  rw [← ex_top h hb ht]
  exact Finset.single_le_sum (f := ex F) (fun j _ => ex_nonneg F j) (Finset.mem_univ i)

/-- Where the greatest entry is finite no softmax is negative. -/
theorem sm_nonneg {n : ℕ} {F : Fin n → EReal} {i : Fin n} (h : IsTop F i) (hb : F i ≠ ⊥) (ht : F i ≠ ⊤) (k : Fin n) :
    0 ≤ sm F k := by
  have h1 := one_le_sum_ex h hb ht
  have h0 : (0 : EReal) < ∑ j, ex F j := lt_of_lt_of_le zero_lt_one h1
  unfold sm Ideal.div
  rw [if_neg h0.ne']
  exact mul_nonneg (ex_nonneg F k) (EReal.inv_nonneg_of_nonneg h0.le)

/-- The softmax at a finite greatest entry is 1 over the sum of the exponentials. -/
theorem sm_top {n : ℕ} {F : Fin n → EReal} {i : Fin n} (h : IsTop F i) (hb : F i ≠ ⊥) (ht : F i ≠ ⊤) :
    sm F i = Ideal.div 1 (∑ j, ex F j) := by
  rw [sm, ex_top h hb ht]

end Cert.MoeRoute

end
-- ==== Proof.Moe.Comb.lean ====
/-
  The kernel's combine weights, read at a row and a lane: the weights of the router for any group, first and second expert
  that are the greatest ones in order.
-/
module

public import proofs.«01_k».proof.Proof.Gen.MoeIdeal.Value
public import proofs.«01_k».proof.Proof.Moe.Model
public import Idealize.ShloMosaic.Lib.Pointwise
public import Idealize.ShloMosaic.Lib.Tactic.CleanTypes

@[expose] public section

set_option maxRecDepth 16384

noncomputable section

namespace Cert.MoeIdeal.Mine

open Cert.MoeIdeal Cert.MoeIdeal.Gen Cert.MoeRoute Idealize.ShloMosaic Idealize.ShloMosaic.TcCoe Idealize.SL.Sem

variable (X : Vec Ideal S1024x128 .f32) (r : Fin 1024)

/-- The row of logits of one token. -/
def rowOf (X : Vec Ideal S1024x128 .f32) (r : Fin 1024) (l : Fin 128) : EReal := X (ix2 r l)

/-- The logits with `-∞` in every lane that holds no group's logit. -/
def gOnly (z : Fin 128 → EReal) (l : Fin 128) : EReal := if 32 ≤ l.val ∧ l.val < 36 then z l else ⊥

/-- The logits with `-∞` in every lane outside group `g`. -/
def xOnly (z : Fin 128 → EReal) (g : Fin 4) (l : Fin 128) : EReal :=
  if 8 * g.val ≤ l.val ∧ l.val < 8 * g.val + 8 then z l else ⊥

theorem gOnly_gLane (z : Fin 128 → EReal) (g : Fin 4) : gOnly z (gLane g) = gLogit z g :=
  if_pos (show 32 ≤ 32 + g.val ∧ 32 + g.val < 36 by omega)

theorem gOnly_off (z : Fin 128 → EReal) (l : Fin 128) (h : ∀ g, l ≠ gLane g) : gOnly z l = ⊥ := by
  refine if_neg ?_
  rintro ⟨h1, h2⟩
  exact h ⟨l.val - 32, by omega⟩ (Fin.ext (show l.val = 32 + (l.val - 32) by omega))

theorem xOnly_xLane (z : Fin 128 → EReal) (g : Fin 4) (k : Fin 8) : xOnly z g (xLane g k) = xLogit z g k :=
  if_pos (show 8 * g.val ≤ 8 * g.val + k.val ∧ 8 * g.val + k.val < 8 * g.val + 8 by omega)

theorem xOnly_off (z : Fin 128 → EReal) (g : Fin 4) (l : Fin 128) (h : ∀ k, l ≠ xLane g k) : xOnly z g l = ⊥ := by
  refine if_neg ?_
  rintro ⟨h1, h2⟩
  exact h ⟨l.val - 8 * g.val, by omega⟩ (Fin.ext (show l.val = 8 * g.val + (l.val - 8 * g.val) by omega))

/-- Lane numbers are small, so their words read signed as themselves. -/
theorem sitofp_lane (l : Fin 128) : FloatOps.sitofp (F := Ideal) .f32 (BitVec.ofNat 32 l.val) = laneVal l := by
  show (((BitVec.ofNat 32 l.val).toInt : ℝ) : EReal) = _
  have h : (BitVec.ofNat 32 l.val).toInt = (l.val : ℤ) := by
    have := l.isLt
    rw [BitVec.toInt_eq_toNat_of_lt (by rw [BitVec.toNat_ofNat]; omega), BitVec.toNat_ofNat]
    omega
  rw [h]
  rfl

/-- Every lane's label is its number. -/
theorem pay1_at (l : Fin 128) : (k0_pay1 (F := Ideal)) (ix2 r l) = laneVal l := by
  pointwise [k0_pay1]
  exact sitofp_lane l

/-- The kernel's group logits. -/
theorem pay2_at (l : Fin 128) : k0_pay2 X (ix2 r l) = gOnly (rowOf X r) l := by
  pointwise [k0_pay2, pay1_at]
  have h1 : (32 : ℝ) ≤ (l.val : ℝ) ↔ 32 ≤ l.val := by exact_mod_cast Iff.rfl
  have h2 : (l.val : ℝ) < 36 ↔ l.val < 36 := by exact_mod_cast Iff.rfl
  rw [ofBits_32, ofBits_36, ofBits_bot, WordCmp.andi_ofBool]
  simp only [Scalar.select, WordCmp.ofBool_eq_one_iff', Bool.and_eq_true, decide_eq_true_eq, gOnly, laneVal,
    EReal.coe_le_coe_iff, EReal.coe_lt_coe_iff, h1, h2, rowOf]

variable {X r} {g : Fin 4} (hg : IsTop (gLogit (rowOf X r)) g) (hb : gLogit (rowOf X r) g ≠ ⊥)

/-- Where the greatest group logit is not `-∞`, it is the greatest of its lanes and the others' fillers. -/
theorem isTop_gOnly {z : Fin 128 → EReal} {g : Fin 4} (hg : IsTop (gLogit z) g) (hb : gLogit z g ≠ ⊥) :
    IsTop (gOnly z) (gLane g) :=
  hg.embed gLane gLane_strictMono _ (gOnly_gLane z) fun l hl => by
    rw [gOnly_off z l hl]
    exact bot_lt_iff_ne_bot.2 hb

include hg hb in
/-- The kernel's greatest group logit. -/
theorem pay3_at (q : Fin 1) : k0_pay3 X (ix2 r q) = gLogit (rowOf X r) g := by
  pointwise [k0_pay3, pay2_at]
  rw [ofBits_bot]
  exact (isTop_gOnly hg hb).fold_max.trans (gOnly_gLane _ g)

/-- The exponentials of the group logits, summed over all lanes, are the group logits' own. -/
theorem sum_gOnly (z : Fin 128 → EReal) (M : EReal) :
    ∑ x, Ideal.exp (gOnly z x - M) = ∑ k, Ideal.exp (gLogit z k - M) :=
  sum_embed _ gLane gLane_strictMono _ (fun j => by rw [gOnly_gLane]) fun l hl => by
    rw [gOnly_off z l hl, EReal.bot_sub, exp_bot]

include hg hb in
/-- The kernel's probability of the chosen group. -/
theorem pay4_at (ht : gLogit (rowOf X r) g ≠ ⊤) (q : Fin 1) : k0_pay4 X (ix2 r q) = sm (gLogit (rowOf X r)) g := by
  pointwise [k0_pay4, pay2_at, pay3_at hg hb]
  rw [sm_top hg hb ht, sum_gOnly]
  simp only [ex, hg.fold_max]

include hg hb in
/-- The kernel's mask of the chosen group's lanes. -/
theorem pay5_at (l : Fin 128) :
    k0_pay5 X (ix2 r l) = BitVec.ofBool (decide (8 * g.val ≤ l.val ∧ l.val < 8 * g.val + 8)) := by
  pointwise [k0_pay5, pay2_at, pay1_at, pay3_at hg hb]
  rw [ofBits_32, ofBits_8, ofBits_top, ofBits_big]
  rw [(isTop_gOnly hg hb).fold_min _ (gOnly_gLane _ g).symm (fun x => laneVal x - ((32 : ℝ) : EReal))
    (fun j h => EReal.sub_le_sub (laneVal_le h) le_rfl) _ (by
      simp only [laneVal, gLane]
      rw [← EReal.coe_sub, EReal.coe_le_coe_iff]
      have : ((32 + g.val : ℕ) : ℝ) ≤ 36 := by exact_mod_cast (by omega)
      linarith)]
  have hl : laneVal (gLane g) - ((32 : ℝ) : EReal) = ((g.val : ℝ) : EReal) := by
    simp only [laneVal, gLane]
    rw [← EReal.coe_sub, EReal.coe_eq_coe_iff]
    push_cast
    ring
  rw [hl, WordCmp.andi_ofBool, ← EReal.coe_one, ← EReal.coe_add, ← EReal.coe_mul, ← EReal.coe_mul]
  simp only [laneVal, EReal.coe_le_coe_iff, EReal.coe_lt_coe_iff]
  have h1 : (g.val : ℝ) * 8 ≤ (l.val : ℝ) ↔ 8 * g.val ≤ l.val := by
    rw [mul_comm]
    exact_mod_cast Iff.rfl
  have h2 : (l.val : ℝ) < ((g.val : ℝ) + 1) * 8 ↔ l.val < 8 * g.val + 8 := by
    rw [add_mul, one_mul, mul_comm]
    exact_mod_cast Iff.rfl
  simp only [h1, h2, Bool.decide_and]

include hg hb in
/-- The kernel's expert logits less their greatest. -/
theorem pay6_at (l : Fin 128) :
    k0_pay6 X (ix2 r l) = xOnly (rowOf X r) g l - Finset.univ.fold max ⊥ (xLogit (rowOf X r) g) := by
  pointwise [k0_pay6, pay5_at hg hb]
  clean_types
  rw [ofBits_bot]
  have h : Finset.univ.fold max ⊥ (xOnly (rowOf X r) g) = Finset.univ.fold max ⊥ (xLogit (rowOf X r) g) :=
    fold_max_embed _ (xLane g) _ (xOnly_xLane _ g) (xOnly_off _ g)
  rw [← h]
  rfl

/-- The selection of two experts, on probabilities `E` with the top entry at `i` and, that one masked, at `j`. -/
theorem pay7_at (a : FVec Ideal S1024x128 .f32) (b : FVec Ideal S1024x1 .f32) (e : IVec S1024x128 1)
    (f : FVec Ideal S1024x128 .f32) (ha : ∀ x : Fin 128, a (ix2 r x) = laneVal x) (p : EReal) (hp : b (ix2 r 0) = p)
    (E : Fin 128 → EReal)
    (hE : ∀ x : Fin 128, Scalar.select (e (ix2 r x)) (Ideal.div (Ideal.exp (f (ix2 r x)))
      (∑ x : Fin 128, Ideal.exp (f (ix2 r x)))) (Ideal.ofBits FTy.f32 3212836864#32) = E x)
    (i j : Fin 128) (hi : IsTop E i)
    (hj : IsTop (fun x => if laneVal x = laneVal i then ((-1 : ℝ) : EReal) else E x) j) (hij : j ≠ i) (l : Fin 128) :
    k0_pay7 a b e f (ix2 r l) =
      (if l = i then p * Ideal.div (E i) (E i + E j) else 0) + (if l = j then p * Ideal.div (E j) (E i + E j) else 0) := by
  pointwise [k0_pay7]
  clean_types
  simp only [hE]
  simp only [ha, hp, ofBits_neg1, ofBits_bot, ofBits_top, ofBits_big]
  rw [hi.fold_max, hi.fold_min _ rfl laneVal (fun _ h => laneVal_le h) _ (laneVal_le_big i)]
  rw [hj.fold_max, hj.fold_min _ rfl laneVal (fun _ h => laneVal_le h) _ (laneVal_le_big j)]
  simp only [laneVal_inj, if_neg hij]

/-- The probabilities of the chosen group's experts, `-1` in the other lanes. -/
def xProb (z : Fin 128 → EReal) (g : Fin 4) (l : Fin 128) : EReal :=
  if h : 8 * g.val ≤ l.val ∧ l.val < 8 * g.val + 8 then sm (xLogit z g) ⟨l.val - 8 * g.val, by omega⟩ else ((-1 : ℝ) : EReal)

theorem xProb_xLane (z : Fin 128 → EReal) (g : Fin 4) (k : Fin 8) : xProb z g (xLane g k) = sm (xLogit z g) k := by
  rw [xProb, dif_pos (by simp only [xLane]; omega)]
  congr 1
  exact Fin.ext (by simp only [xLane]; omega)

theorem xProb_off (z : Fin 128 → EReal) (g : Fin 4) (l : Fin 128) (h : ∀ k, l ≠ xLane g k) :
    xProb z g l = ((-1 : ℝ) : EReal) := by
  rw [xProb, dif_neg]
  rintro ⟨h1, h2⟩
  exact h ⟨l.val - 8 * g.val, by omega⟩ (Fin.ext (by simp only [xLane]; omega))

/-- The exponentials of a group's logits, summed over all lanes, are the group's own. -/
theorem sum_xOnly (z : Fin 128 → EReal) (g : Fin 4) (M : EReal) :
    ∑ x, Ideal.exp (xOnly z g x - M) = ∑ k, Ideal.exp (xLogit z g k - M) :=
  sum_embed _ (xLane g) (xLane_strictMono g) _ (fun j => by rw [xOnly_xLane]) fun l hl => by
    rw [xOnly_off z g l hl, EReal.bot_sub, exp_bot]

include hg hb in
/-- The kernel's combine weights are the router's, where the greatest group logit is finite and no probability of the
    chosen group is negative. -/
theorem comb_at (ht : gLogit (rowOf X r) g ≠ ⊤) (hs : ∀ k, 0 ≤ sm (xLogit (rowOf X r) g) k) {a b : Fin 8}
    (ha : IsTop (sm (xLogit (rowOf X r) g)) a) (hab : IsSecond (sm (xLogit (rowOf X r) g)) a b) (l : Fin 128) :
    k0_pay8 (k0_pay7 (k0_pay1 (F := Ideal)) (k0_pay4 X) (k0_pay5 X) (k0_pay6 X)) (ix2 r l)
      = weight (rowOf X r) g a b l := by
  have hneg : ((-1 : ℝ) : EReal) < 0 := by
    rw [← EReal.coe_zero, EReal.coe_lt_coe_iff]
    norm_num
  have hi := ha.embed (xLane g) (xLane_strictMono g) (xProb (rowOf X r) g) (xProb_xLane _ g) fun l hl => by
    rw [xProb_off _ _ _ hl]
    exact hneg.trans_le (hs a)
  have hj := hab.embed (xLane g) (xLane_strictMono g)
    (fun x => if laneVal x = laneVal (xLane g a) then ((-1 : ℝ) : EReal) else xProb (rowOf X r) g x)
    (fun j hja => by
      simp only [laneVal_inj, (xLane_strictMono g).injective.eq_iff, if_neg hja, xProb_xLane])
    fun l hl => by
      show (if laneVal l = laneVal (xLane g a) then ((-1 : ℝ) : EReal) else xProb (rowOf X r) g l) < _
      simp only [laneVal_inj]
      split
      · exact hneg.trans_le (hs b)
      · rename_i hla
        rw [xProb_off _ _ _ fun k hk => hl k (fun hka => hla (by rw [hk, hka])) hk]
        exact hneg.trans_le (hs b)
  pointwise [k0_pay8]
  rw [pay7_at (r := r) _ _ _ _ (fun x => pay1_at r x) _ (pay4_at hg hb ht 0) (xProb (rowOf X r) g) (fun x => ?_) _ _ hi hj
    (fun h => hab.1 ((xLane_strictMono g).injective h)) l]
  · simp only [xProb_xLane, weight]
  · simp only [pay5_at hg hb, pay6_at hg hb, sum_xOnly, ofBits_neg1]
    by_cases h : ∃ k, x = xLane g k
    · obtain ⟨k, rfl⟩ := h
      rw [decide_eq_true (show 8 * g.val ≤ (xLane g k).val ∧ (xLane g k).val < 8 * g.val + 8 from
        show 8 * g.val ≤ 8 * g.val + k.val ∧ 8 * g.val + k.val < 8 * g.val + 8 by
          omega), xOnly_xLane,
        xProb_xLane]
      rfl
    · have h' : ∀ k, x ≠ xLane g k := fun k hk => h ⟨k, hk⟩
      rw [xProb_off _ _ _ h', decide_eq_false]
      · rfl
      · rintro ⟨h1, h2⟩
        exact h' ⟨x.val - 8 * g.val, by omega⟩ (Fin.ext (show x.val = 8 * g.val + (x.val - 8 * g.val) by omega))

end Cert.MoeIdeal.Mine
end
-- ==== Proof.Moe.Fold.lean ====
module

public import proofs.«01_k».proof.Proof.Gen.MoeIdeal.Value
public import proofs.«01_k».proof.Proof.Moe.Comb
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! The kernel's grid: 32 row tiles of 1024 tokens, and for each the 32 experts in turn. -/

@[expose] public section

set_option maxRecDepth 16384

noncomputable section

namespace Cert.MoeIdeal.Mine

open Cert.MoeIdeal Cert.MoeIdeal.Gen Cert.MoeIdeal.Value Idealize.ShloMosaic Idealize.ShloMosaic.TcCoe Idealize.SL.Sem Cert.MoeRoute

variable (m : (ℓ : Loc nD τ sig) → Buf (Elt Ideal) ℓ) (c : Dev nD)

/-- The residual stream. -/
def argX : FVec Ideal S32768x1024 .f32 := m ((c : Thread nD τ).loc main_arg0)
/-- The normed tokens. -/
def argH : FVec Ideal S32768x1024 .bf16 := m ((c : Thread nD τ).loc main_arg1)
/-- The router's logits. -/
def argL : FVec Ideal S32768x128 .f32 := m ((c : Thread nD τ).loc main_arg2)
/-- The experts' gate projections. -/
def argG : FVec Ideal S32x1024x256 .f32 := m ((c : Thread nD τ).loc main_arg3)
/-- The experts' up projections. -/
def argU : FVec Ideal S32x1024x256 .f32 := m ((c : Thread nD τ).loc main_arg4)
/-- The experts' down projections. -/
def argD : FVec Ideal S32x256x1024 .f32 := m ((c : Thread nD τ).loc main_arg5)

/-- What an expert makes of a token, at a column. -/
def expertAt (h : FVec Ideal S32768x1024 .bf16) (wg wu : FVec Ideal S32x1024x256 .f32) (wd : FVec Ideal S32x256x1024 .f32)
    (n : Fin 32768) (e : Fin 32) (d : Fin 1024) : EReal :=
  ∑ x : Fin 256, ((∑ k : Fin 1024, h (ix2 n k) * wg (ix3 e k x)) * Ideal.logistic (∑ k : Fin 1024, h (ix2 n k) * wg (ix3 e k x))
    * ∑ k : Fin 1024, h (ix2 n k) * wu (ix3 e k x)) * wd (ix3 e x d)

/-- The token that row `r` of the tile of point `t` holds. -/
def tok (t : Fin cfg0.N) (r : Fin 1024) : Fin 32768 :=
  ⟨1024 * (t.val / 32) + r.val, by have := lt_of_lt_of_eq t.isLt N_0; omega⟩

/-- The expert of point `t`. -/
def expt (t : Fin cfg0.N) : Fin 32 := ⟨t.val % 32, by omega⟩

theorem index_0 : ∀ t : Fin cfg0.N, win0_0.index t = ![t.val / 32, 0] := by decide +kernel
theorem index_1 : ∀ t : Fin cfg0.N, win0_1.index t = ![t.val / 32, 0] := by decide +kernel
theorem index_2 : ∀ t : Fin cfg0.N, win0_2.index t = ![t.val / 32, 0] := by decide +kernel
theorem index_3 : ∀ t : Fin cfg0.N, win0_3.index t = ![t.val % 32, 0, 0] := by decide +kernel
theorem index_4 : ∀ t : Fin cfg0.N, win0_4.index t = ![t.val % 32, 0, 0] := by decide +kernel
theorem coords_1 : ∀ t : Fin cfg0.N, (grid0.coords t 1).val = t.val % 32 := by decide +kernel

/-- A tile of the residual stream. -/
theorem blk_x1 (t : Fin cfg0.N) (r : Fin 1024) (d : Fin 1024) :
    iblk m c 0 t (ix2 r d) = argX m c (ix2 (tok t r) d) := by
  blk_ext! [iblk, V, argX, argH, argL, index_0 t, tok]

/-- A tile of the normed tokens. -/
theorem blk_h (t : Fin cfg0.N) (r : Fin 1024) (d : Fin 1024) :
    iblk m c 1 t (ix2 r d) = argH m c (ix2 (tok t r) d) := by
  blk_ext! [iblk, V, argX, argH, argL, index_1 t, tok]

/-- A tile of the router's logits. -/
theorem blk_lg (t : Fin cfg0.N) (r : Fin 1024) (l : Fin 128) :
    iblk m c 2 t (ix2 r l) = argL m c (ix2 (tok t r) l) := by
  blk_ext! [iblk, V, argX, argH, argL, index_2 t, tok]

/-- A block of the two projections side by side. -/
theorem blk_pair (t : Fin cfg0.N) (k : Fin 1024) (y : Fin 512) :
    iblk m c 3 t (ix3 0 k y) = V m c main_v1 (ix3 (expt t) k y) := by
  blk_ext! [iblk, index_3 t, expt]

/-- An expert's gate projection. -/
theorem blk_gate (t : Fin cfg0.N) (k : Fin 1024) (x : Fin 256) :
    iblk m c 3 t (ix3 0 k ⟨x.val, by omega⟩) = argG m c (ix3 (expt t) k x) := by
  rw [blk_pair]
  entry_read
  pointwise
  rfl

/-- An expert's up projection. -/
theorem blk_up (t : Fin cfg0.N) (k : Fin 1024) (x : Fin 256) :
    iblk m c 3 t (ix3 0 k ⟨256 + x.val, by omega⟩) = argU m c (ix3 (expt t) k x) := by
  rw [blk_pair]
  entry_read
  pointwise
  rfl

/-- A block of the down projections. -/
theorem blk_down' (t : Fin cfg0.N) (x : Fin 256) (d : Fin 1024) :
    iblk m c 4 t (ix3 0 x d) = V m c main_v2 (ix3 (expt t) x d) := by
  blk_ext! [iblk, index_4 t, expt]

/-- An expert's down projection. -/
theorem blk_down (t : Fin cfg0.N) (x : Fin 256) (d : Fin 1024) :
    iblk m c 4 t (ix3 0 x d) = argD m c (ix3 (expt t) x d) := by
  rw [blk_down']
  entry_read
  pointwise
  rfl

/-- What the first point of a run leaves as weights. -/
def combOf (X : Vec Ideal S1024x128 .f32) : Vec Ideal S1024x128 .f32 :=
  k0_pay8 (k0_pay7 (k0_pay1 (F := Ideal)) (k0_pay4 X) (k0_pay5 X) (k0_pay6 X))

theorem comb_first (t : Fin cfg0.N) (h0 : t.val % 32 = 0) (j : S1024x128.Idx) :
    (outsAt0 m c t.val t.isLt).2.2 j = combOf (iblk m c 2 t) j := by
  rw [outsAt0_A m c t h0 (by omega)]
  frame_out
  rfl

theorem comb_next (t : Fin cfg0.N) (h0 : ¬ t.val % 32 = 0) (j : S1024x128.Idx) :
    (outsAt0 m c t.val t.isLt).2.2 j = (outsAt0 m c (t.val - 1) (Nat.lt_of_le_of_lt (Nat.sub_le _ _) t.isLt)).2.2 j := by
  by_cases h1 : t.val % 32 = 31
  · rw [outsAt0_C m c t h0 h1]; frame_out; rfl
  · rw [outsAt0_B m c t h0 h1]; frame_out; rfl

/-- What one expert adds at an entry of a tile, the weights of the tile given. -/
def step (t : Fin cfg0.N) (cb : Vec Ideal S1024x128 .f32) (r d : Fin 1024) : EReal :=
  (∑ l : Fin 128, Scalar.select (IntOp.cmpi .eq (BitVec.ofNat 32 l.val) (BitVec.ofNat 32 (t.val % 32))) (cb (ix2 r l)) (0 : EReal))
    * expertAt (argH m c) (argG m c) (argU m c) (argD m c) (tok t r) (expt t) d

theorem pay10_at (t : Fin cfg0.N) (cb : Vec Ideal S1024x128 .f32) (acc : Vec Ideal S1024x1024 .f32) (r d : Fin 1024) :
    k0_pay10 (grid0.coords t) (iblk m c 1 t) (iblk m c 3 t) (iblk m c 4 t) cb acc (ix2 r d)
      = acc (ix2 r d) + step m c t cb r d := by
  pointwise [k0_pay10]
  simp only [blk_h, blk_gate, blk_up, blk_down, coords_1]
  rfl

theorem acc_first (t : Fin cfg0.N) (h0 : t.val % 32 = 0) (r d : Fin 1024) :
    (outsAt0 m c t.val t.isLt).2.1 (ix2 r d)
      = argX m c (ix2 (tok t r) d) + step m c t (outsAt0 m c t.val t.isLt).2.2 r d := by
  have hc : (outsAt0 m c t.val t.isLt).2.2 = combOf (iblk m c 2 t) := funext (comb_first m c t h0)
  rw [hc, outsAt0_A m c t h0 (by omega)]
  frame_out
  refine (pay10_at m c t _ _ r d).trans ?_
  refine congrArg₂ _ ?_ rfl
  pointwise [k0_pay9, blk_x1]

theorem acc_next (t : Fin cfg0.N) (h0 : ¬ t.val % 32 = 0) (r d : Fin 1024) :
    (outsAt0 m c t.val t.isLt).2.1 (ix2 r d)
      = (outsAt0 m c (t.val - 1) (Nat.lt_of_le_of_lt (Nat.sub_le _ _) t.isLt)).2.1 (ix2 r d)
        + step m c t (outsAt0 m c t.val t.isLt).2.2 r d := by
  have hc : (outsAt0 m c t.val t.isLt).2.2 = (outsAt0 m c (t.val - 1) (Nat.lt_of_le_of_lt (Nat.sub_le _ _) t.isLt)).2.2 :=
    funext (comb_next m c t h0)
  rw [hc]
  by_cases h1 : t.val % 32 = 31
  · rw [outsAt0_C m c t h0 h1]
    frame_out
    simp only [read_unread_whole]
    exact pay10_at m c t _ _ r d
  · rw [outsAt0_B m c t h0 h1]
    frame_out
    simp only [read_unread_whole]
    exact pay10_at m c t _ _ r d

theorem out_last (t : Fin cfg0.N) (h1 : t.val % 32 = 31) (j : S1024x1024.Idx) :
    (outsAt0 m c t.val t.isLt).1 j = (outsAt0 m c t.val t.isLt).2.1 j := by
  rw [outsAt0_C m c t (by omega) h1]
  frame_out

/-- Selecting one expert's lane out of a row of weights. -/
theorem sum_lane (f : Fin 128 → EReal) (e : Fin 32) :
    ∑ l : Fin 128, Scalar.select (IntOp.cmpi .eq (BitVec.ofNat 32 l.val) (BitVec.ofNat 32 e.val)) (f l) (0 : EReal)
      = f ⟨e.val, by omega⟩ := by
  have h : ∀ l : Fin 128, Scalar.select (IntOp.cmpi .eq (BitVec.ofNat 32 l.val) (BitVec.ofNat 32 e.val)) (f l) (0 : EReal)
      = if l = ⟨e.val, by omega⟩ then f l else 0 := by
    intro l
    have he : (BitVec.ofNat 32 l.val = BitVec.ofNat 32 e.val) ↔ l = ⟨e.val, by omega⟩ := by
      rw [Fin.ext_iff, ← BitVec.toNat_inj, BitVec.toNat_ofNat, BitVec.toNat_ofNat]
      have := e.isLt
      have := l.isLt
      show _ ↔ l.val = e.val
      omega
    show Scalar.select (BitVec.ofBool (BitVec.ofNat 32 l.val == BitVec.ofNat 32 e.val)) _ _ = _
    rw [beq_eq_decide]
    split
    · rename_i h
      rw [decide_eq_true (he.2 h)]
      rfl
    · rename_i h
      rw [decide_eq_false (mt he.1 h)]
      rfl
  simp only [h]
  rw [Finset.sum_ite_eq' Finset.univ]
  exact if_pos (Finset.mem_univ _)

/-- A row of the router's logits. -/
def rowL (n : Fin 32768) (l : Fin 128) : EReal := argL m c (ix2 n l)

/-- The weights held through a run are the router's for the tile's tokens. -/
theorem comb_weight (t : Fin cfg0.N) (r : Fin 1024) {g : Fin 4} {a b : Fin 8} (hg : IsTop (gLogit (rowL m c (tok t r))) g)
    (hb : gLogit (rowL m c (tok t r)) g ≠ ⊥) (ht : gLogit (rowL m c (tok t r)) g ≠ ⊤)
    (hs : ∀ k, 0 ≤ sm (xLogit (rowL m c (tok t r)) g) k) (ha : IsTop (sm (xLogit (rowL m c (tok t r)) g)) a)
    (hab : IsSecond (sm (xLogit (rowL m c (tok t r)) g)) a b) (l : Fin 128) :
    (outsAt0 m c t.val t.isLt).2.2 (ix2 r l) = weight (rowL m c (tok t r)) g a b l := by
  rw [Pipeline.eq_of_write_hold_apply (fun n h => (outsAt0 m c n h).2.2) 32 (fun t => combOf (iblk m c 2 t))
    (fun t h j => comb_first m c t h j) (fun t h j => comb_next m c t h j) t (ix2 r l)]
  have hr : rowOf (iblk m c 2 ⟨32 * (t.val / 32), Pipeline.run_start_lt t⟩) r = rowL m c (tok t r) := by
    funext l
    refine (blk_lg m c _ r l).trans (congrArg (argL m c) (congrArg (ix2 · l) (Fin.ext ?_)))
    show 1024 * (32 * (t.val / 32) / 32) + r.val = 1024 * (t.val / 32) + r.val
    omega
  rw [← hr] at hg hb ht hs ha hab ⊢
  exact comb_at hg hb ht hs ha hab l

/-- The accumulator after `s + 1` experts of a run. -/
theorem acc_run (q : ℕ) (hq : q < 32) (r d : Fin 1024) {g : Fin 4} {a b : Fin 8} (n : Fin 32768) (hn : n.val = 1024 * q + r.val)
    (hg : IsTop (gLogit (rowL m c n)) g) (hb : gLogit (rowL m c n) g ≠ ⊥) (ht : gLogit (rowL m c n) g ≠ ⊤)
    (hs : ∀ k, 0 ≤ sm (xLogit (rowL m c n) g) k) (ha : IsTop (sm (xLogit (rowL m c n) g)) a)
    (hab : IsSecond (sm (xLogit (rowL m c n) g)) a b) (s : ℕ) (hs' : s < 32) :
    (outsAt0 m c (32 * q + s) (lt_of_lt_of_eq (by omega) N_0.symm)).2.1 (ix2 r d)
      = argX m c (ix2 n d) + ∑ e : Fin (s + 1), weight (rowL m c n) g a b ⟨e.val, by omega⟩
        * expertAt (argH m c) (argG m c) (argU m c) (argD m c) n ⟨e.val, by omega⟩ d := by
  have hstep : ∀ (s : ℕ) (hs' : s < 32) (hN : 32 * q + s < cfg0.N),
      step m c ⟨32 * q + s, hN⟩ (outsAt0 m c (32 * q + s) hN).2.2 r d
        = weight (rowL m c n) g a b ⟨s, by omega⟩ * expertAt (argH m c) (argG m c) (argU m c) (argD m c) n ⟨s, hs'⟩ d := by
    intro s hs' hN
    have htok : tok ⟨32 * q + s, hN⟩ r = n := Fin.ext (show 1024 * ((32 * q + s) / 32) + r.val = n.val by omega)
    have hexp : expt ⟨32 * q + s, hN⟩ = ⟨s, hs'⟩ := Fin.ext (show (32 * q + s) % 32 = s by omega)
    have hw := comb_weight m c ⟨32 * q + s, hN⟩ r (g := g) (a := a) (b := b)
    rw [htok] at hw
    have hl := sum_lane (fun l => (outsAt0 m c (32 * q + s) hN).2.2 (ix2 r l)) (expt ⟨32 * q + s, hN⟩)
    unfold step
    rw [htok]
    refine congrArg₂ _ (hl.trans ?_) (by rw [hexp])
    rw [hexp]
    exact hw hg hb ht hs ha hab _
  induction s with
  | zero =>
    have h := acc_first m c ⟨32 * q + 0, lt_of_lt_of_eq (by omega) N_0.symm⟩ (show (32 * q + 0) % 32 = 0 by omega) r d
    refine h.trans ?_
    rw [Fin.sum_univ_one]
    refine congrArg₂ _ (congrArg (argX m c) (congrArg (ix2 · d) (Fin.ext ?_))) (hstep 0 (by omega) _)
    show 1024 * ((32 * q + 0) / 32) + r.val = n.val
    omega
  | succ s ih =>
    have h := acc_next m c ⟨32 * q + (s + 1), lt_of_lt_of_eq (by omega) N_0.symm⟩ (show ¬ (32 * q + (s + 1)) % 32 = 0 by omega) r d
    refine h.trans ?_
    rw [Fin.sum_univ_castSucc]
    exact (congrArg₂ _ (ih (by omega) hstep) (hstep (s + 1) hs' _)).trans (add_assoc _ _ _)

/-- The kernel's result at an index. -/
theorem result_at (n : Fin 32768) (d : Fin 1024) {g : Fin 4} {a b : Fin 8}
    (hg : IsTop (gLogit (rowL m c n)) g) (hb : gLogit (rowL m c n) g ≠ ⊥) (ht : gLogit (rowL m c n) g ≠ ⊤)
    (hs : ∀ k, 0 ≤ sm (xLogit (rowL m c n) g) k) (ha : IsTop (sm (xLogit (rowL m c n) g)) a)
    (hab : IsSecond (sm (xLogit (rowL m c n) g)) a b) :
    G5 m c (ix2 n d) = argX m c (ix2 n d) + ∑ e : Fin 32, weight (rowL m c n) g a b ⟨e.val, by omega⟩
        * expertAt (argH m c) (argG m c) (argU m c) (argD m c) n e d := by
  have hp : pt5Of (ix2 n d) = 32 * (n.val / 1024) + 31 := by
    show 32 * (1 * (n.val / 1024 - 0) + 1 * (d.val / 1024 - 0)) + 31 = _
    have := d.isLt
    omega
  have hN : pt5Of (ix2 n d) < cfg0.N := by
    rw [hp]
    exact lt_of_lt_of_eq (by omega) N_0.symm
  have hl : loc5Of (ix2 n d) = ix2 (⟨n.val % 1024, by omega⟩ : Fin 1024) d := by
    funext i
    match i with
    | ⟨0, _⟩ => exact Fin.ext (by show n.val % 1024 = _; rfl)
    | ⟨1, _⟩ => exact Fin.ext (by show d.val % 1024 = d.val; omega)
  unfold G5
  rw [dif_pos hN, ← outsAt0_sweep, hl]
  have ho := out_last m c ⟨pt5Of (ix2 n d), hN⟩ (by show pt5Of (ix2 n d) % 32 = 31; omega) (ix2 (⟨n.val % 1024, by omega⟩ : Fin 1024) d)
  refine ho.trans ?_
  have ha := acc_run m c (n.val / 1024) (by omega) ⟨n.val % 1024, by omega⟩ d n
    (show n.val = 1024 * (n.val / 1024) + n.val % 1024 by omega) hg hb ht hs ha hab 31 (by omega)
  simp only [hp]
  exact ha

end Cert.MoeIdeal.Mine

end
-- ==== Proof.Moe.Ref.lean ====
/-
  The reference's run as a composition of stages: the chosen group, its experts' probabilities, the two greatest of them,
  the combine weights and the experts' outputs.
-/
module

public import proofs.«01_k».proof.Proof.Gen.MoeRefIdeal.Run
public import Idealize.ShloMosaic.PureOps.Ideal

@[expose] public section

set_option maxRecDepth 16384

noncomputable section

namespace Cert.MoeRefIdeal.Mine

open Cert.MoeRefIdeal Cert.MoeRefIdeal.Gen Cert.MoeRefIdeal.Value Idealize.ShloMosaic Idealize.ShloMosaic.TcCoe Idealize.SL.Sem

/-- The group logits of every token. -/
def glog (lg : FVec Ideal S32768x128 .f32) : FVec Ideal S32768x4 .f32 :=
  extractStridedSlice S32768x4 ![0, 32] lg slices_S32768x128_S32768x4_0_32

/-- The expert logits of every token, by group. -/
def elog (lg : FVec Ideal S32768x128 .f32) : FVec Ideal S32768x4x8 .f32 :=
  shapeCast S32768x4x8 (extractStridedSlice S32768x32 ![0, 0] lg slices_S32768x128_S32768x32_0_0) shapeCasts_S32768x32_S32768x4x8

/-- The number of the chosen group. -/
def gIdx (lg : FVec Ideal S32768x128 .f32) : IVec S32768 32 :=
  shapeCast S32768 ((Host.topK S32768x1 1 (FloatOps.cmpfTotal .gt) (glog lg) sliceFits_S32768x4_S32768x1).2) shapeCasts_S32768x1_S32768

/-- A number, with the extent added where it is negative. -/
def wrapped (w : BitVec 32) (x : IVec S32768 32) : IVec S32768x1 32 :=
  broadcastInDim S32768x1 ![0] bcast_S32768_S32768x1_0
    (select (cmpi .slt x (broadcastInDim S32768 ![] bcast_S_S32768 (constantI S_ 32 0#32)))
      (addi x (broadcastInDim S32768 ![] bcast_S_S32768 (constantI S_ 32 w))) x)

/-- The pairs (token, chosen group) that entries are taken at. -/
def pairs (lg : FVec Ideal S32768x128 .f32) : IVec S32768x2 32 :=
  concatenate S32768x2 1 [⟨S32768x1, wrapped 32768#32 (iotaInDim S32768 32 0)⟩, ⟨S32768x1, wrapped 4#32 (gIdx lg)⟩]
    concatenates_S32768x1_S32768x1_S32768x2_d1

/-- The exponentials of four logits less their greatest. -/
def ex4 (x : FVec Ideal S32768x4 .f32) : FVec Ideal S32768x4 .f32 :=
  Host.exp (subf x (broadcastInDim S32768x4 ![0, 1] bcast_S32768x1_S32768x4_0_1 (broadcastInDim S32768x1 ![0] bcast_S32768_S32768x1_0
    (maximumf (broadcastInDim S32768 ![] bcast_S_S32768 (constant S_ .f32 0xFF800000#32))
      (Host.reduce FloatOps.maximumf x (constant S_ .f32 0xFF800000#32) reducesTo_S32768x4_S32768_d1 h_S_)))))

/-- The softmax of four logits. -/
def sm4 (x : FVec Ideal S32768x4 .f32) : FVec Ideal S32768x4 .f32 :=
  Host.divf (ex4 x) (broadcastInDim S32768x4 ![0, 1] bcast_S32768x1_S32768x4_0_1 (broadcastInDim S32768x1 ![0] bcast_S32768_S32768x1_0
    (Host.reduceAdd (ex4 x) (constant S_ .f32 0x00000000#32) reducesTo_S32768x4_S32768_d1 h_S_)))

/-- The exponentials of eight logits less their greatest. -/
def ex8 (x : FVec Ideal S32768x8 .f32) : FVec Ideal S32768x8 .f32 :=
  Host.exp (subf x (broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf x (constant S_ .f32 0xFF800000#32) reducesTo_S32768x8_S32768_d1 h_S_)))))

/-- The softmax of eight logits. -/
def sm8 (x : FVec Ideal S32768x8 .f32) : FVec Ideal S32768x8 .f32 :=
  Host.divf (ex8 x) (broadcastInDim S32768x8 ![0, 1] bcast_S32768x1_S32768x8_0_1 (broadcastInDim S32768x1 ![0] bcast_S32768_S32768x1_0
    (Host.reduceAdd (ex8 x) (constant S_ .f32 0x00000000#32) reducesTo_S32768x8_S32768_d1 h_S_)))

/-- The probability of the chosen group. -/
def pg (lg : FVec Ideal S32768x128 .f32) : FVec Ideal S32768 .f32 :=
  Host.gather gather_S32768x4_S32768x2_S32768_n_01_n_n_01_1_11 (sm4 (glog lg)) (pairs lg)

/-- The logits of the chosen group's experts. -/
def chosen (lg : FVec Ideal S32768x128 .f32) : FVec Ideal S32768x8 .f32 :=
  Host.gather gather_S32768x4x8_S32768x2_S32768x8_1_01_n_n_01_1_118 (elog lg) (pairs lg)

/-- The two greatest probabilities of the chosen group's experts, and their numbers in the group. -/
def top2 (lg : FVec Ideal S32768x128 .f32) : FVec Ideal S32768x2 .f32 × IVec S32768x2 32 :=
  Host.topK S32768x2 1 (FloatOps.cmpfTotal .gt) (sm8 (chosen lg)) sliceFits_S32768x8_S32768x2

/-- The two chosen experts' numbers. -/
def expertId (lg : FVec Ideal S32768x128 .f32) : IVec S32768x2 32 :=
  addi (broadcastInDim S32768x2 ![0, 1] bcast_S32768x1_S32768x2_0_1 (muli (broadcastInDim S32768x1 ![0] bcast_S32768_S32768x1_0 (gIdx lg))
    (broadcastInDim S32768x1 ![] bcast_S_S32768x1 (constantI S_ 32 8#32)))) (top2 lg).2

/-- The two chosen experts' weights. -/
def weights (lg : FVec Ideal S32768x128 .f32) : FVec Ideal S32768x2 .f32 :=
  mulf (broadcastInDim S32768x2 ![0, 1] bcast_S32768x1_S32768x2_0_1 (broadcastInDim S32768x1 ![0] bcast_S32768_S32768x1_0 (pg lg)))
    (Host.divf (top2 lg).1 (broadcastInDim S32768x2 ![0, 1] bcast_S32768x1_S32768x2_0_1 (broadcastInDim S32768x1 ![0] bcast_S32768_S32768x1_0
      (Host.reduceAdd (top2 lg).1 (constant S_ .f32 0x00000000#32) reducesTo_S32768x2_S32768_d1 h_S_))))

/-- The weight of every expert at every token. -/
def combine (lg : FVec Ideal S32768x128 .f32) : FVec Ideal S32768x32 .f32 :=
  Host.reduceAdd (mulf (uitofp .f32 (cmpi .eq
      (broadcastInDim S32768x2x32 ![0, 1, 2] bcast_S32768x2x1_S32768x2x32_0_1_2 (broadcastInDim S32768x2x1 ![0, 1] bcast_S32768x2_S32768x2x1_0_1 (expertId lg)))
      (broadcastInDim S32768x2x32 ![0, 1, 2] bcast_S1x1x32_S32768x2x32_0_1_2 (iotaInDim S1x1x32 32 2))))
    (broadcastInDim S32768x2x32 ![0, 1, 2] bcast_S32768x2x1_S32768x2x32_0_1_2 (broadcastInDim S32768x2x1 ![0, 1] bcast_S32768x2_S32768x2x1_0_1 (weights lg))))
    (constant S_ .f32 0x00000000#32) reducesTo_S32768x2x32_S32768x32_d1 h_S_

/-- Every expert's projection of every token. -/
def proj (w : FVec Ideal S32x1024x256 .f32) (h : FVec Ideal S32768x1024 .bf16) : FVec Ideal S32x32768x256 .f32 :=
  transpose S32x32768x256 [0, 2, 1] (Host.dotGeneral dot_S32x1024x256_S32768x1024_S32x256x32768_1_1_02_0_n_n none w (extf .f32 h bitsLt_bf16_f32))
    transposes_S32x256x32768_S32x32768x256_0_2_1

/-- Every expert's output at every token. -/
def expertOut (h : FVec Ideal S32768x1024 .bf16) (wg wu : FVec Ideal S32x1024x256 .f32) (wd : FVec Ideal S32x256x1024 .f32) :
    FVec Ideal S32x32768x1024 .f32 :=
  Host.dotGeneral dot_S32x32768x256_S32x256x1024_S32x32768x1024_2_1_1_2_0_0 none
    (mulf (mulf (proj wg h) (Host.divf (broadcastInDim S32x32768x256 ![] bcast_S_S32x32768x256 (constant S_ .f32 0x3F800000#32))
      (addf (broadcastInDim S32x32768x256 ![] bcast_S_S32x32768x256 (constant S_ .f32 0x3F800000#32)) (Host.exp (Host.negf (proj wg h))))))
      (proj wu h)) wd

/-- The result: every token plus its experts' outputs by their weights. -/
def result (x1 : FVec Ideal S32768x1024 .f32) (h : FVec Ideal S32768x1024 .bf16) (lg : FVec Ideal S32768x128 .f32)
    (wg wu : FVec Ideal S32x1024x256 .f32) (wd : FVec Ideal S32x256x1024 .f32) : FVec Ideal S32768x1024 .f32 :=
  addf x1 (Host.reduceAdd (mulf (broadcastInDim S32x32768x1024 ![0, 1, 2] bcast_S32x32768x1_S32x32768x1024_0_1_2
      (broadcastInDim S32x32768x1 ![0, 1] bcast_S32x32768_S32x32768x1_0_1 (transpose S32x32768 [1, 0] (combine lg) transposes_S32768x32_S32x32768_1_0)))
    (expertOut h wg wu wd)) (constant S_ .f32 0x00000000#32) reducesTo_S32x32768x1024_S32768x1024_d0 h_S_)

/-- The reference's run ends with the stages composed. -/
theorem res_eq (m : (ℓ : Loc nD τ sig) → Buf (Elt Ideal) ℓ) (c : Dev nD) :
    res_main_v85 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold res_main_v85
  rfl

end Cert.MoeRefIdeal.Mine

end
-- ==== Proof.Moe.RefRead.lean ====
/-
  The reference's stages read at an index: its combine weights are the router's for the top group and the first and second
  expert of it, and its result is the token plus the weighted sum of the experts' outputs.
-/
module

public import proofs.«01_k».proof.Proof.Moe.Ref
public import proofs.«01_k».proof.Proof.Moe.Model
public import Idealize.ShloMosaic.Lib.Pointwise

@[expose] public section

set_option maxRecDepth 16384

noncomputable section

namespace Cert.MoeRefIdeal.Mine

open Cert.MoeRefIdeal Cert.MoeRefIdeal.Gen Cert.MoeRoute Idealize.ShloMosaic Idealize.ShloMosaic.TcCoe Idealize.SL.Sem

/-! ## The greatest entries of every row -/

/-- One entry precedes another when it is greater. -/
def gtBool {n : ℕ} (F : Fin n → EReal) (i j : Fin n) : Bool :=
  FloatOps.cmpfTotal (F := Ideal) (φ := .f32) .gt (F i) (F j) == 1#1

theorem gtBool_iff {n : ℕ} (F : Fin n → EReal) (i j : Fin n) : gtBool F i j = true ↔ F j < F i := by
  show (BitVec.ofBool (decide (F j < F i)) == 1#1) = true ↔ F j < F i
  by_cases h : F j < F i <;> simp [h]

/-- The column of a row's entry that is sorted to place `k`. -/
def sorted {n : ℕ} (F : Fin n → EReal) (k : Fin n) : Fin n := sortedFrom (gtBool F) k

theorem along_row {R C : ℕ} (j : (⟨2, ![R, C]⟩ : Shape).Idx) (n : Fin R) (hj : (j 0).val = n.val) (c : Fin C) :
    j.along (1 : Fin 2) c = ix2 n c := by
  funext a
  match a with
  | ⟨0, _⟩ => exact Fin.ext hj
  | ⟨1, _⟩ => rfl

/-- The values of the greatest entries of a row. -/
theorem topK_val {R C K : ℕ} (x : FVec Ideal ⟨2, ![R, C]⟩ .f32) (h) (n : Fin R) (k : Fin K) (hk : k.val < C) :
    (Host.topK ⟨2, ![R, K]⟩ 1 (FloatOps.cmpfTotal .gt) x h).1 (ix2 n k)
      = x (ix2 n (sorted (fun c => x (ix2 n c)) ⟨k.val, hk⟩)) := by
  have hr : ∀ (j : (⟨2, ![R, C]⟩ : Shape).Idx), (j 0).val = n.val → ∀ k' : Fin C, (j 1) = k' →
      x (j.along (1 : Fin 2) (sortedFrom (fun a b : Fin C => FloatOps.cmpfTotal (F := Ideal) (φ := .f32) .gt
        (x (j.along (1 : Fin 2) a)) (x (j.along (1 : Fin 2) b)) == 1#1) (j 1)))
        = x (ix2 n (sorted (fun c => x (ix2 n c)) k')) := by
    intro j hj k' hk'
    subst hk'
    refine (congrArg x (along_row j n hj _)).trans ?_
    simp only [along_row j n hj]
    rfl
  exact hr _ (Nat.zero_add _) ⟨k.val, hk⟩ (Fin.ext (Nat.zero_add _))

/-- The columns of the greatest entries of a row. -/
theorem topK_idx {R C K : ℕ} (x : FVec Ideal ⟨2, ![R, C]⟩ .f32) (h) (n : Fin R) (k : Fin K) (hk : k.val < C) :
    (Host.topK ⟨2, ![R, K]⟩ 1 (FloatOps.cmpfTotal .gt) x h).2 (ix2 n k)
      = BitVec.ofNat 32 (sorted (fun c => x (ix2 n c)) ⟨k.val, hk⟩).val := by
  have hr : ∀ (j : (⟨2, ![R, C]⟩ : Shape).Idx), (j 0).val = n.val → ∀ k' : Fin C, (j 1) = k' →
      BitVec.ofNat 32 (sortedFrom (fun a b : Fin C => FloatOps.cmpfTotal (F := Ideal) (φ := .f32) .gt
        (x (j.along (1 : Fin 2) a)) (x (j.along (1 : Fin 2) b)) == 1#1) (j 1)).val
        = BitVec.ofNat 32 (sorted (fun c => x (ix2 n c)) k').val := by
    intro j hj k' hk'
    subst hk'
    simp only [along_row j n hj]
    rfl
  exact hr _ (Nat.zero_add _) ⟨k.val, hk⟩ (Fin.ext (Nat.zero_add _))

/-! ## The chosen group -/

variable (lg : FVec Ideal S32768x128 .f32) (n : Fin 32768)

/-- The logits of one token. -/
def row (lg : FVec Ideal S32768x128 .f32) (n : Fin 32768) (l : Fin 128) : EReal := lg (ix2 n l)

/-- The group chosen for a token. -/
def grp (lg : FVec Ideal S32768x128 .f32) (n : Fin 32768) : Fin 4 := sorted (gLogit (row lg n)) 0

/-- The first expert chosen for a token. -/
def fst (lg : FVec Ideal S32768x128 .f32) (n : Fin 32768) : Fin 8 := sorted (sm (xLogit (row lg n) (grp lg n))) 0

/-- The second expert chosen for a token. -/
def snd (lg : FVec Ideal S32768x128 .f32) (n : Fin 32768) : Fin 8 := sorted (sm (xLogit (row lg n) (grp lg n))) 1

theorem glog_at (g : Fin 4) : glog lg (ix2 n g) = gLogit (row lg n) g := by
  pointwise [glog]
  rfl

theorem elog_at (g : Fin 4) (k : Fin 8) : elog lg (ix3 n g k) = xLogit (row lg n) g k := by
  pointwise [elog]
  unfold xLogit row xLane
  congr 2
  exact Fin.ext (show g.val * 8 + k.val = 8 * g.val + k.val by omega)

/-- The number of the chosen group. -/
theorem gIdx_at : gIdx lg (ix1 n) = BitVec.ofNat 32 (grp lg n).val := by
  pointwise [gIdx]
  rw [topK_idx _ _ n 0 (by decide)]
  simp only [glog_at]
  rfl

/-- A small number is not wrapped. -/
theorem wrapped_at (w : BitVec 32) (x : IVec S32768 32) (q : Fin 1) (v : ℕ) (hx : x (ix1 n) = BitVec.ofNat 32 v)
    (hv : v < 2 ^ 31) : wrapped w x (ix2 n q) = BitVec.ofNat 32 v := by
  pointwise [wrapped]
  rw [hx]
  have : ¬ (BitVec.ofNat 32 v).toInt < (0#32).toInt := by
    rw [BitVec.toInt_eq_toNat_of_lt (by rw [BitVec.toNat_ofNat]; omega)]
    exact not_lt.2 (Int.natCast_nonneg _)
  show Scalar.select (BitVec.ofBool (decide ((BitVec.ofNat 32 v).toInt < (0#32).toInt))) _ _ = _
  rw [decide_eq_false this]
  rfl

theorem pairs_0 : pairs lg (ix2 n 0) = BitVec.ofNat 32 n.val := by
  pointwise [pairs]
  exact wrapped_at n _ _ _ n.val rfl (by omega)

theorem pairs_1 : pairs lg (ix2 n 1) = BitVec.ofNat 32 (grp lg n).val := by
  pointwise [pairs]
  exact wrapped_at n _ _ _ _ (gIdx_at lg n) (by have := (grp lg n).isLt; omega)

/-- A small number read signed and kept below the extent is itself. -/
theorem clamp_small (w : BitVec 32) (v b : ℕ) (hw : w = BitVec.ofNat 32 v) (hb : b < 2 ^ 31) (hv : v ≤ b) :
    min w.toInt.toNat b = v := by
  rw [hw, BitVec.toInt_eq_toNat_of_lt (by rw [BitVec.toNat_ofNat]; omega), BitVec.toNat_ofNat]
  omega

/-- An entry of every row, at the column its pair names. -/
theorem gather4_at (x : FVec Ideal S32768x4 .f32) (idx : IVec S32768x2 32) (g : Fin 4)
    (h0 : idx (ix2 n 0) = BitVec.ofNat 32 n.val) (h1 : idx (ix2 n 1) = BitVec.ofNat 32 g.val) :
    Host.gather gather_S32768x4_S32768x2_S32768_n_01_n_n_01_1_11 x idx (ix1 n) = x (ix2 n g) := by
  have hs : ∀ c : Fin 2, gather_S32768x4_S32768x2_S32768_n_01_n_n_01_1_11.siIdx (ix1 n) c = ix2 n c := by
    intro c
    funext b
    match b with
    | ⟨0, _⟩ => rfl
    | ⟨1, _⟩ => rfl
  unfold Host.gather
  refine congrArg x (funext fun a => Fin.ext ?_)
  have hn := n.isLt
  have hg := g.isLt
  match a with
  | ⟨0, _⟩ =>
    show min (idx (gather_S32768x4_S32768x2_S32768_n_01_n_n_01_1_11.siIdx (ix1 n) (0 : Fin 2))).toInt.toNat 32767 = n.val
    exact clamp_small _ _ _ ((congrArg idx (hs 0)).trans h0) (by omega) (by omega)
  | ⟨1, _⟩ =>
    show min (idx (gather_S32768x4_S32768x2_S32768_n_01_n_n_01_1_11.siIdx (ix1 n) (1 : Fin 2))).toInt.toNat 3 = g.val
    exact clamp_small _ _ _ ((congrArg idx (hs 1)).trans h1) (by omega) (by omega)

/-- A row of every matrix, at the row its pair names. -/
theorem gather8_at (x : FVec Ideal S32768x4x8 .f32) (idx : IVec S32768x2 32) (g : Fin 4) (k : Fin 8)
    (h0 : idx (ix2 n 0) = BitVec.ofNat 32 n.val) (h1 : idx (ix2 n 1) = BitVec.ofNat 32 g.val) :
    Host.gather gather_S32768x4x8_S32768x2_S32768x8_1_01_n_n_01_1_118 x idx (ix2 n k) = x (ix3 n g k) := by
  have hs : ∀ c : Fin 2, gather_S32768x4x8_S32768x2_S32768x8_1_01_n_n_01_1_118.siIdx (ix2 n k) c = ix2 n c := by
    intro c
    funext b
    match b with
    | ⟨0, _⟩ => rfl
    | ⟨1, _⟩ => rfl
  unfold Host.gather
  refine congrArg x (funext fun a => Fin.ext ?_)
  have hn := n.isLt
  have hg := g.isLt
  match a with
  | ⟨0, _⟩ =>
    show min (idx (gather_S32768x4x8_S32768x2_S32768x8_1_01_n_n_01_1_118.siIdx (ix2 n k) (0 : Fin 2))).toInt.toNat 32767 = n.val
    exact clamp_small _ _ _ ((congrArg idx (hs 0)).trans h0) (by omega) (by omega)
  | ⟨1, _⟩ =>
    show min (idx (gather_S32768x4x8_S32768x2_S32768x8_1_01_n_n_01_1_118.siIdx (ix2 n k) (1 : Fin 2))).toInt.toNat 3 = g.val
    exact clamp_small _ _ _ ((congrArg idx (hs 1)).trans h1) (by omega) (by omega)
  | ⟨2, _⟩ =>
    show 0 + 0 + k.val = k.val
    omega

theorem ex4_at (x : FVec Ideal S32768x4 .f32) (q : Fin 4) : ex4 x (ix2 n q) = ex (fun c => x (ix2 n c)) q := by
  pointwise [ex4]
  rw [ofBits_bot, max_eq_right bot_le]
  rfl

theorem sm4_at (x : FVec Ideal S32768x4 .f32) (q : Fin 4) : sm4 x (ix2 n q) = sm (fun c => x (ix2 n c)) q := by
  pointwise [sm4, ex4_at]
  rfl

theorem ex8_at (x : FVec Ideal S32768x8 .f32) (q : Fin 8) : ex8 x (ix2 n q) = ex (fun c => x (ix2 n c)) q := by
  pointwise [ex8]
  rw [ofBits_bot, max_eq_right bot_le]
  rfl

theorem sm8_at (x : FVec Ideal S32768x8 .f32) (q : Fin 8) : sm8 x (ix2 n q) = sm (fun c => x (ix2 n c)) q := by
  pointwise [sm8, ex8_at]
  rfl

/-- The probability of the chosen group. -/
theorem pg_at : pg lg (ix1 n) = sm (gLogit (row lg n)) (grp lg n) := by
  unfold pg
  rw [gather4_at n _ _ _ (pairs_0 lg n) (pairs_1 lg n), sm4_at]
  simp only [glog_at]

/-- The probabilities of the chosen group's experts. -/
theorem probs_at (k : Fin 8) : sm8 (chosen lg) (ix2 n k) = sm (xLogit (row lg n) (grp lg n)) k := by
  rw [sm8_at]
  unfold chosen
  simp only [gather8_at n _ _ _ _ (pairs_0 lg n) (pairs_1 lg n), elog_at]

theorem top2_val (k : Fin 2) :
    (top2 lg).1 (ix2 n k) = sm (xLogit (row lg n) (grp lg n)) (sorted (sm (xLogit (row lg n) (grp lg n))) ⟨k.val, by omega⟩) := by
  unfold top2
  rw [topK_val _ _ n k (by omega)]
  simp only [probs_at]

theorem top2_idx (k : Fin 2) :
    (top2 lg).2 (ix2 n k) = BitVec.ofNat 32 (sorted (sm (xLogit (row lg n) (grp lg n))) ⟨k.val, by omega⟩).val := by
  unfold top2
  rw [topK_idx _ _ n k (by omega)]
  simp only [probs_at]

theorem expertId_at (k : Fin 2) : expertId lg (ix2 n k)
    = BitVec.ofNat 32 (8 * (grp lg n).val + (sorted (sm (xLogit (row lg n) (grp lg n))) ⟨k.val, by omega⟩).val) := by
  pointwise [expertId]
  rw [gIdx_at, top2_idx]
  refine BitVec.eq_of_toNat_eq ?_
  simp only [IntOp.addi, IntOp.muli, BitVec.toNat_add, BitVec.toNat_mul, BitVec.toNat_ofNat]
  omega

theorem weights_at (k : Fin 2) : weights lg (ix2 n k)
    = sm (gLogit (row lg n)) (grp lg n) * Ideal.div ((top2 lg).1 (ix2 n k)) ((top2 lg).1 (ix2 n 0) + (top2 lg).1 (ix2 n 1)) := by
  pointwise [weights, pg_at]
  rw [Fin.sum_univ_two]

/-- The weight of every expert at a token is the router's. -/
theorem combine_at (e : Fin 32) :
    combine lg (ix2 n e) = weight (row lg n) (grp lg n) (fst lg n) (snd lg n) ⟨e.val, by omega⟩ := by
  pointwise [combine]
  rw [Fin.sum_univ_two, weights_at, weights_at, expertId_at, expertId_at, top2_val, top2_val]
  have h : ∀ (v : ℕ) (hv : v < 128), FloatOps.uitofp (F := Ideal) FTy.f32 (IntOp.cmpi CmpIPredicate.eq (BitVec.ofNat 32 v) (BitVec.ofNat 32 e.val))
      = if (⟨e.val, by omega⟩ : Fin 128) = ⟨v, hv⟩ then (1 : EReal) else 0 := by
    intro v hv
    have he : (BitVec.ofNat 32 v = BitVec.ofNat 32 e.val) ↔ (⟨e.val, by omega⟩ : Fin 128) = ⟨v, hv⟩ := by
      rw [Fin.mk.injEq, ← BitVec.toNat_inj, BitVec.toNat_ofNat, BitVec.toNat_ofNat]
      have := e.isLt
      omega
    show (((BitVec.ofBool (BitVec.ofNat 32 v == BitVec.ofNat 32 e.val)).toNat : ℝ) : EReal) = _
    rw [beq_eq_decide]
    split
    · rename_i h
      simp [he.2 h]
    · rename_i h
      simp [mt he.1 h]
  have hg := (grp lg n).isLt
  have h0 := (sorted (sm (xLogit (row lg n) (grp lg n))) 0).isLt
  have h1 := (sorted (sm (xLogit (row lg n) (grp lg n))) 1).isLt
  rw [h _ (by omega), h _ (by omega)]
  simp only [ite_mul, one_mul, zero_mul]
  rfl

/-- The result at an index. -/
theorem result_at (x1 : FVec Ideal S32768x1024 .f32) (h : FVec Ideal S32768x1024 .bf16) (wg wu : FVec Ideal S32x1024x256 .f32)
    (wd : FVec Ideal S32x256x1024 .f32) (d : Fin 1024) :
    result x1 h lg wg wu wd (ix2 n d)
      = x1 (ix2 n d) + ∑ e : Fin 32, weight (row lg n) (grp lg n) (fst lg n) (snd lg n) ⟨e.val, by omega⟩
        * ∑ k : Fin 256, (∑ x : Fin 1024, wg (ix3 e x k) * h (ix2 n x)) * Ideal.logistic (∑ x : Fin 1024, wg (ix3 e x k) * h (ix2 n x))
          * (∑ x : Fin 1024, wu (ix3 e x k) * h (ix2 n x)) * wd (ix3 e k d) := by
  pointwise [result, combine_at, expertOut, proj]
  rfl

/-- The chosen group has the greatest logit. -/
theorem isTop_grp : IsTop (gLogit (row lg n)) (grp lg n) := isTop_sortedFrom _ _ (gtBool_iff _) _ rfl

/-- The first expert has the greatest probability. -/
theorem isTop_fst : IsTop (sm (xLogit (row lg n) (grp lg n))) (fst lg n) := isTop_sortedFrom _ _ (gtBool_iff _) _ rfl

/-- The second expert has the second greatest probability. -/
theorem isSecond_snd : IsSecond (sm (xLogit (row lg n) (grp lg n))) (fst lg n) (snd lg n) :=
  isSecond_sortedFrom _ _ (gtBool_iff _) _ _ rfl rfl

end Cert.MoeRefIdeal.Mine

end
-- ==== Proof.Moe.Finite.lean ====
module

public import proofs.«01_k».proof.Proof.Gen.Pre_largest_logits_are_finite
public import proofs.«01_k».proof.Proof.Moe.RefRead
public import Idealize.ShloMosaic.Lib.ReduceAll
public import Idealize.ShloMosaic.Lib.Pointwise
public import Idealize.ShloMosaic.Lib.Tactic.CleanTypes

/-! What the precondition says of a token: its greatest group logit is finite, and so is the greatest logit of every group. -/

@[expose] public section

set_option maxRecDepth 16384

noncomputable section

namespace Cert.Pre_largest_logits_are_finite.Mine

open Cert.Pre_largest_logits_are_finite Cert.Pre_largest_logits_are_finite.Gen Idealize.ShloMosaic Cert.MoeRoute Cert.MoeRefIdeal.Mine

variable (x1 : FVec Ideal S32768x1024 .f32) (h : FVec Ideal S32768x1024 .bf16) (lg : FVec Ideal S32768x128 .f32)
  (wg wu : FVec Ideal S32x1024x256 .f32) (wd : FVec Ideal S32x256x1024 .f32)

/-- A number whose magnitude is below the greatest is neither infinity. -/
theorem ne_of_abs (y : EReal) (hy : max y (-y) < ⊤) : y ≠ ⊥ ∧ y ≠ ⊤ := by
  constructor
  · rintro rfl
    exact absurd hy (by simp)
  · rintro rfl
    exact absurd hy (by simp)

/-- What a comparison's word says. -/
theorem lt_of_word (p : Prop) [Decidable p] (h : BitVec.ofBool (decide p) = 1#1) : p := by
  by_contra hp
  rw [decide_eq_false hp] at h
  exact absurd h (by decide)

/-- The greatest group logit of every token is finite. -/
theorem group_finite (hp : fn x1 h lg wg wu wd = fun _ => 1#1) (n : Fin 32768) :
    Finset.univ.fold max ⊥ (gLogit (row lg n)) ≠ ⊥ ∧ Finset.univ.fold max ⊥ (gLogit (row lg n)) ≠ ⊤ := by
  have h0 := congrFun hp (fun a => a.elim0)
  dsimp only [fn] at h0
  have h1 := (IntOp.andi_eq_one.1 h0).1
  have h2 := Host.reduce_andi_all _ _ _ _ _ h1 (ix1 n)
  pointwise at h2
  rw [ofBits_bot, ofBits_top] at h2
  exact ne_of_abs _ (lt_of_word _ h2)

/-- The greatest logit of every group is finite. -/
theorem expert_finite (hp : fn x1 h lg wg wu wd = fun _ => 1#1) (n : Fin 32768) (g : Fin 4) :
    Finset.univ.fold max ⊥ (xLogit (row lg n) g) ≠ ⊥ ∧ Finset.univ.fold max ⊥ (xLogit (row lg n) g) ≠ ⊤ := by
  have h0 := congrFun hp (fun a => a.elim0)
  dsimp only [fn] at h0
  have h1 := (IntOp.andi_eq_one.1 h0).2
  have h2 := Host.reduce_andi_all _ _ _ _ _ h1 (ix2 n g)
  pointwise at h2
  rw [ofBits_bot, ofBits_top] at h2
  have hx : xLogit (row lg n) g = fun k : Fin 8 => lg (ix2 n ⟨g.val * 8 + k.val, by omega⟩) := by
    funext k
    exact congrArg lg (congrArg (ix2 n) (Fin.ext (by show 8 * g.val + k.val = g.val * 8 + k.val; omega)))
  rw [hx]
  exact ne_of_abs _ (lt_of_word _ h2)

/-- No probability of a group's experts is negative. -/
theorem sm_xLogit_nonneg (hp : fn x1 h lg wg wu wd = fun _ => 1#1) (n : Fin 32768) (g : Fin 4) (k : Fin 8) :
    0 ≤ sm (xLogit (row lg n) g) k := by
  have ht : IsTop (xLogit (row lg n) g) (sorted (xLogit (row lg n) g) 0) := isTop_sortedFrom _ _ (gtBool_iff _) _ rfl
  have hf := expert_finite x1 h lg wg wu wd hp n g
  rw [ht.fold_max] at hf
  exact sm_nonneg ht hf.1 hf.2 k

end Cert.Pre_largest_logits_are_finite.Mine

end
-- ==== Proof.Moe.Tie.lean ====
module

public import proofs.«01_k».proof.Proof.Moe.Fold
public import proofs.«01_k».proof.Proof.Moe.Finite

/-! The kernel's result is the reference's, from equal arguments that meet the precondition. -/

@[expose] public section

set_option maxRecDepth 16384

noncomputable section

namespace Cert.MoeTie

open Idealize.ShloMosaic Idealize.ShloMosaic.TcCoe Idealize.SL.Sem Cert.MoeRoute

/-- The reference's result from the kernel's arguments is what the kernel leaves. -/
theorem result_eq (m : (ℓ : Loc Cert.MoeIdeal.nD Cert.MoeIdeal.τ Cert.MoeIdeal.sig) → Buf (Elt Ideal) ℓ) (c : Dev Cert.MoeIdeal.nD)
    (hp : Cert.Pre_largest_logits_are_finite.fn (F := Ideal) (Cert.MoeIdeal.Mine.argX m c) (Cert.MoeIdeal.Mine.argH m c)
      (Cert.MoeIdeal.Mine.argL m c) (Cert.MoeIdeal.Mine.argG m c) (Cert.MoeIdeal.Mine.argU m c) (Cert.MoeIdeal.Mine.argD m c)
        = fun _ => 1#1) :
    Cert.MoeRefIdeal.Mine.result (Cert.MoeIdeal.Mine.argX m c) (Cert.MoeIdeal.Mine.argH m c)
      (Cert.MoeIdeal.Mine.argL m c) (Cert.MoeIdeal.Mine.argG m c) (Cert.MoeIdeal.Mine.argU m c) (Cert.MoeIdeal.Mine.argD m c)
        = Cert.MoeIdeal.Value.G5 m c := by
  funext i
  obtain ⟨n, d, rfl⟩ : ∃ (n : Fin 32768) (d : Fin 1024), i = ix2 n d := ⟨i 0, i 1, by
    funext a
    match a with
    | ⟨0, _⟩ => rfl
    | ⟨1, _⟩ => rfl⟩
  have hg := Cert.MoeRefIdeal.Mine.isTop_grp (Cert.MoeIdeal.Mine.argL m c) n
  have hf := Cert.Pre_largest_logits_are_finite.Mine.group_finite _ _ _ _ _ _ hp n
  rw [hg.fold_max] at hf
  rw [Cert.MoeRefIdeal.Mine.result_at]
  refine Eq.trans ?_ (Cert.MoeIdeal.Mine.result_at m c n d hg hf.1 hf.2
    (Cert.Pre_largest_logits_are_finite.Mine.sm_xLogit_nonneg _ _ _ _ _ _ hp n _)
    (Cert.MoeRefIdeal.Mine.isTop_fst _ n) (Cert.MoeRefIdeal.Mine.isSecond_snd _ n)).symm
  refine congrArg _ (Finset.sum_congr rfl fun e _ => congrArg _ ?_)
  unfold Cert.MoeIdeal.Mine.expertAt
  simp only [mul_comm (Cert.MoeIdeal.Mine.argH m c _)]

end Cert.MoeTie

end
-- ==== Proof.Diff.Online.lean ====
module

public import Idealize.ShloMosaic.Lib.IdealHost
public import Mathlib.Algebra.BigOperators.Fin
public import Mathlib.Analysis.SpecialFunctions.Exp

/-!
The running softmax over the reals. Scores are extended reals below `⊤`; a score of `⊥` is a masked
key and weighs nothing. Weights are taken against a real offset `M`, and moving the offset multiplies
all of them by the same factor, so the quotient of a weighted sum by the sum of the weights is the
same for every offset.
-/

@[expose] public section

namespace Cert.DiffModel

open Idealize.ShloMosaic

/-- The weight of a score against the offset `M`. -/
noncomputable def wt (s : EReal) (M : ℝ) : ℝ := if s = ⊥ then 0 else Real.exp (s.toReal - M)

theorem wt_nonneg (s : EReal) (M : ℝ) : 0 ≤ wt s M := by
  unfold wt; split
  · exact le_rfl
  · exact (Real.exp_pos _).le

theorem wt_pos {s : EReal} (h : s ≠ ⊥) (M : ℝ) : 0 < wt s M := by
  unfold wt; rw [if_neg h]; exact Real.exp_pos _

theorem wt_bot (M : ℝ) : wt ⊥ M = 0 := if_pos rfl

theorem wt_shift (s : EReal) (M M' : ℝ) : wt s M' = Real.exp (M - M') * wt s M := by
  unfold wt; split
  · simp
  · rw [← Real.exp_add]; congr 1; ring

theorem exp_sub_coe {s : EReal} (hs : s ≠ ⊤) (M : ℝ) :
    Ideal.exp (s - (M : EReal)) = (wt s M : EReal) := by
  induction s using EReal.rec with
  | bot => rw [wt_bot, EReal.bot_sub]; rfl
  | top => exact absurd rfl hs
  | coe x => rw [← EReal.coe_sub, Ideal.exp_coe]; unfold wt; rw [if_neg (EReal.coe_ne_bot x)]; rfl

/-- The sum of the weights of the first `n` blocks. -/
noncomputable def den (S : Nat → Fin 512 → EReal) (n : Nat) (M : ℝ) : ℝ :=
  ∑ j ∈ Finset.range n, ∑ a, wt (S j a) M

/-- The weighted sum of the first `n` blocks. -/
noncomputable def num (S : Nat → Fin 512 → EReal) (v : Nat → Fin 512 → ℝ) (n : Nat) (M : ℝ) : ℝ :=
  ∑ j ∈ Finset.range n, ∑ a, v j a * wt (S j a) M

theorem den_shift (S : Nat → Fin 512 → EReal) (n : Nat) (M M' : ℝ) : den S n M' = Real.exp (M - M') * den S n M := by
  unfold den; simp only [Finset.mul_sum, ← wt_shift]

theorem num_shift (S : Nat → Fin 512 → EReal) (v : Nat → Fin 512 → ℝ) (n : Nat) (M M' : ℝ) : num S v n M' = Real.exp (M - M') * num S v n M := by
  unfold num; simp only [Finset.mul_sum]
  refine Finset.sum_congr rfl fun j _ => Finset.sum_congr rfl fun a _ => ?_
  rw [wt_shift _ M M']; ring

theorem den_succ (S : Nat → Fin 512 → EReal) (n : Nat) (M : ℝ) : den S (n + 1) M = den S n M + ∑ a, wt (S n a) M := by
  unfold den; rw [Finset.sum_range_succ]

theorem num_succ (S : Nat → Fin 512 → EReal) (v : Nat → Fin 512 → ℝ) (n : Nat) (M : ℝ) : num S v (n + 1) M = num S v n M + ∑ a, v n a * wt (S n a) M := by
  unfold num; rw [Finset.sum_range_succ]

theorem coe_sum {ι : Type*} (t : Finset ι) (f : ι → ℝ) :
    ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- The state of the running softmax after `n` blocks: some offset, and the two sums against it. -/
def Inv (S : Nat → Fin 512 → EReal) (n : Nat) (m l : EReal) : Prop :=
  ∃ M : ℝ, m = M ∧ l = (den S n M : ℝ)

/-- The state together with one accumulated weighted sum. -/
def InvA (S : Nat → Fin 512 → EReal) (v : Nat → Fin 512 → ℝ) (n : Nat) (m acc : EReal) : Prop :=
  ∃ M : ℝ, m = M ∧ acc = (num S v n M : ℝ)

theorem max_real (M : ℝ) {t : EReal} (ht : t ≠ ⊤) : ∃ M' : ℝ, max (M : EReal) t = M' := by
  induction t using EReal.rec with
  | bot => exact ⟨M, by simp⟩
  | top => exact absurd rfl ht
  | coe x => exact ⟨max M x, (EReal.coe_strictMono.monotone.map_max).symm⟩

theorem Inv.step {S : Nat → Fin 512 → EReal} {n : Nat} {m l : EReal} (h : Inv S n m l) {t m' l' : EReal} (ht : t ≠ ⊤)
    (hS : ∀ a, S n a ≠ ⊤) (hm : m' = max m t)
    (hl : l' = Ideal.exp (m - m') * l + ∑ a, Ideal.exp (S n a - m')) : Inv S (n + 1) m' l' := by
  obtain ⟨M, rfl, rfl⟩ := h
  obtain ⟨M', hM⟩ := max_real M ht
  rw [hM] at hm; subst hm
  refine ⟨M', rfl, ?_⟩
  rw [hl, ← EReal.coe_sub, Ideal.exp_coe, den_succ, den_shift S n M M', EReal.coe_add, EReal.coe_mul, coe_sum]
  simp only [exp_sub_coe (hS _)]

theorem InvA.step {S : Nat → Fin 512 → EReal} {v : Nat → Fin 512 → ℝ} {n : Nat} {m acc : EReal} (h : InvA S v n m acc) {t m' acc' : EReal} (ht : t ≠ ⊤)
    (hS : ∀ a, S n a ≠ ⊤) (hm : m' = max m t)
    (hl : acc' = Ideal.exp (m - m') * acc + ∑ a, (v n a : EReal) * Ideal.exp (S n a - m')) :
    InvA S v (n + 1) m' acc' := by
  obtain ⟨M, rfl, rfl⟩ := h
  obtain ⟨M', hM⟩ := max_real M ht
  rw [hM] at hm; subst hm
  refine ⟨M', rfl, ?_⟩
  rw [hl, ← EReal.coe_sub, Ideal.exp_coe, num_succ, num_shift S v n M M', EReal.coe_add, EReal.coe_mul, coe_sum]
  simp only [exp_sub_coe (hS _), EReal.coe_mul]

theorem Inv.zero (S : Nat → Fin 512 → EReal) (M : ℝ) : Inv S 0 M 0 := ⟨M, rfl, by simp [den]⟩

theorem InvA.zero (S : Nat → Fin 512 → EReal) (v : Nat → Fin 512 → ℝ) (M : ℝ) : InvA S v 0 M 0 := ⟨M, rfl, by simp [num]⟩

theorem div_real (x : ℝ) {y : ℝ} (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- Key `512 j + a`. -/
def key (j : Nat) (a : Fin 512) : Fin 8192 := ⟨(512 * j + a.1) % 8192, Nat.mod_lt _ (by norm_num)⟩

theorem sum_keys (f : Fin 8192 → ℝ) (n : Nat) (hn : n ≤ 16) (h : ∀ K : Fin 8192, 512 * n ≤ K.1 → f K = 0) :
    ∑ j ∈ Finset.range n, ∑ a, f (key j a) = ∑ K, f K := by
  have e : ∑ K, f K = ∑ j ∈ Finset.range 16, ∑ a, f (key j a) := by
    rw [← Fin.sum_univ_eq_sum_range (fun j => ∑ a, f (key j a)) 16, ← Fintype.sum_prod_type']
    refine (Fintype.sum_equiv (finProdFinEquiv (m := 16) (n := 512)) _ _ fun p => ?_).symm
    congr 1
    apply Fin.ext
    have h1 := p.1.2; have h2 := p.2.2
    simp only [key, finProdFinEquiv_apply_val]
    rw [Nat.mod_eq_of_lt (by omega)]; omega
  rw [e]
  refine Finset.sum_subset (fun j hj => ?_) fun j hj hj' => ?_
  · rw [Finset.mem_range] at *; omega
  · rw [Finset.mem_range] at *
    refine Finset.sum_eq_zero fun a _ => h _ ?_
    have := a.2
    simp only [key]
    rw [Nat.mod_eq_of_lt (by omega)]; omega

/-- The average of `v` under the softmax of `S`. -/
noncomputable def avg (S : Fin 8192 → EReal) (v : Fin 8192 → ℝ) : ℝ :=
  (∑ K, v K * wt (S K) 0) / ∑ K, wt (S K) 0

theorem den_pos (S : Fin 8192 → EReal) {K₀ : Fin 8192} (h : S K₀ ≠ ⊥) (M : ℝ) : 0 < ∑ K, wt (S K) M :=
  Finset.sum_pos' (fun K _ => wt_nonneg _ _) ⟨K₀, Finset.mem_univ _, wt_pos h M⟩

theorem avg_any (S : Fin 8192 → EReal) (v : Fin 8192 → ℝ) (M : ℝ) :
    (∑ K, v K * wt (S K) M) / (∑ K, wt (S K) M) = avg S v := by
  have e := Real.exp_pos (0 - M)
  have h1 : ∑ K, v K * wt (S K) M = Real.exp (0 - M) * ∑ K, v K * wt (S K) 0 := by
    rw [Finset.mul_sum]; refine Finset.sum_congr rfl fun K _ => ?_
    rw [wt_shift _ 0 M]; ring
  have h2 : ∑ K, wt (S K) M = Real.exp (0 - M) * ∑ K, wt (S K) 0 := by
    rw [Finset.mul_sum]; exact Finset.sum_congr rfl fun K _ => wt_shift _ 0 M
  rw [h1, h2, avg, mul_div_mul_left _ _ e.ne']

/-- What the running softmax ends with is the average. -/
theorem quotient (S : Fin 8192 → EReal) (v : Fin 8192 → ℝ) {n : Nat} (hn : n ≤ 16) {m l acc : EReal}
    (h0 : ∀ K : Fin 8192, 512 * n ≤ K.1 → S K = ⊥) {K₀ : Fin 8192} (hK : S K₀ ≠ ⊥)
    (hl : Inv (fun j a => S (key j a)) n m l)
    (ha : InvA (fun j a => S (key j a)) (fun j a => v (key j a)) n m acc) :
    Ideal.div acc l = (avg S v : ℝ) := by
  obtain ⟨M, rfl, rfl⟩ := hl
  obtain ⟨M', hM, rfl⟩ := ha
  obtain rfl : M = M' := by exact_mod_cast hM
  have e1 : den (fun j a => S (key j a)) n M = ∑ K, wt (S K) M :=
    sum_keys (fun K => wt (S K) M) n hn fun K h => by simp only [h0 K h, wt_bot]
  have e2 : num (fun j a => S (key j a)) (fun j a => v (key j a)) n M = ∑ K, v K * wt (S K) M :=
    sum_keys (fun K => v K * wt (S K) M) n hn fun K h => by simp only [h0 K h, wt_bot, mul_zero]
  rw [e1, e2, div_real _ (den_pos S hK M), avg_any]

/-- The softmax of the reference gives the two averages. -/
theorem reference (S₁ S₂ : Fin 8192 → EReal) (v : Fin 8192 → ℝ) (lam : ℝ) {K₁ K₂ : Fin 8192}
    (h₁ : ∀ K, S₁ K ≠ ⊤) (h₂ : ∀ K, S₂ K ≠ ⊤) (hK₁ : S₁ K₁ ≠ ⊥) (hK₂ : S₂ K₂ ≠ ⊥) (M₁ M₂ : ℝ) :
    ∑ K, (v K : EReal) * (Ideal.div (Ideal.exp (S₁ K - M₁)) (∑ K, Ideal.exp (S₁ K - M₁))
        - (lam : EReal) * Ideal.div (Ideal.exp (S₂ K - M₂)) (∑ K, Ideal.exp (S₂ K - M₂)))
      = ((avg S₁ v - lam * avg S₂ v : ℝ) : EReal) := by
  simp only [exp_sub_coe (h₁ _), exp_sub_coe (h₂ _), ← coe_sum, div_real _ (den_pos S₁ hK₁ M₁),
    div_real _ (den_pos S₂ hK₂ M₂), ← EReal.coe_mul, ← EReal.coe_sub]
  refine congrArg _ ?_
  rw [← avg_any S₁ v M₁, ← avg_any S₂ v M₂]
  simp only [Finset.sum_div, Finset.mul_sum, ← Finset.sum_sub_distrib]
  refine Finset.sum_congr rfl fun K _ => ?_
  ring

end Cert.DiffModel
-- ==== Proof.Diff.Bucket.lean ====
module

public import proofs.«01_k».proof.Proof.Diff.Online
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! The buckets of relative positions: what they are, that they saturate, and the rows they pick. -/

@[expose] public section

set_option maxRecDepth 16384

noncomputable section

namespace Cert.DiffModel

open Idealize.ShloMosaic Idealize.ShloMosaic.TcCoe Idealize.SL.Sem

/-- The bucket of a relative position. -/
def bkt (r : BitVec 32) : BitVec 32 :=
  IntOp.addi (IntOp.muli (BitVec.setWidth 32 (IntOp.cmpi CmpIPredicate.sgt r 0#32)) 16#32)
    (Scalar.select (IntOp.cmpi CmpIPredicate.slt (IntOp.absi r) 8#32) (IntOp.absi r)
      (IntOp.minsi (IntOp.addi (8#32) (FloatOps.fptosi (F := Ideal) (φ := .f32) 32
        (Ideal.div (Ideal.log (Ideal.div (FloatOps.sitofp (F := Ideal) FTy.f32 (IntOp.maxsi (IntOp.absi r) 8#32)) (Ideal.ofBits FTy.f32 1090519040#32)))
            (Ideal.ofBits FTy.f32 1083917269#32) * Ideal.ofBits FTy.f32 1090519040#32))) 15#32))

/-- A row index below zero counts from the end. -/
def wrap (b : BitVec 32) : BitVec 32 := Scalar.select (IntOp.cmpi CmpIPredicate.slt b 0#32) (IntOp.addi b 32#32) b

/-- The row of the table that a relative position picks. -/
def slot (r : BitVec 32) : Fin 32 := ⟨min (wrap (bkt r)).toInt.toNat 31, by omega⟩

theorem f8 : Ideal.ofBits FTy.f32 1090519040#32 = ((8 : ℝ) : EReal) := by
  simp [Ideal.ofBits, Ideal.ieee, -EReal.coe_mul]; norm_num

theorem flog : ∃ l : ℝ, Ideal.ofBits FTy.f32 1083917269#32 = (l : EReal) ∧ 4 ≤ l ∧ l ≤ 4.8521 := by
  refine ⟨_, by simp [Ideal.ofBits, Ideal.ieee, -EReal.coe_mul]; rfl, ?_, ?_⟩ <;> norm_num

theorem words : ∀ n : Fin 8192, 1025 ≤ n.val → IntOp.absi (BitVec.ofInt 32 (-(n.val : ℤ))) = BitVec.ofNat 32 n.val
    ∧ IntOp.cmpi .sgt (BitVec.ofInt 32 (-(n.val : ℤ))) 0#32 = 0#1 ∧ IntOp.cmpi .slt (BitVec.ofNat 32 n.val) 8#32 = 0#1
    ∧ IntOp.maxsi (BitVec.ofNat 32 n.val) 8#32 = BitVec.ofNat 32 n.val ∧ (BitVec.ofNat 32 n.val).toInt = (n.val : ℤ) := by
  decide +kernel

theorem mins : ∀ z : Fin 4096, 7 ≤ z.val → IntOp.minsi (IntOp.addi 8#32 (BitVec.ofInt 32 (z.val : ℤ))) 15#32 = 15#32 := by
  decide +kernel

theorem log_two : 0.616 ≤ Real.log 2 := by
  have h1 := Real.one_sub_inv_le_log_of_pos (x := 6 / 5) (by norm_num)
  have h2 := Real.one_sub_inv_le_log_of_pos (x := 5 / 4) (by norm_num)
  have h3 := Real.one_sub_inv_le_log_of_pos (x := 4 / 3) (by norm_num)
  have h : Real.log 2 = Real.log (6 / 5) + Real.log (5 / 4) + Real.log (4 / 3) := by
    rw [← Real.log_mul (by norm_num) (by norm_num), ← Real.log_mul (by norm_num) (by norm_num)]
    norm_num
  rw [h]
  norm_num at h1 h2 h3 ⊢
  linarith

/-- Far back, the last bucket. -/
theorem bkt_far (n : Fin 8192) (hn : 1025 ≤ n.val) : bkt (BitVec.ofInt 32 (-(n.val : ℤ))) = 15#32 := by
  obtain ⟨h1, h2, h3, h4, h5⟩ := words n hn
  obtain ⟨l, hl, hl4, hl5⟩ := flog
  unfold bkt
  rw [h1, h2, h3, h4, f8, hl]
  have hs : FloatOps.sitofp (F := Ideal) FTy.f32 (BitVec.ofNat 32 n.val) = ((n.val : ℝ) : EReal) := by
    show (((BitVec.ofNat 32 n.val).toInt : ℝ) : EReal) = _
    rw [h5]; norm_cast
  have hn' : (1025 : ℝ) ≤ n.val := by exact_mod_cast hn
  have hn2 : (n.val : ℝ) ≤ 8191 := by exact_mod_cast (by omega : n.val ≤ 8191)
  have hlog2 := log_two
  have hlow : 4.3 ≤ Real.log ((n.val : ℝ) / 8) := by
    have : Real.log ((2 : ℝ) ^ 7) ≤ Real.log ((n.val : ℝ) / 8) := Real.log_le_log (by norm_num) (by linarith)
    rw [Real.log_pow] at this
    push_cast at this
    linarith
  have hup : Real.log ((n.val : ℝ) / 8) ≤ 1024 := by
    have := Real.log_le_sub_one_of_pos (x := (n.val : ℝ) / 8) (by linarith)
    linarith
  rw [hs, div_real _ (by norm_num)]
  have hlg : Ideal.log (((n.val : ℝ) / 8 : ℝ) : EReal) = ((Real.log ((n.val : ℝ) / 8) : ℝ) : EReal) := by
    show (if (n.val : ℝ) / 8 ≤ 0 then (⊥ : EReal) else _) = _
    rw [if_neg (by linarith)]
  rw [hlg, div_real _ (by linarith), ← EReal.coe_mul]
  set y : ℝ := Real.log ((n.val : ℝ) / 8) / l * 8 with hy
  have y7 : 7 ≤ y := by
    rw [hy, div_mul_eq_mul_div, le_div_iff₀ (by linarith)]; linarith
  have y4 : y < 4096 := by
    rw [hy, div_mul_eq_mul_div, div_lt_iff₀ (by linarith)]; linarith
  have hf : FloatOps.fptosi (F := Ideal) (φ := .f32) 32 ((y : ℝ) : EReal) = BitVec.ofInt 32 ⌊y⌋ := by
    have f7 : 7 ≤ ⌊y⌋ := Int.le_floor.mpr (by exact_mod_cast y7)
    have f4 : ⌊y⌋ < 4096 := Int.floor_lt.mpr (by exact_mod_cast y4)
    show BitVec.ofInt 32 (max _ (min _ (if 0 ≤ y then ⌊y⌋ else ⌈y⌉))) = _
    rw [if_pos (by linarith)]
    norm_num
    congr 1
    omega
  rw [hf]
  have f7 : 7 ≤ ⌊y⌋ := Int.le_floor.mpr (by exact_mod_cast y7)
  have f4 : ⌊y⌋ < 4096 := Int.floor_lt.mpr (by exact_mod_cast y4)
  have := mins ⟨⌊y⌋.toNat, by omega⟩ (by show 7 ≤ ⌊y⌋.toNat; omega)
  rw [show ((((⟨⌊y⌋.toNat, by omega⟩ : Fin 4096).val : ℕ) : ℤ)) = ⌊y⌋ from by show ((⌊y⌋.toNat : ℕ) : ℤ) = _; omega] at this
  rw [this]
  show IntOp.addi (IntOp.muli (BitVec.setWidth 32 0#1) 16#32) 15#32 = 15#32
  decide

/-- The offset of the tile `d` tiles back. -/
def back (d : Fin 4) : BitVec 32 := BitVec.ofInt 32 (-(512 * d.val : ℤ))

theorem sub_words (m n : Nat) (h : m ≤ n) (hn : n < 8192) : IntOp.subi (BitVec.ofNat 32 m) (BitVec.ofNat 32 n) = BitVec.ofInt 32 (-((n - m : ℕ) : ℤ)) := by
  show BitVec.ofNat 32 m - BitVec.ofNat 32 n = _
  apply BitVec.eq_of_toNat_eq
  rw [BitVec.toNat_sub, BitVec.toNat_ofInt, BitVec.toNat_ofNat, BitVec.toNat_ofNat]
  omega

theorem back_words (d a c : Nat) (hd : d < 4) (ha : a < 512) (hc : c < 512) (h : a ≤ 512 * d + c) :
    IntOp.subi (IntOp.addi (back ⟨d, hd⟩) (BitVec.ofNat 32 a)) (BitVec.ofNat 32 c) = BitVec.ofInt 32 (-((512 * d + c - a : ℕ) : ℤ)) := by
  show BitVec.ofInt 32 _ + BitVec.ofNat 32 a - BitVec.ofNat 32 c = _
  apply BitVec.eq_of_toNat_eq
  rw [BitVec.toNat_sub, BitVec.toNat_add, BitVec.toNat_ofInt, BitVec.toNat_ofInt, BitVec.toNat_ofNat, BitVec.toNat_ofNat]
  simp only
  omega

/-- Within the diagonal tile the positions differ the same way everywhere. -/
theorem diag_words (k a c : Nat) (hk : k < 16) (ha : a < 512) (hc : c < 512) :
    IntOp.subi (IntOp.addi (back 0) (BitVec.ofNat 32 a)) (BitVec.ofNat 32 c) = IntOp.subi (BitVec.ofNat 32 (512 * k + a)) (BitVec.ofNat 32 (512 * k + c)) := by
  show BitVec.ofInt 32 _ + BitVec.ofNat 32 a - BitVec.ofNat 32 c = BitVec.ofNat 32 _ - BitVec.ofNat 32 _
  apply BitVec.eq_of_toNat_eq
  rw [BitVec.toNat_sub, BitVec.toNat_sub, BitVec.toNat_add, BitVec.toNat_ofInt, BitVec.toNat_ofNat, BitVec.toNat_ofNat, BitVec.toNat_ofNat, BitVec.toNat_ofNat]
  simp
  omega

/-- A tile of the table, the last standing for all before it, picks the rows that the positions pick. -/
theorem slot_tile (q k a c : Nat) (hk : k ≤ q) (hq : q < 16) (ha : a < 512) (hc : c < 512) :
    slot (IntOp.subi (IntOp.addi (back ⟨min (q - k) 3, by omega⟩) (BitVec.ofNat 32 a)) (BitVec.ofNat 32 c))
      = slot (IntOp.subi (BitVec.ofNat 32 (512 * k + a)) (BitVec.ofNat 32 (512 * q + c))) := by
  by_cases h0 : q = k
  · subst h0
    have : (⟨min (q - q) 3, by omega⟩ : Fin 4) = 0 := Fin.ext (by simp)
    rw [this, diag_words q a c hq ha hc]
  · have h1 : 1 ≤ min (q - k) 3 := by omega
    rw [back_words _ _ _ _ ha hc (by omega), sub_words _ _ (by omega) (by omega)]
    by_cases h3 : q - k ≤ 3
    · congr 4
      omega
    · have e1 := bkt_far ⟨512 * min (q - k) 3 + c - a, by omega⟩ (by show 1025 ≤ 512 * min (q - k) 3 + c - a; omega)
      have e2 := bkt_far ⟨512 * q + c - (512 * k + a), by omega⟩ (by show 1025 ≤ 512 * q + c - (512 * k + a); omega)
      unfold slot
      simp only at e1 e2
      simp only [e1, e2]

end Cert.DiffModel
-- ==== Proof.Diff.Mask.lean ====
module

public import proofs.«01_k».proof.Proof.Diff.Bucket
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! Which keys a query may see: blocks of 64 positions, as the words say it. -/

@[expose] public section

set_option maxRecDepth 16384

noncomputable section

namespace Cert.DiffModel

open Idealize.ShloMosaic Idealize.ShloMosaic.TcCoe Idealize.SL.Sem

/-- A position over 64, rounded down. -/
def fd (x : BitVec 32) : BitVec 32 :=
  Scalar.select
    (IntOp.andi
      (IntOp.cmpi (w := 32) CmpIPredicate.ne (if x = 0 then 0 else if x.msb = true then -1 else 1)
        (if 64#32 = 0 then 0 else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem fd_eq : ∀ n : Fin 8192, fd (BitVec.ofNat 32 n.val) = BitVec.ofNat 32 (n.val / 64) := by decide +kernel

theorem sle_eq : ∀ m n : Fin 128, IntOp.cmpi .sle (BitVec.ofNat 32 m.val) (BitVec.ofNat 32 n.val) = if m.val ≤ n.val then 1#1 else 0#1 := by
  decide +kernel

theorem allowed (m n : Nat) (hm : m < 8192) (hn : n < 8192) :
    IntOp.cmpi .sle (fd (BitVec.ofNat 32 m)) (fd (BitVec.ofNat 32 n)) = if m / 64 ≤ n / 64 then 1#1 else 0#1 := by
  rw [fd_eq ⟨m, hm⟩, fd_eq ⟨n, hn⟩]
  exact sle_eq ⟨m / 64, by omega⟩ ⟨n / 64, by omega⟩

/-- The score of a query at a key: masked, or the product of the two with the bias of their distance. -/
def scoreOf (qk : EReal) (tb : Fin 32 → EReal) (K Q : Fin 8192) : EReal :=
  if K.val / 64 ≤ Q.val / 64 then qk + tb (slot (IntOp.subi (BitVec.ofNat 32 K.val) (BitVec.ofNat 32 Q.val))) else ⊥

end Cert.DiffModel
-- ==== Proof.Diff.Tables.lean ====
module

public import proofs.«01_k».proof.Proof.Gen.DiffIdeal.Value
public import proofs.«01_k».proof.Proof.Diff.Mask
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! The tables of the kernel's host, read at an entry. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

/-- The bucket of each relative position, as the host finds it. -/
def bktT (r : IVec S512x512 32) : IVec S512x512 32 :=
  addi (muli (extui 32 (cmpi .sgt r (broadcastInDim S512x512 ![] bcast_S_S512x512 (constantI S_ 32 0#32))) natLt_1_32) (broadcastInDim S512x512 ![] bcast_S_S512x512 (constantI S_ 32 16#32)))
    (select (cmpi .slt (absi r) (broadcastInDim S512x512 ![] bcast_S_S512x512 (constantI S_ 32 8#32))) (absi r)
      (minsi (addi (broadcastInDim S512x512 ![] bcast_S_S512x512 (constantI S_ 32 8#32))
        (fptosi (F := Ideal) 32 (mulf (Host.divf (Host.log (Host.divf (sitofp (F := Ideal) .f32 (maxsi (absi r) (broadcastInDim S512x512 ![] bcast_S_S512x512 (constantI S_ 32 8#32))))
          (broadcastInDim S512x512 ![] bcast_S_S512x512 (constant S_ .f32 0x41000000#32)))) (broadcastInDim S512x512 ![] bcast_S_S512x512 (constant S_ .f32 0x409B43D5#32)))
          (broadcastInDim S512x512 ![] bcast_S_S512x512 (constant S_ .f32 0x41000000#32)))))
        (broadcastInDim S512x512 ![] bcast_S_S512x512 (constantI S_ 32 15#32))))

/-- A row index below zero counts from the end. -/
def wrapT (b : IVec S512x512 32) : IVec S512x512 32 :=
  select (cmpi .slt b (broadcastInDim S512x512 ![] bcast_S_S512x512 (constantI S_ 32 0#32))) (addi b (broadcastInDim S512x512 ![] bcast_S_S512x512 (constantI S_ 32 32#32))) b

/-- The biases of one tile. -/
def tileT (tb : FVec Ideal S32x4 .f32) (r : IVec S512x512 32) : FVec Ideal S4x512x512 .f32 :=
  transpose S4x512x512 [2, 0, 1] (Host.gather gather_S32x4_S512x512x1_S512x512x4_2_0_n_n_0_2_14 tb (broadcastInDim S512x512x1 ![0, 1] bcast_S512x512_S512x512x1_0_1 (wrapT (bktT r)))) transposes_S512x512x4_S4x512x512_2_0_1

def colI : IVec S512x1 32 := broadcastInDim S512x1 ![0] bcast_S512_S512x1_0 (iotaInDim S512 32 0)
def rowI : IVec S1x512 32 := broadcastInDim S1x512 ![1] bcast_S512_S1x512_1 (iotaInDim S512 32 0)

/-- The relative positions of one tile. -/
def relT (o : BitVec 32) : IVec S512x512 32 :=
  subi (broadcastInDim S512x512 ![0, 1] bcast_S512x1_S512x512_0_1 (addi (broadcastInDim S512x1 ![] bcast_S_S512x1 (constantI S_ 32 o)) colI))
    (broadcastInDim S512x512 ![0, 1] bcast_S1x512_S512x512_0_1 rowI)

/-- Positions over 64, down a column. -/
def fdC (x : IVec S512x1 32) : IVec S512x1 32 :=
  select (andi (cmpi .ne (signi x) (broadcastInDim S512x1 ![] bcast_S_S512x1 (signi (constantI S_ 32 64#32))))
      (cmpi .ne (Host.remsi x (broadcastInDim S512x1 ![] bcast_S_S512x1 (constantI S_ 32 64#32))) (broadcastInDim S512x1 ![] bcast_S_S512x1 (constantI S_ 32 0#32))))
    (subi (Host.divsi x (broadcastInDim S512x1 ![] bcast_S_S512x1 (constantI S_ 32 64#32))) (broadcastInDim S512x1 ![] bcast_S_S512x1 (constantI S_ 32 1#32)))
    (Host.divsi x (broadcastInDim S512x1 ![] bcast_S_S512x1 (constantI S_ 32 64#32)))
/-- Positions over 64, along a row. -/
def fdR (x : IVec S1x512 32) : IVec S1x512 32 :=
  select (andi (cmpi .ne (signi x) (broadcastInDim S1x512 ![] bcast_S_S1x512 (signi (constantI S_ 32 64#32))))
      (cmpi .ne (Host.remsi x (broadcastInDim S1x512 ![] bcast_S_S1x512 (constantI S_ 32 64#32))) (broadcastInDim S1x512 ![] bcast_S_S1x512 (constantI S_ 32 0#32))))
    (subi (Host.divsi x (broadcastInDim S1x512 ![] bcast_S_S1x512 (constantI S_ 32 64#32))) (broadcastInDim S1x512 ![] bcast_S_S1x512 (constantI S_ 32 1#32)))
    (Host.divsi x (broadcastInDim S1x512 ![] bcast_S_S1x512 (constantI S_ 32 64#32)))
theorem gather_at (tb : FVec Ideal S32x4 .f32) (ix : IVec S512x512x1 32) (a c : Fin 512) (h : Fin 4) :
    Host.gather gather_S32x4_S512x512x1_S512x512x4_2_0_n_n_0_2_14 tb ix (ix3 a c h) = tb (ix2 ⟨min (ix (ix3 a c 0)).toInt.toNat 31, by omega⟩ h) := by
  unfold Host.gather
  refine congrArg tb ?_
  funext j
  refine Fin.ext ?_
  fin_cases j
  · refine congrArg (fun y : S512x512x1.Idx => min (ix y).toInt.toNat 31) ?_
    funext b; fin_cases b <;> rfl
  · show GatherDims.start _ _ _ 1 + GatherDims.batchCoord _ _ 1 + GatherDims.offCoord _ _ 1 = h.val
    rw [GatherDims.batchCoord_eq_zero _ _ _ List.not_mem_nil]
    unfold GatherDims.start GatherDims.offCoord
    rw [dif_neg (by decide), dif_pos (by decide)]
    simp only [Nat.zero_add]
    rfl

/-- Which keys of the diagonal tile a query may see. -/
def seenT : IVec S4x512x512 1 :=
  broadcastInDim S4x512x512 ![0, 1, 2] bcast_S1x512x512_S4x512x512_0_1_2 (broadcastInDim S1x512x512 ![1, 2] bcast_S512x512_S1x512x512_1_2
    (cmpi .sle (broadcastInDim S512x512 ![0, 1] bcast_S512x1_S512x512_0_1 (fdC colI)) (broadcastInDim S512x512 ![0, 1] bcast_S1x512_S512x512_0_1 (fdR rowI))))

/-- The tile of the diagonal, masked. -/
def tile0 (tb : FVec Ideal S32x4 .f32) : FVec Ideal S4x512x512 .f32 :=
  select seenT (tileT tb (relT 0#32)) (broadcastInDim S4x512x512 ![] bcast_S_S4x512x512 (constant S_ .f32 0xFF800000#32))

/-- Four tiles side by side. -/
def cat4 (x0 x1 x2 x3 : FVec Ideal S4x512x512 .f32) : FVec Ideal S4x4x512x512 .f32 :=
  concatenate S4x4x512x512 1 [⟨S4x1x512x512, broadcastInDim S4x1x512x512 ![0, 2, 3] bcast_S4x512x512_S4x1x512x512_0_2_3 x0⟩, ⟨S4x1x512x512, broadcastInDim S4x1x512x512 ![0, 2, 3] bcast_S4x512x512_S4x1x512x512_0_2_3 x1⟩, ⟨S4x1x512x512, broadcastInDim S4x1x512x512 ![0, 2, 3] bcast_S4x512x512_S4x1x512x512_0_2_3 x2⟩, ⟨S4x1x512x512, broadcastInDim S4x1x512x512 ![0, 2, 3] bcast_S4x512x512_S4x1x512x512_0_2_3 x3⟩]
    concatenates_S4x1x512x512_S4x1x512x512_S4x1x512x512_S4x1x512x512_S4x4x512x512_d1

/-- All four tiles. -/
def tilesT (tb : FVec Ideal S32x4 .f32) : FVec Ideal S4x4x512x512 .f32 :=
  cat4 (tile0 tb) (tileT tb (relT 4294966784#32)) (tileT tb (relT 4294966272#32)) (tileT tb (relT 4294965760#32))

theorem cat4_0 (x0 x1 x2 x3 : FVec Ideal S4x512x512 .f32) (h : Fin 4) (a c : Fin 512) : cat4 x0 x1 x2 x3 (ix4 h 0 a c) = x0 (ix3 h a c) := by
  pointwise [cat4]

theorem cat4_1 (x0 x1 x2 x3 : FVec Ideal S4x512x512 .f32) (h : Fin 4) (a c : Fin 512) : cat4 x0 x1 x2 x3 (ix4 h 1 a c) = x1 (ix3 h a c) := by
  pointwise [cat4]

theorem cat4_2 (x0 x1 x2 x3 : FVec Ideal S4x512x512 .f32) (h : Fin 4) (a c : Fin 512) : cat4 x0 x1 x2 x3 (ix4 h 2 a c) = x2 (ix3 h a c) := by
  pointwise [cat4]

theorem cat4_3 (x0 x1 x2 x3 : FVec Ideal S4x512x512 .f32) (h : Fin 4) (a c : Fin 512) : cat4 x0 x1 x2 x3 (ix4 h 3 a c) = x3 (ix3 h a c) := by
  pointwise [cat4]

theorem fdC_at (a : Fin 512) : fdC colI (ix2 a 0) = fd (BitVec.ofNat 32 a.val) := by
  pointwise [fdC, colI]; rfl
theorem fdR_at (a : Fin 512) : fdR rowI (ix2 0 a) = fd (BitVec.ofNat 32 a.val) := by
  pointwise [fdR, rowI]; rfl
theorem relT_at (o : BitVec 32) (a c : Fin 512) : relT o (ix2 a c) = IntOp.subi (IntOp.addi o (BitVec.ofNat 32 a.val)) (BitVec.ofNat 32 c.val) := by
  pointwise [relT, colI, rowI]
theorem bktT_at (r : IVec S512x512 32) (a c : Fin 512) : wrapT (bktT r) (ix2 a c) = wrap (bkt (r (ix2 a c))) := by
  pointwise [wrapT, bktT]; rfl
theorem unit_at (w : IVec S512x512 32) (a c : Fin 512) : broadcastInDim S512x512x1 ![0, 1] bcast_S512x512_S512x512x1_0_1 w (ix3 a c 0) = w (ix2 a c) := by
  pointwise
theorem tileT_at (tb : FVec Ideal S32x4 .f32) (r) (h : Fin 4) (a c : Fin 512) : tileT tb r (ix3 h a c) = tb (ix2 (slot (r (ix2 a c))) h) := by
  pointwise [tileT]
  rw [gather_at]
  refine congrArg (fun j : Fin 32 => tb (ix2 j h)) (Fin.ext ?_)
  refine congrArg (fun z : BitVec 32 => min z.toInt.toNat 31) ?_
  rw [unit_at, bktT_at]
theorem tile0_at (tb : FVec Ideal S32x4 .f32) (h : Fin 4) (a c : Fin 512) : tile0 tb (ix3 h a c)
    = if a.val / 64 ≤ c.val / 64 then tb (ix2 (slot (relT 0#32 (ix2 a c))) h) else ⊥ := by
  pointwise [tile0, seenT]
  rw [fdC_at, fdR_at, allowed _ _ (by omega) (by omega), tileT_at]
  have : Ideal.ofBits FTy.f32 4286578688#32 = ⊥ := by simp [Ideal.ofBits, Ideal.ieee]
  by_cases hc : a.val / 64 ≤ c.val / 64 <;> simp [hc, Scalar.select, this]

theorem back0 : (0#32 : BitVec 32) = back 0 := by decide
theorem back1 : (4294966784#32 : BitVec 32) = back 1 := by decide
theorem back2 : (4294966272#32 : BitVec 32) = back 2 := by decide
theorem back3 : (4294965760#32 : BitVec 32) = back 3 := by decide

theorem tilesT_at (tb : FVec Ideal S32x4 .f32) (h d : Fin 4) (a c : Fin 512) : tilesT tb (ix4 h d a c)
    = if d = 0 → a.val / 64 ≤ c.val / 64 then tb (ix2 (slot (IntOp.subi (IntOp.addi (back d) (BitVec.ofNat 32 a.val)) (BitVec.ofNat 32 c.val))) h) else ⊥ := by
  unfold tilesT
  obtain rfl | rfl | rfl | rfl : d = 0 ∨ d = 1 ∨ d = 2 ∨ d = 3 := by omega
  · rw [cat4_0, tile0_at, relT_at, back0]
    simp
  · rw [cat4_1, tileT_at, relT_at, back1]
    simp
  · rw [cat4_2, tileT_at, relT_at, back2]
    simp
  · rw [cat4_3, tileT_at, relT_at, back3]
    simp

end Cert.DiffIdeal.Hand
-- ==== Proof.Diff.Trip.lean ====
module

public import proofs.«01_k».proof.Proof.Gen.DiffIdeal.Value
public import proofs.«01_k».proof.Proof.Diff.Online
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! One trip of the loop over the key tiles: what it makes of the running maximum, sum and weighted sum at an entry. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

/-- The score of key row `a` for the query column `q`, the queries of row `r` of the stacked pair. -/
def score (kt : Vec Ideal S512x128 .bf16) (qb : Vec Ideal S1024x128 .bf16) (bt : Vec Ideal S1x1x512x512 .f32)
    (r : Fin 1024) (a q : Fin 512) : EReal :=
  (∑ d : Fin 128, kt (ix2 a d) * qb (ix2 r d)) + bt (ix4 0 0 a q)

/-- The largest of 512 scores. -/
def maxOf (f : Fin 512 → EReal) : EReal := Finset.fold max (Ideal.ofBits FTy.f32 4286578688#32) f Finset.univ

theorem maxOf_ne_top {f : Fin 512 → EReal} (h : ∀ a, f a ≠ ⊤) : maxOf f ≠ ⊤ := by
  have hb : Ideal.ofBits FTy.f32 4286578688#32 = ⊥ := by simp [Ideal.ofBits, Ideal.ieee]
  unfold maxOf
  rw [hb, ← lt_top_iff_ne_top, Finset.fold_max_lt]
  exact ⟨bot_lt_top, fun a _ => lt_top_iff_ne_top.2 (h a)⟩

/-- Row `q` of half `s` of the stacked pair of queries. -/
def row (s : Fin 2) (q : Fin 512) : Fin 1024 := ⟨512 * s.val + q.val, by omega⟩

/-- The running maximum after a tile. -/
def nmax (kt : Vec Ideal S512x128 .bf16) (qb : Vec Ideal S1024x128 .bf16) (bt : Vec Ideal S1x1x512x512 .f32)
    (s : Fin 2) (q : Fin 512) (M : EReal) : EReal := max M (maxOf fun a => score kt qb bt (row s q) a q)

section Pays
variable (kt : Vec Ideal S512x128 .bf16) (qb : Vec Ideal S1024x128 .bf16) (bt : Vec Ideal S1x1x512x512 .f32)
  (mv lv : Vec Ideal S1x1x512 .f32)

theorem pay5_at (a q : Fin 512) : k0_pay5 kt qb bt (ix2 a q) = score kt qb bt (row 0 q) a q := by
  have h : row 0 q = ⟨q.val, by omega⟩ := Fin.ext (by simp [row])
  pointwise [k0_pay5, k0_pay3, k0_pay2, score]
  rw [h]

theorem pay13_at (a q : Fin 512) : k0_pay13 (k0_pay2 kt qb) (k0_pay3 bt) (ix2 a q) = score kt qb bt (row 1 q) a q := by
  pointwise [k0_pay13, k0_pay3, k0_pay2, score]
  rfl

theorem pay7_at (q : Fin 512) : k0_pay7 kt qb bt mv (ix2 0 q) = nmax kt qb bt 0 q (mv (ix3 0 0 q)) := by
  pointwise [k0_pay7, k0_pay6]
  simp only [pay5_at]
  rfl

theorem pay15_at (q : Fin 512) :
    k0_pay15 (k0_pay2 kt qb) (k0_pay3 bt) mv (ix2 0 q) = nmax kt qb bt 1 q (mv (ix3 0 0 q)) := by
  pointwise [k0_pay15, k0_pay14]
  simp only [pay13_at]
  rfl

theorem pay8_at (q : Fin 512) : k0_pay8 kt qb bt mv (ix2 0 q)
    = Ideal.exp (mv (ix3 0 0 q) - nmax kt qb bt 0 q (mv (ix3 0 0 q))) := by
  pointwise [k0_pay8, k0_pay6]
  simp only [pay7_at]

theorem pay16_at (q : Fin 512) : k0_pay16 (k0_pay2 kt qb) (k0_pay3 bt) mv (ix2 0 q)
    = Ideal.exp (mv (ix3 0 0 q) - nmax kt qb bt 1 q (mv (ix3 0 0 q))) := by
  pointwise [k0_pay16, k0_pay14]
  simp only [pay15_at]

theorem pay9_at (a q : Fin 512) : k0_pay9 kt qb bt mv (ix2 a q)
    = Ideal.exp (score kt qb bt (row 0 q) a q - nmax kt qb bt 0 q (mv (ix3 0 0 q))) := by
  pointwise [k0_pay9]
  simp only [pay7_at, pay5_at]

theorem pay17_at (a q : Fin 512) : k0_pay17 (k0_pay2 kt qb) (k0_pay3 bt) mv (ix2 a q)
    = Ideal.exp (score kt qb bt (row 1 q) a q - nmax kt qb bt 1 q (mv (ix3 0 0 q))) := by
  pointwise [k0_pay17]
  simp only [pay15_at, pay13_at]

theorem pay10_at (q : Fin 512) : k0_pay10 kt qb bt mv lv (ix3 0 0 q)
    = Ideal.exp (mv (ix3 0 0 q) - nmax kt qb bt 0 q (mv (ix3 0 0 q))) * lv (ix3 0 0 q)
      + ∑ a, Ideal.exp (score kt qb bt (row 0 q) a q - nmax kt qb bt 0 q (mv (ix3 0 0 q))) := by
  pointwise [k0_pay10]
  simp only [pay8_at, pay9_at]

theorem pay18_at (q : Fin 512) : k0_pay18 (k0_pay2 kt qb) (k0_pay3 bt) mv lv (ix3 0 0 q)
    = Ideal.exp (mv (ix3 0 0 q) - nmax kt qb bt 1 q (mv (ix3 0 0 q))) * lv (ix3 0 0 q)
      + ∑ a, Ideal.exp (score kt qb bt (row 1 q) a q - nmax kt qb bt 1 q (mv (ix3 0 0 q))) := by
  pointwise [k0_pay18]
  simp only [pay16_at, pay17_at]

variable (vt : Vec Ideal S1x1x1x128x512 .bf16) (av : Vec Ideal S1x128x512 .f32)

theorem pay11_at (e : Fin 128) (q : Fin 512) : k0_pay11 (k0_pay4 vt) (k0_pay8 kt qb bt mv) (k0_pay9 kt qb bt mv) av (ix3 0 e q)
    = Ideal.exp (mv (ix3 0 0 q) - nmax kt qb bt 0 q (mv (ix3 0 0 q))) * av (ix3 0 e q)
      + ∑ a, vt (ix5 0 0 0 e a) * Ideal.exp (score kt qb bt (row 0 q) a q - nmax kt qb bt 0 q (mv (ix3 0 0 q))) := by
  pointwise [k0_pay11, k0_pay4]
  simp only [pay8_at, pay9_at]

theorem pay42_at (e : Fin 128) (q : Fin 512) : k0_pay42 (k0_pay4 vt) (k0_pay16 (k0_pay2 kt qb) (k0_pay3 bt) mv)
      (k0_pay17 (k0_pay2 kt qb) (k0_pay3 bt) mv) av (ix3 0 e q)
    = Ideal.exp (mv (ix3 0 0 q) - nmax kt qb bt 1 q (mv (ix3 0 0 q))) * av (ix3 0 e q)
      + ∑ a, vt (ix5 0 0 0 e a) * Ideal.exp (score kt qb bt (row 1 q) a q - nmax kt qb bt 1 q (mv (ix3 0 0 q))) := by
  pointwise [k0_pay42, k0_pay4]
  simp only [pay16_at, pay17_at]

theorem pay12_at (w : FVec Ideal S1x512 .f32) (q : Fin 512) : k0_pay12 w (ix3 0 0 q) = w (ix2 0 q) := by
  pointwise [k0_pay12]

theorem pay43_at (w : FVec Ideal S1x512 .f32) (q : Fin 512) : k0_pay43 w (ix3 0 0 q) = w (ix2 0 q) := by
  pointwise [k0_pay43]

end Pays

section Trip
variable (𝒱 : Variants) (c : Dev nD) (bd : Option 𝒱.V) (i : grid0.Coords) (arg3 : Memref sig .tc .smem S1 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x16x128x512 .bf16) (harg6 : arg6.IsWhole) (arg7 : Memref sig .tc .vmem S1x4x512x512 .f32) (harg7 : arg7.IsWhole) (arg8 : Memref sig .tc .vmem S128x1 .f32) (harg8 : arg8.IsWhole) (arg9 : Memref sig .tc .vmem S1x128x512 .bf16) (harg9 : arg9.IsWhole) (arg10 : Memref sig .tc .vmem S1024x128 .bf16) (harg10 : arg10.IsWhole) (arg11 : Memref sig .tc .vmem S2x128x512 .f32) (harg11 : arg11.IsWhole) (arg12 : Memref sig .tc .vmem S2x1x512 .f32) (harg12 : arg12.IsWhole) (arg13 : Memref sig .tc .vmem S2x1x512 .f32) (harg13 : arg13.IsWhole)
  (arg2 v27 z : BitVec 32) (X5 : BufTy.Contents (Elt Ideal) arg5.view.ty) (X6 : BufTy.Contents (Elt Ideal) arg6.view.ty)
  (X7 : BufTy.Contents (Elt Ideal) arg7.view.ty) (X10 : BufTy.Contents (Elt Ideal) arg10.view.ty) (k : Fin (k0_t1_loop i).trips)
  (f11 : BufTy.Contents (Elt Ideal) arg11.view.ty) (f12 : BufTy.Contents (Elt Ideal) arg12.view.ty) (f13 : BufTy.Contents (Elt Ideal) arg13.view.ty)

/-- The key rows of a trip. -/
abbrev kT : Vec Ideal S512x128 .bf16 := View.readAt (Elt Ideal) arg5.view (Rect.unit (s := S8192x128) (k0_off1 i k) S512x128.size (k0_off1_inb i k)).toLoadRect X5
/-- The stacked queries. -/
abbrev qB : Vec Ideal S1024x128 .bf16 := View.readAt (Elt Ideal) arg10.view (Rect.unit (s := S1024x128) ![0, 0] S1024x128.size inb_S1024x128_S1024x128_0_0).toLoadRect X10
/-- The bias tile of a trip. -/
abbrev bT : Vec Ideal S1x1x512x512 .f32 := View.readAt (Elt Ideal) arg7.view (Rect.unit (s := S1x4x512x512) (k0_off2 i k) S1x1x512x512.size (k0_off2_inb i k)).toLoadRect X7
/-- The values of a trip. -/
abbrev vT : Vec Ideal S1x1x1x128x512 .bf16 := View.readAt (Elt Ideal) arg6.view (Rect.unit (s := S1x1x16x128x512) (k0_off3 i k) S1x1x1x128x512.size (k0_off3_inb i k)).toLoadRect X6

theorem slot3 {n : Nat} (arg : Memref sig .tc .vmem ⟨3, ![2, n, 512]⟩ .f32) (f : BufTy.Contents (Elt Ideal) arg.view.ty) (s : Fin 2)
    (inb : ∀ a, (![s.val, 0, 0] : Fin 3 → Nat) a + (![1, n, 512] : Fin 3 → Nat) a ≤ (⟨3, ![2, n, 512]⟩ : Shape).size a) (e : Fin n) (q : Fin 512) :
    View.readAt (Elt Ideal) arg.view (Rect.unit (s := ⟨3, ![2, n, 512]⟩) ![s.val, 0, 0] ![1, n, 512] inb).toLoadRect f (ix3 0 e q)
      = arg.view.read (Elt Ideal) f (ix3 s e q) := by
  refine congrArg (arg.view.read (Elt Ideal) f) ?_
  funext a; fin_cases a <;> exact Fin.ext (by simp [ix3])

theorem trip12 (s : Fin 2) (q : Fin 512) :
    arg12.view.read (Elt Ideal) (arg12.view.writes (Elt Ideal) f12 ((trip_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 k).2.1 f11 f12 f13)) (ix3 s 0 q)
      = nmax (kT i arg5 X5 k) (qB arg10 X10) (bT i arg7 X7 k) s q (arg12.view.read (Elt Ideal) f12 (ix3 s 0 q)) := by
  unfold trip_k0_t1
  dsimp only
  obtain rfl | rfl : s = 0 ∨ s = 1 := by omega
  · rw [View.read_writes_cons_unit_of_not_mem _ _ _ _ _ _ rfl 0 (by left; simp [ix3]),
      View.read_writes_cons_unit_of_mem _ _ _ _ _ _ (ix3 0 0 q) rfl (by intro a; fin_cases a <;> simp [ix3])]
    refine (pay12_at _ _).trans ((pay7_at _ _ _ _ _).trans (congrArg _ (slot3 arg12 f12 0 inb_S2x1x512_S1x1x512_0_0_0 0 q)))
  · rw [View.read_writes_cons_unit_of_mem _ _ _ _ _ _ (ix3 0 0 q) rfl (by intro a; fin_cases a <;> simp [ix3])]
    refine (pay43_at _ _).trans ((pay15_at _ _ _ _ _).trans (congrArg _ (slot3 arg12 f12 1 inb_S2x1x512_S1x1x512_1_0_0 0 q)))

theorem trip13 (s : Fin 2) (q : Fin 512) :
    arg13.view.read (Elt Ideal) (arg13.view.writes (Elt Ideal) f13 ((trip_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 k).2.2.1 f11 f12 f13)) (ix3 s 0 q)
      = Ideal.exp (arg12.view.read (Elt Ideal) f12 (ix3 s 0 q)
            - nmax (kT i arg5 X5 k) (qB arg10 X10) (bT i arg7 X7 k) s q (arg12.view.read (Elt Ideal) f12 (ix3 s 0 q)))
          * arg13.view.read (Elt Ideal) f13 (ix3 s 0 q)
        + ∑ a, Ideal.exp (score (kT i arg5 X5 k) (qB arg10 X10) (bT i arg7 X7 k) (row s q) a q
            - nmax (kT i arg5 X5 k) (qB arg10 X10) (bT i arg7 X7 k) s q (arg12.view.read (Elt Ideal) f12 (ix3 s 0 q))) := by
  unfold trip_k0_t1
  dsimp only
  obtain rfl | rfl : s = 0 ∨ s = 1 := by omega
  · rw [View.read_writes_cons_unit_of_not_mem _ _ _ _ _ _ rfl 0 (by left; simp [ix3]),
      View.read_writes_cons_unit_of_mem _ _ _ _ _ _ (ix3 0 0 q) rfl (by intro a; fin_cases a <;> simp [ix3])]
    rw [← slot3 arg12 f12 0 inb_S2x1x512_S1x1x512_0_0_0 0 q, ← slot3 arg13 f13 0 inb_S2x1x512_S1x1x512_0_0_0 0 q]
    exact pay10_at _ _ _ _ _ _
  · rw [View.read_writes_cons_unit_of_mem _ _ _ _ _ _ (ix3 0 0 q) rfl (by intro a; fin_cases a <;> simp [ix3])]
    rw [← slot3 arg12 f12 1 inb_S2x1x512_S1x1x512_1_0_0 0 q, ← slot3 arg13 f13 1 inb_S2x1x512_S1x1x512_1_0_0 0 q]
    exact pay18_at _ _ _ _ _ _

theorem trip11 (s : Fin 2) (e : Fin 128) (q : Fin 512) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 k).1 f11 f12 f13)) (ix3 s e q)
      = Ideal.exp (arg12.view.read (Elt Ideal) f12 (ix3 s 0 q)
            - nmax (kT i arg5 X5 k) (qB arg10 X10) (bT i arg7 X7 k) s q (arg12.view.read (Elt Ideal) f12 (ix3 s 0 q)))
          * arg11.view.read (Elt Ideal) f11 (ix3 s e q)
        + ∑ a, vT i arg6 X6 k (ix5 0 0 0 e a) * Ideal.exp (score (kT i arg5 X5 k) (qB arg10 X10) (bT i arg7 X7 k) (row s q) a q
            - nmax (kT i arg5 X5 k) (qB arg10 X10) (bT i arg7 X7 k) s q (arg12.view.read (Elt Ideal) f12 (ix3 s 0 q))) := by
  unfold trip_k0_t1
  dsimp only
  obtain rfl | rfl : s = 0 ∨ s = 1 := by omega
  · rw [View.read_writes_cons_unit_of_not_mem _ _ _ _ _ _ rfl 0 (by left; simp [ix3]),
      View.read_writes_cons_unit_of_mem _ _ _ _ _ _ (ix3 0 e q) rfl (by intro a; fin_cases a <;> simp [ix3])]
    rw [← slot3 arg12 f12 0 inb_S2x1x512_S1x1x512_0_0_0 0 q, ← slot3 arg11 f11 0 inb_S2x128x512_S1x128x512_0_0_0 e q]
    exact pay11_at _ _ _ _ _ _ _ _
  · rw [View.read_writes_cons_unit_of_mem _ _ _ _ _ _ (ix3 0 e q) rfl (by intro a; fin_cases a <;> simp [ix3])]
    rw [← slot3 arg12 f12 1 inb_S2x1x512_S1x1x512_1_0_0 0 q, ← slot3 arg11 f11 1 inb_S2x128x512_S1x128x512_1_0_0 e q]
    exact pay42_at _ _ _ _ _ _ _ _

end Trip

end Cert.DiffIdeal.Hand
-- ==== Proof.Diff.Loop.lean ====
module

public import proofs.«01_k».proof.Proof.Gen.DiffIdeal.Value
public import proofs.«01_k».proof.Proof.Diff.Trip
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! The loop over the key tiles: after `n` trips the scratch holds the running softmax of the first `n` tiles. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

/-! Numbers of trips, and the places the trips read. -/

theorem trips_1 (i : grid0.Coords) : (k0_t1_loop i).trips = (i 2).val + 1 := by
  have h : ∀ j : Fin 16, Scf.trips (0#32) (Scalar.addi (0#32) (Scalar.muli (Scalar.divsi (Scalar.subi (Scalar.addi (BitVec.ofNat 32 j.val) 1#32) 0#32) 1#32) 1#32)) (1#32) = j.val + 1 := by
    decide +kernel
  exact h (i 2)

theorem trips_2 (i : grid0.Coords) : (k0_t2_loop i).trips = 0 := by
  have h : ∀ j : Fin 16, Scf.trips (Scalar.addi (0#32) (Scalar.muli (Scalar.divsi (Scalar.subi (Scalar.addi (BitVec.ofNat 32 j.val) 1#32) 0#32) 1#32) 1#32)) (Scalar.addi (0#32) (Scalar.subi (Scalar.addi (BitVec.ofNat 32 j.val) 1#32) 0#32)) (1#32) = 0 := by
    decide +kernel
  exact h (i 2)

theorem trip_lt (i : grid0.Coords) (k : Fin (k0_t1_loop i).trips) : k.val < (i 2).val + 1 := by
  exact lt_of_lt_of_eq k.isLt (trips_1 i)

theorem coord_lt (i : grid0.Coords) : (i 2).val < 16 := (i 2).isLt

theorem off1_eq (i : grid0.Coords) (k : Fin (k0_t1_loop i).trips) : k0_off1 i k = ![512 * k.val, 0] := by
  have h : ∀ j : Fin 16, (Scalar.indexCast (Scalar.muli (Scf.iv (0#32) (1#32) j.val) 512#32) : Index).toNat = 512 * j.val := by decide +kernel
  have := h ⟨k.val, by have := trip_lt i k; have := coord_lt i; omega⟩
  exact congrArg (fun n => (![n, 0] : Fin 2 → Nat)) this

theorem off3_eq (i : grid0.Coords) (k : Fin (k0_t1_loop i).trips) : k0_off3 i k = ![0, 0, k.val, 0, 0] := by
  have h : ∀ j : Fin 16, (Scalar.indexCast (Scf.iv (0#32) (1#32) j.val) : Index).toNat = j.val := by decide +kernel
  have := h ⟨k.val, by have := trip_lt i k; have := coord_lt i; omega⟩
  exact congrArg (fun n => (![0, 0, n, 0, 0] : Fin 5 → Nat)) this

theorem off2_eq (i : grid0.Coords) (k : Fin (k0_t1_loop i).trips) : k0_off2 i k = ![0, min ((i 2).val - k.val) 3, 0, 0] := by
  have h : ∀ q j : Fin 16, j.val ≤ q.val → (Scalar.indexCast (Scalar.minsi (Scalar.subi (BitVec.ofNat 32 q.val) (Scf.iv (0#32) (1#32) j.val)) 3#32) : Index).toNat = min (q.val - j.val) 3 := by decide +kernel
  have := h (i 2) ⟨k.val, by have := trip_lt i k; have := coord_lt i; omega⟩ (by have := trip_lt i k; simp only; omega)
  exact congrArg (fun n => (![0, n, 0, 0] : Fin 4 → Nat)) this

section Loop
variable (𝒱 : Variants) (c : Dev nD) (bd : Option 𝒱.V) (i : grid0.Coords) (arg3 : Memref sig .tc .smem S1 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x16x128x512 .bf16) (harg6 : arg6.IsWhole) (arg7 : Memref sig .tc .vmem S1x4x512x512 .f32) (harg7 : arg7.IsWhole) (arg8 : Memref sig .tc .vmem S128x1 .f32) (harg8 : arg8.IsWhole) (arg9 : Memref sig .tc .vmem S1x128x512 .bf16) (harg9 : arg9.IsWhole) (arg10 : Memref sig .tc .vmem S1024x128 .bf16) (harg10 : arg10.IsWhole) (arg11 : Memref sig .tc .vmem S2x128x512 .f32) (harg11 : arg11.IsWhole) (arg12 : Memref sig .tc .vmem S2x1x512 .f32) (harg12 : arg12.IsWhole) (arg13 : Memref sig .tc .vmem S2x1x512 .f32) (harg13 : arg13.IsWhole)
  (arg2 v27 z : BitVec 32) (X5 : BufTy.Contents (Elt Ideal) arg5.view.ty) (X6 : BufTy.Contents (Elt Ideal) arg6.view.ty)
  (X7 : BufTy.Contents (Elt Ideal) arg7.view.ty) (X10 : BufTy.Contents (Elt Ideal) arg10.view.ty)
  (G11 : BufTy.Contents (Elt Ideal) arg11.view.ty) (G12 : BufTy.Contents (Elt Ideal) arg12.view.ty) (G13 : BufTy.Contents (Elt Ideal) arg13.view.ty)

/-- After `n` trips the maximum and the sum are those of the running softmax, -/
theorem loop_l (S : Nat → Fin 512 → EReal) (s : Fin 2) (q : Fin 512) (hT : ∀ k a, S k a ≠ ⊤)
    (hS : ∀ (k : Fin (k0_t1_loop i).trips) a, score (kT i arg5 X5 k) (qB arg10 X10) (bT i arg7 X7 k) (row s q) a q = S k.val a)
    (h0 : Inv S 0 (arg12.view.read (Elt Ideal) G12 (ix3 s 0 q)) (arg13.view.read (Elt Ideal) G13 (ix3 s 0 q)))
    (n : Nat) (hn : n ≤ (k0_t1_loop i).trips) :
    Inv S n (arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 G11 G12 G13 n).2.1) (ix3 s 0 q))
      (arg13.view.read (Elt Ideal) (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 G11 G12 G13 n).2.2) (ix3 s 0 q)) := by
  induction n with
  | zero => exact h0
  | succ n ih =>
    have ih := ih (by omega)
    rw [show n + 1 = (⟨n, hn⟩ : Fin (k0_t1_loop i).trips).val + 1 from rfl, pb_k0_t1_succ]
    simp only [View.writes_append]
    rw [trip12 (i := i), trip13 (i := i)]
    refine ih.step (maxOf_ne_top (f := S n) (hT n)) (hT n) ?_ ?_
    · unfold nmax; simp only [hS]
    · simp only [hS]

/-- and the weighted sum its numerator. -/
theorem loop_a (S : Nat → Fin 512 → EReal) (v : Nat → Fin 512 → ℝ) (s : Fin 2) (e : Fin 128) (q : Fin 512) (hT : ∀ k a, S k a ≠ ⊤)
    (hS : ∀ (k : Fin (k0_t1_loop i).trips) a, score (kT i arg5 X5 k) (qB arg10 X10) (bT i arg7 X7 k) (row s q) a q = S k.val a)
    (hv : ∀ (k : Fin (k0_t1_loop i).trips) a, vT i arg6 X6 k (ix5 0 0 0 e a) = (v k.val a : EReal))
    (h0 : InvA S v 0 (arg12.view.read (Elt Ideal) G12 (ix3 s 0 q)) (arg11.view.read (Elt Ideal) G11 (ix3 s e q)))
    (n : Nat) (hn : n ≤ (k0_t1_loop i).trips) :
    InvA S v n (arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 G11 G12 G13 n).2.1) (ix3 s 0 q))
      (arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg13 harg13 arg2 v27 z X5 X6 X7 X10 G11 G12 G13 n).1) (ix3 s e q)) := by
  induction n with
  | zero => exact h0
  | succ n ih =>
    have ih := ih (by omega)
    rw [show n + 1 = (⟨n, hn⟩ : Fin (k0_t1_loop i).trips).val + 1 from rfl, pb_k0_t1_succ]
    simp only [View.writes_append]
    rw [trip12 (i := i), trip11 (i := i)]
    refine ih.step (maxOf_ne_top (f := S n) (hT n)) (hT n) ?_ ?_
    · unfold nmax; simp only [hS]
    · simp only [hS, hv]

end Loop

section Reads
variable (i : grid0.Coords) (arg4 : Memref sig .tc .vmem S512x128 .bf16) (harg4 : arg4.IsWhole) (arg5 : Memref sig .tc .vmem S8192x128 .bf16) (harg5 : arg5.IsWhole) (arg6 : Memref sig .tc .vmem S1x1x16x128x512 .bf16) (harg6 : arg6.IsWhole) (arg7 : Memref sig .tc .vmem S1x4x512x512 .f32) (harg7 : arg7.IsWhole) (arg10 : Memref sig .tc .vmem S1024x128 .bf16) (c : Dev nD)
  (x1 : Vec Ideal S512x128 .bf16) (x2 : Vec Ideal S8192x128 .bf16) (x3 : Vec Ideal S1x1x16x128x512 .bf16) (x4 : Vec Ideal S1x4x512x512 .f32) (k : Fin (k0_t1_loop i).trips)

theorem kT_at (a : Fin 512) (d : Fin 128) : kT i arg5 (harg5.unread x2) k (ix2 a d) = x2 (ix2 (key k.val a) d) := by
  have h := congrFun (harg5.read_unread x2)
  refine Eq.trans (h _) (congrArg x2 ?_)
  have hk := trip_lt i k; have hi := coord_lt i
  funext j; fin_cases j
  · refine Fin.ext ?_
    show k0_off1 i k 0 + 1 * a.val = (512 * k.val + a.val) % 8192
    rw [off1_eq, Nat.mod_eq_of_lt (by omega)]; simp
  · refine Fin.ext ?_
    show k0_off1 i k 1 + 1 * d.val = d.val
    rw [off1_eq]; simp

theorem vT_at (e : Fin 128) (a : Fin 512) : vT i arg6 (harg6.unread x3) k (ix5 0 0 0 e a)
    = x3 (ix5 0 0 ⟨k.val, by have := trip_lt i k; have := coord_lt i; omega⟩ e a) := by
  have h := congrFun (harg6.read_unread x3)
  refine Eq.trans (h _) (congrArg x3 ?_)
  funext j; fin_cases j <;> refine Fin.ext ?_
  · show k0_off3 i k 0 + 1 * 0 = 0; rw [off3_eq]; simp
  · show k0_off3 i k 1 + 1 * 0 = 0; rw [off3_eq]; simp
  · show k0_off3 i k 2 + 1 * 0 = k.val; rw [off3_eq]; simp
  · show k0_off3 i k 3 + 1 * e.val = e.val; rw [off3_eq]; simp
  · show k0_off3 i k 4 + 1 * a.val = a.val; rw [off3_eq]; simp

theorem bT_at (a q : Fin 512) : bT i arg7 (harg7.unread x4) k (ix4 0 0 a q)
    = x4 (ix4 0 ⟨min ((i 2).val - k.val) 3, by omega⟩ a q) := by
  have h := congrFun (harg7.read_unread x4)
  refine Eq.trans (h _) (congrArg x4 ?_)
  funext j; fin_cases j <;> refine Fin.ext ?_
  · show k0_off2 i k 0 + 1 * 0 = 0; rw [off2_eq]; simp
  · show k0_off2 i k 1 + 1 * 0 = min ((i 2).val - k.val) 3; rw [off2_eq]; simp
  · show k0_off2 i k 2 + 1 * a.val = a.val; rw [off2_eq]; simp
  · show k0_off2 i k 3 + 1 * q.val = q.val; rw [off2_eq]; simp

end Reads

end Cert.DiffIdeal.Hand
-- ==== Proof.Diff.Tile.lean ====
module

public import proofs.«01_k».proof.Proof.Gen.DiffIdeal.Value
public import proofs.«01_k».proof.Proof.Diff.Loop
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! What one point of the grid leaves in the output: the difference of two softmax averages, normalised. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

theorem cmp64 : ∀ d : Fin 128, IntOp.cmpi .slt (BitVec.ofNat 32 d.val) 64#32 = if d.val / 64 = 0 then 1#1 else 0#1 := by
  decide +kernel

theorem bf0 : Ideal.ofBits FTy.bf16 0#16 = 0 := by simp [Ideal.ofBits, Ideal.ieee]

theorem pay37_at (w : Vec Ideal S512x128 .bf16) (q : Fin 512) (d : Fin 128) :
    k0_pay37 w (ix2 q d) = if d.val / 64 = 0 then w (ix2 q d) else 0 := by
  pointwise [k0_pay37, k0_pay36]
  rw [cmp64]
  by_cases h : d.val / 64 = 0 <;> simp [h, Scalar.select]

theorem pay38_at (w : Vec Ideal S512x128 .bf16) (q : Fin 512) (d : Fin 128) :
    k0_pay38 w (ix2 q d) = if d.val / 64 = 1 then w (ix2 q d) else 0 := by
  pointwise [k0_pay38, k0_pay36]
  rw [cmp64]
  have h2 := d.isLt
  by_cases h : d.val / 64 = 0
  · simp [h, Scalar.select]
  · have h1 : d.val / 64 = 1 := by omega
    simp [h1, Scalar.select]

theorem stack_top (arg10 : Memref sig .tc .vmem S1024x128 .bf16) (f : BufTy.Contents (Elt Ideal) arg10.view.ty) (A B : FVec Ideal S512x128 .bf16) (q : Fin 512) (d : Fin 128) :
    arg10.view.read (Elt Ideal) (arg10.view.writes (Elt Ideal) f [⟨Rect.unit ![512, 0] S512x128.size inb_S1024x128_S512x128_512_0, A⟩, ⟨Rect.unit ![0, 0] S512x128.size inb_S1024x128_S512x128_0_0, B⟩]) (ix2 (row 0 q) d) = B (ix2 q d) := by
  have h0 : (row 0 q).val < 512 := by simp only [row]; show 512 * 0 + q.val < 512; omega
  have h1 : (row 0 q).val = q.val := by simp only [row]; show 512 * 0 + q.val = q.val; omega
  rw [View.read_writes_cons_unit_of_not_mem _ _ _ _ _ _ rfl 0 (by left; exact h0)]
  rw [View.read_writes_cons_unit_of_mem _ _ _ _ _ _ (ix2 q d) rfl ?_]
  intro a; fin_cases a; exacts [h1.trans (Nat.zero_add _).symm, (Nat.zero_add _).symm]

theorem stack_bot (arg10 : Memref sig .tc .vmem S1024x128 .bf16) (f : BufTy.Contents (Elt Ideal) arg10.view.ty) (A B : FVec Ideal S512x128 .bf16) (q : Fin 512) (d : Fin 128) :
    arg10.view.read (Elt Ideal) (arg10.view.writes (Elt Ideal) f [⟨Rect.unit ![512, 0] S512x128.size inb_S1024x128_S512x128_512_0, A⟩, ⟨Rect.unit ![0, 0] S512x128.size inb_S1024x128_S512x128_0_0, B⟩]) (ix2 (row 1 q) d) = A (ix2 q d) := by
  have h1 : (row 1 q).val = 512 + q.val := by simp only [row]; show 512 * 1 + q.val = 512 + q.val; omega
  rw [View.read_writes_cons_unit_of_mem _ _ _ _ _ _ (ix2 q d) rfl ?_]
  intro a; fin_cases a; exacts [h1, (Nat.zero_add _).symm]

/-- The difference of the averages, normalised over its 128 entries. -/
def normed (o g : Fin 128 → EReal) (e : Fin 128) : EReal :=
  o e * Ideal.rsqrt (Ideal.div (∑ e, o e * o e) (128 : EReal) + Ideal.ofBits FTy.f32 897988541#32) * g e

theorem min3 (n : Nat) : min n 3 < 4 := by omega

theorem f128 : Ideal.ofBits FTy.f32 1124073472#32 = (128 : EReal) := by
  simp [Ideal.ofBits, Ideal.ieee, -EReal.coe_mul]; norm_num; try norm_cast

theorem pay_out (v33 : Vec Ideal S1x128x512 .f32) (v35 : Vec Ideal S1x1x512 .f32) (v39 : EReal) (v40 : Vec Ideal S1x128x512 .f32) (v42 : Vec Ideal S1x1x512 .f32) (v59 : Vec Ideal S128x1 .f32)
    (o : Fin 128 → EReal) (e : Fin 128) (q : Fin 512)
    (ho : ∀ e, Ideal.div (v33 (ix3 0 e q)) (v35 (ix3 0 0 q)) - v39 * Ideal.div (v40 (ix3 0 e q)) (v42 (ix3 0 0 q)) = o e) :
    k0_pay1 (k0_pay46 v33 v35 v39 v40 v42 v59) (ix3 0 e q) = normed o (fun e => v59 (ix2 e 0)) e := by
  pointwise [k0_pay1, k0_pay46]
  unfold normed
  simp only [← ho, ← f128]

section
variable (c : Dev nD) (i : grid0.Coords) (arg3 : Memref sig .tc .smem S1 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x16x128x512 .bf16) (harg6 : arg6.IsWhole) (arg7 : Memref sig .tc .vmem S1x4x512x512 .f32) (harg7 : arg7.IsWhole) (arg8 : Memref sig .tc .vmem S128x1 .f32) (harg8 : arg8.IsWhole) (arg9 : Memref sig .tc .vmem S1x128x512 .bf16) (harg9 : arg9.IsWhole) (arg10 : Memref sig .tc .vmem S1024x128 .bf16) (harg10 : arg10.IsWhole) (arg11 : Memref sig .tc .vmem S2x128x512 .f32) (harg11 : arg11.IsWhole) (arg12 : Memref sig .tc .vmem S2x1x512 .f32) (harg12 : arg12.IsWhole) (arg13 : Memref sig .tc .vmem S2x1x512 .f32) (harg13 : arg13.IsWhole)
  (x0 : Vec Ideal S1 .f32) (x1 : Vec Ideal S512x128 .bf16) (x2 : Vec Ideal S8192x128 .bf16) (x3 : Vec Ideal S1x1x16x128x512 .bf16) (x4 : Vec Ideal S1x4x512x512 .f32) (x5 : Vec Ideal S128x1 .f32)

theorem x1_read : View.readAt (Elt Ideal) arg4.view (Rect.unit (s := S512x128) ![0, 0] S512x128.size inb_S512x128_S512x128_0_0).toLoadRect (harg4.unread x1) = x1 := by
  have h := congrFun (harg4.read_unread x1)
  funext y
  refine Eq.trans (h _) (congrArg x1 ?_)
  funext j; fin_cases j <;> exact Fin.ext (by simp)

/-- The stacked queries: each half keeps its own 64 lanes. -/
theorem qB_at (s : Fin 2) (q : Fin 512) (d : Fin 128) :
    qB arg10 (arg10.view.writes (Elt Ideal) arg10.view.junk (kernelRun0_A.sl.HS0_2 c arg4 harg4 x1)) (ix2 (row s q) d) = if d.val / 64 = s.val then x1 (ix2 q d) else 0 := by
  have e : ∀ r : Fin 1024, ∀ f : BufTy.Contents (Elt Ideal) arg10.view.ty, qB arg10 f (ix2 r d) = arg10.view.read (Elt Ideal) f (ix2 r d) := by
    intro r f
    refine congrArg (arg10.view.read (Elt Ideal) f) ?_
    funext j; fin_cases j <;> exact Fin.ext (by simp [ix2])
  rw [e]
  unfold kernelRun0_A.sl.HS0_2
  rw [x1_read]
  obtain rfl | rfl : s = 0 ∨ s = 1 := by omega
  · exact (stack_top arg10 _ _ _ q d).trans (pay37_at x1 q d)
  · exact (stack_bot arg10 _ _ _ q d).trans (pay38_at x1 q d)

theorem lam_at : kernelRun0_A.sl.r c arg3 harg3 x0 = x0 (ix1 0) := by
  have h := congrFun (harg3.read_unread x0)
  refine Eq.trans (h _) (congrArg x0 ?_)
  funext j; fin_cases j; exact Subsingleton.elim (α := Fin 1) _ _

theorem gsub_at : View.readAt (Elt Ideal) arg8.view (Rect.unit (s := S128x1) ![0, 0] S128x1.size inb_S128x1_S128x1_0_0).toLoadRect (harg8.unread x5) = x5 := by
  have h := congrFun (harg8.read_unread x5)
  funext y
  refine Eq.trans (h _) (congrArg x5 ?_)
  funext j; fin_cases j <;> exact Fin.ext (by simp)

theorem v33_at (e : Fin 128) (q : Fin 512) : kernelRun0_A.sl.v33 c i arg3 harg3 arg4 harg4 arg5 harg5 arg6 harg6 arg7 harg7 arg8 harg8 arg9 harg9 arg10 harg10 arg11 harg11 arg12 harg12 arg13 harg13 x1 x2 x3 x4 (ix3 0 e q) = arg11.view.read (Elt Ideal) (arg11.view.writes (Elt Ideal) (arg11.view.writes (Elt Ideal) arg11.view.junk kernelRun0_A.sl.HS1_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).1) (ix3 0 e q) := by
  unfold kernelRun0_A.sl.v33
  rw [show Scf.trips (k0_t2_loop i).lb (k0_t2_loop i).ub (k0_t2_loop i).st = 0 from trips_2 i]
  refine Eq.trans (slot3 arg11 _ 0 _ e q) ?_
  simp only [pb_k0_t2, List.nil_append, View.writes_append]

theorem v40_at (e : Fin 128) (q : Fin 512) : kernelRun0_A.sl.v40 c i arg3 harg3 arg4 harg4 arg5 harg5 arg6 harg6 arg7 harg7 arg8 harg8 arg9 harg9 arg10 harg10 arg11 harg11 arg12 harg12 arg13 harg13 x1 x2 x3 x4 (ix3 0 e q) = arg11.view.read (Elt Ideal) (arg11.view.writes (Elt Ideal) (arg11.view.writes (Elt Ideal) arg11.view.junk kernelRun0_A.sl.HS1_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).1) (ix3 1 e q) := by
  unfold kernelRun0_A.sl.v40
  rw [show Scf.trips (k0_t2_loop i).lb (k0_t2_loop i).ub (k0_t2_loop i).st = 0 from trips_2 i]
  refine Eq.trans (slot3 arg11 _ 1 _ e q) ?_
  simp only [pb_k0_t2, List.nil_append, View.writes_append]

theorem v35_at (q : Fin 512) : kernelRun0_A.sl.v35 c i arg3 harg3 arg4 harg4 arg5 harg5 arg6 harg6 arg7 harg7 arg8 harg8 arg9 harg9 arg10 harg10 arg11 harg11 arg12 harg12 arg13 harg13 x1 x2 x3 x4 (ix3 0 0 q) = arg13.view.read (Elt Ideal) (arg13.view.writes (Elt Ideal) (arg13.view.writes (Elt Ideal) arg13.view.junk kernelRun0_A.sl.HS3_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).2.2) (ix3 0 0 q) := by
  unfold kernelRun0_A.sl.v35
  rw [show Scf.trips (k0_t2_loop i).lb (k0_t2_loop i).ub (k0_t2_loop i).st = 0 from trips_2 i]
  refine Eq.trans (slot3 arg13 _ 0 _ 0 q) ?_
  simp only [pb_k0_t2, List.nil_append, View.writes_append]

theorem v42_at (q : Fin 512) : kernelRun0_A.sl.v42 c i arg3 harg3 arg4 harg4 arg5 harg5 arg6 harg6 arg7 harg7 arg8 harg8 arg9 harg9 arg10 harg10 arg11 harg11 arg12 harg12 arg13 harg13 x1 x2 x3 x4 (ix3 0 0 q) = arg13.view.read (Elt Ideal) (arg13.view.writes (Elt Ideal) (arg13.view.writes (Elt Ideal) arg13.view.junk kernelRun0_A.sl.HS3_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).2.2) (ix3 1 0 q) := by
  unfold kernelRun0_A.sl.v42
  rw [show Scf.trips (k0_t2_loop i).lb (k0_t2_loop i).ub (k0_t2_loop i).st = 0 from trips_2 i]
  refine Eq.trans (slot3 arg13 _ 1 _ 0 q) ?_
  simp only [pb_k0_t2, List.nil_append, View.writes_append]

theorem start12 (s : Fin 2) (q : Fin 512) : ∃ M : ℝ, arg12.view.read (Elt Ideal) (arg12.view.writes (Elt Ideal) arg12.view.junk kernelRun0_A.sl.HS2_1) (ix3 s 0 q) = (M : EReal) := by
  have h : ∃ M : ℝ, Ideal.ofBits FTy.f32 0xF149F2CA#32 = (M : EReal) := by
    simp [Ideal.ofBits, Ideal.ieee, -EReal.coe_mul]
    exact ⟨_, rfl⟩
  obtain ⟨M, hM⟩ := h
  refine ⟨M, ?_⟩
  unfold kernelRun0_A.sl.HS2_1
  rw [View.read_writes_cons_unit_of_mem _ _ _ _ _ _ (ix3 s 0 q) rfl (by intro a; fin_cases a <;> simp [ix3])]
  pointwise [k0_pay39]
  exact hM

theorem start13 (s : Fin 2) (q : Fin 512) : arg13.view.read (Elt Ideal) (arg13.view.writes (Elt Ideal) arg13.view.junk kernelRun0_A.sl.HS3_1) (ix3 s 0 q) = 0 := by
  unfold kernelRun0_A.sl.HS3_1
  rw [View.read_writes_cons_unit_of_mem _ _ _ _ _ _ (ix3 s 0 q) rfl (by intro a; fin_cases a <;> simp [ix3])]
  pointwise [k0_pay40]

theorem start11 (s : Fin 2) (e : Fin 128) (q : Fin 512) : arg11.view.read (Elt Ideal) (arg11.view.writes (Elt Ideal) arg11.view.junk kernelRun0_A.sl.HS1_1) (ix3 s e q) = 0 := by
  unfold kernelRun0_A.sl.HS1_1
  rw [View.read_writes_cons_unit_of_mem _ _ _ _ _ _ (ix3 s e q) rfl (by intro a; fin_cases a <;> simp [ix3])]
  pointwise [k0_pay41]

variable (S : Fin 2 → Fin 8192 → EReal) (v : Fin 128 → Fin 8192 → ℝ) (q : Fin 512)
  (hT : ∀ s K, S s K ≠ ⊤) (hB : ∀ s K, 512 * ((i 2).val + 1) ≤ K.val → S s K = ⊥) (hF : ∀ s, ∃ K, S s K ≠ ⊥)
  (hS : ∀ s k a, k ≤ (i 2).val → S s (key k a) = (∑ d : Fin 128, x2 (ix2 (key k a) d) * (if d.val / 64 = s.val then x1 (ix2 q d) else 0))
    + x4 (ix4 0 ⟨min ((i 2).val - k) 3, min3 _⟩ a q))
  (hv : ∀ e (k : Fin 16) a, x3 (ix5 0 0 k e a) = (v e (key k.val a) : EReal))
include hT hB hF hS hv

theorem quot_at (s : Fin 2) (e : Fin 128) :
    Ideal.div (arg11.view.read (Elt Ideal) (arg11.view.writes (Elt Ideal) (arg11.view.writes (Elt Ideal) arg11.view.junk kernelRun0_A.sl.HS1_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).1) (ix3 s e q)) (arg13.view.read (Elt Ideal) (arg13.view.writes (Elt Ideal) (arg13.view.writes (Elt Ideal) arg13.view.junk kernelRun0_A.sl.HS3_1) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) (arg10.view.writes (Elt Ideal) arg10.view.junk (kernelRun0_A.sl.HS0_2 c arg4 harg4 x1)) (arg11.view.writes (Elt Ideal) arg11.view.junk kernelRun0_A.sl.HS1_1) (arg12.view.writes (Elt Ideal) arg12.view.junk kernelRun0_A.sl.HS2_1) (arg13.view.writes (Elt Ideal) arg13.view.junk kernelRun0_A.sl.HS3_1) (k0_t1_loop i).trips).2.2) (ix3 s 0 q)) = avg (S s) (v e) := by
  obtain ⟨M, hM⟩ := start12 arg12 s q
  obtain ⟨K₀, hK₀⟩ := hF s
  have hsc : ∀ (k : Fin (k0_t1_loop i).trips) a, score (kT i arg5 (harg5.unread x2) k) (qB arg10 (arg10.view.writes (Elt Ideal) arg10.view.junk (kernelRun0_A.sl.HS0_2 c arg4 harg4 x1))) (bT i arg7 (harg7.unread x4) k) (row s q) a q = S s (key k.val a) := by
    intro k a
    rw [hS s k.val a (by have := trip_lt i k; omega)]
    unfold score
    refine congrArg₂ _ (Finset.sum_congr rfl fun d _ => congrArg₂ _ (kT_at i arg5 harg5 x2 k a d) (qB_at c arg4 harg4 arg10 x1 s q d)) (bT_at i arg7 harg7 x4 k a q)
  have hvv : ∀ (k : Fin (k0_t1_loop i).trips) a, vT i arg6 (harg6.unread x3) k (ix5 0 0 0 e a) = (v e (key k.val a) : EReal) := by
    intro k a
    exact (vT_at i arg6 harg6 x3 k e a).trans (hv e ⟨k.val, _⟩ a)
  have ht := trips_1 i
  refine quotient (S s) (v e) (n := (k0_t1_loop i).trips) (by have := coord_lt i; omega) (fun K h => hB s K (by omega)) hK₀
    (loop_l Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) _ _ _ _ (fun j a => S s (key j a)) s q (fun k a => hT s _) hsc ?_ _ le_rfl)
    (loop_a Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.v27 i) (0#32) (harg5.unread x2) (harg6.unread x3) (harg7.unread x4) _ _ _ _ (fun j a => S s (key j a)) (fun j a => v e (key j a)) s e q (fun k a => hT s _) hsc hvv ?_ _ le_rfl)
  · rw [hM, start13]; exact Inv.zero _ M
  · rw [hM, start11]; exact InvA.zero _ _ M

theorem out_at (lam : ℝ) (hl : x0 (ix1 0) = (lam : EReal)) (e : Fin 128) :
    out0_A_6 c i arg3 harg3 arg4 harg4 arg5 harg5 arg6 harg6 arg7 harg7 arg8 harg8 arg9 harg9 arg10 harg10 arg11 harg11 arg12 harg12 arg13 harg13 x0 x1 x2 x3 x4 x5 (ix3 0 e q)
      = normed (fun e => ((avg (S 0) (v e) - lam * avg (S 1) (v e) : ℝ) : EReal)) (fun e => x5 (ix2 e 0)) e := by
  unfold out0_A_6 kernelRun0_A
  dsimp only
  rw [View.read_writes_cons_unit_of_mem _ _ _ _ _ _ (ix3 0 e q) rfl (by intro a; fin_cases a <;> simp [ix3])]
  unfold kernelRun0_A.sl.r_1
  rw [gsub_at, lam_at, hl]
  refine pay_out _ _ _ _ _ _ _ e q fun e' => ?_
  rw [v33_at, v35_at, v40_at, v42_at, quot_at (hT := hT) (hB := hB) (hF := hF) (hS := hS) (hv := hv), quot_at (hT := hT) (hB := hB) (hF := hF) (hS := hS) (hv := hv)]
  norm_cast

end

end Cert.DiffIdeal.Hand
-- ==== Proof.Diff.Model.lean ====
module

public import proofs.«01_k».proof.Proof.Diff.Tile
public import proofs.«01_k».proof.Proof.Diff.Mask

/-! What the differential attention computes of a head, written over plain tables of numbers. -/

@[expose] public section

set_option maxRecDepth 16384

noncomputable section

namespace Cert.DiffModel

open Idealize.ShloMosaic Idealize.ShloMosaic.TcCoe Idealize.SL.Sem

/-- The row of a batch's token. -/
def tok (b : Fin 4) (n : Fin 8192) : Fin 32768 := ⟨8192 * b.val + n.val, by omega⟩
/-- A query's column. -/
def colQ (h : Fin 4) (s : Fin 2) (d : Fin 64) : Fin 8192 := ⟨3584 + 128 * h.val + 64 * s.val + d.val, by omega⟩
/-- A key's column. -/
def colK (h : Fin 4) (s : Fin 2) (d : Fin 64) : Fin 8192 := ⟨4096 + 128 * h.val + 64 * s.val + d.val, by omega⟩
/-- A value's column. -/
def colV (h : Fin 4) (e : Fin 128) : Fin 8192 := ⟨4608 + 128 * h.val + e.val, by omega⟩

variable (p : Fin 32768 → Fin 8192 → EReal) (tb : Fin 32 → Fin 4 → EReal) (lm : Fin 4 → Fin 64 → EReal) (g : Fin 128 → EReal)

/-- The product of a query and a key, in one half of a head. -/
def qk (b h : Fin 4) (s : Fin 2) (Q K : Fin 8192) : EReal := ∑ d : Fin 64, p (tok b Q) (colQ h s d) * p (tok b K) (colK h s d)
/-- The score, with bias and mask. -/
def sc (b h : Fin 4) (Q : Fin 8192) (s : Fin 2) (K : Fin 8192) : EReal := scoreOf (qk p b h s Q K) (fun r => tb r h) K Q
/-- The weight of the second softmax. -/
def lam : EReal := (Ideal.exp (∑ d : Fin 64, lm 0 d * lm 1 d) - Ideal.exp (∑ d : Fin 64, lm 2 d * lm 3 d)) + Ideal.ofBits FTy.f32 1045220557#32
/-- A value, as a real. -/
def vl (b h : Fin 4) (e : Fin 128) (K : Fin 8192) : ℝ := (p (tok b K) (colV h e)).toReal
/-- A head's difference of the two averages. -/
def mix (b h : Fin 4) (Q : Fin 8192) (e : Fin 128) : EReal :=
  ((avg (sc p tb b h Q 0) (vl p b h e) - (lam lm).toReal * avg (sc p tb b h Q 1) (vl p b h e) : ℝ) : EReal)
/-- The result at one place. -/
def attn (b h : Fin 4) (Q : Fin 8192) (e : Fin 128) : EReal :=
  Cert.DiffIdeal.Hand.normed (mix p tb lm b h Q) (fun e => g e * Ideal.ofBits FTy.f32 1061997773#32) e

/-- The entries that the attention reads are numbers. -/
structure Fine : Prop where
  p : ∀ r c, 3584 ≤ c.val → c.val < 5120 → ∃ x : ℝ, p r c = x
  tb : ∀ r h, ∃ x : ℝ, tb r h = x
  lm : ∀ r d, ∃ x : ℝ, lm r d = x

variable {p tb lm} (F : Fine p tb lm)
include F

theorem qk_real (b h s Q K) : ∃ x : ℝ, qk p b h s Q K = x := by
  have h1 : ∀ d, ∃ x : ℝ, p (tok b Q) (colQ h s d) * p (tok b K) (colK h s d) = x := by
    intro d
    obtain ⟨x, hx⟩ := F.p (tok b Q) (colQ h s d) (by simp only [colQ]; omega) (by simp only [colQ]; omega)
    obtain ⟨y, hy⟩ := F.p (tok b K) (colK h s d) (by simp only [colK]; omega) (by simp only [colK]; omega)
    exact ⟨x * y, by rw [hx, hy, EReal.coe_mul]⟩
  choose f hf using h1
  exact ⟨∑ d, f d, by unfold qk; rw [Finset.sum_congr rfl fun d _ => hf d, coe_sum]⟩

theorem sc_top (b h Q s K) : sc p tb b h Q s K ≠ ⊤ := by
  obtain ⟨x, hx⟩ := qk_real F b h s Q K
  unfold sc scoreOf
  split_ifs
  · obtain ⟨y, hy⟩ := F.tb (slot (IntOp.subi (BitVec.ofNat 32 K.val) (BitVec.ofNat 32 Q.val))) h
    dsimp only
    rw [hx, hy, ← EReal.coe_add]
    exact EReal.coe_ne_top _
  · exact bot_ne_top

theorem sc_self (b h Q s) : sc p tb b h Q s Q ≠ ⊥ := by
  obtain ⟨x, hx⟩ := qk_real F b h s Q Q
  unfold sc scoreOf
  rw [if_pos le_rfl]
  obtain ⟨y, hy⟩ := F.tb (slot (IntOp.subi (BitVec.ofNat 32 Q.val) (BitVec.ofNat 32 Q.val))) h
  dsimp only
  rw [hx, hy, ← EReal.coe_add]
  exact EReal.coe_ne_bot _

theorem vl_coe (b h e K) : p (tok b K) (colV h e) = (vl p b h e K : EReal) := by
  obtain ⟨x, hx⟩ := F.p (tok b K) (colV h e) (by simp only [colV]; omega) (by simp only [colV]; omega)
  rw [vl, hx, EReal.toReal_coe]

theorem lam_coe : lam lm = ((lam lm).toReal : EReal) := by
  have h1 : ∀ i j, ∃ x : ℝ, Ideal.exp (∑ d : Fin 64, lm i d * lm j d) = x := by
    intro i j
    have h2 : ∀ d, ∃ x : ℝ, lm i d * lm j d = x := by
      intro d
      obtain ⟨x, hx⟩ := F.lm i d
      obtain ⟨y, hy⟩ := F.lm j d
      exact ⟨x * y, by rw [hx, hy, EReal.coe_mul]⟩
    choose f hf using h2
    exact ⟨_, by rw [Finset.sum_congr rfl fun d _ => hf d, ← coe_sum, Ideal.exp_coe]⟩
  have h3 : ∃ z : ℝ, Ideal.ofBits FTy.f32 1045220557#32 = z := by
    simp [Ideal.ofBits, Ideal.ieee, -EReal.coe_mul]
  obtain ⟨x, hx⟩ := h1 0 1
  obtain ⟨y, hy⟩ := h1 2 3
  obtain ⟨z, hz⟩ := h3
  unfold lam
  rw [hx, hy, hz, ← EReal.coe_sub, ← EReal.coe_add, EReal.toReal_coe]

end Cert.DiffModel

end
-- ==== Proof.Diff.Host.lean ====
module

public import proofs.«01_k».proof.Proof.Gen.DiffIdeal.Value
public import proofs.«01_k».proof.Proof.Diff.Tables
public import proofs.«01_k».proof.Proof.Diff.Model
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! What the host hands the kernel, and which blocks of it a point of the grid holds. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

variable (m : (ℓ : Loc nD τ sig) → Buf (Elt Ideal) ℓ) (c : Dev nD)

/-- The projections. -/
def argP : FVec Ideal S32768x8192 .bf16 := m ((c : Thread nD τ).loc main_arg0)
/-- The table of biases. -/
def argT : FVec Ideal S32x4 .f32 := m ((c : Thread nD τ).loc main_arg1)
/-- The four rows behind the second softmax's weight. -/
def argL : FVec Ideal S4x64 .f32 := m ((c : Thread nD τ).loc main_arg2)
/-- The gain of a head's norm. -/
def argS : FVec Ideal S128 .f32 := m ((c : Thread nD τ).loc main_arg3)

/-- The batch of a point. -/
def bOf (t : Fin cfg0.N) : Fin 4 := ⟨t.val / 64, by have := lt_of_lt_of_eq t.isLt N_0; omega⟩
/-- Its head. -/
def hOf (t : Fin cfg0.N) : Fin 4 := ⟨t.val / 16 % 4, by omega⟩
/-- Its tile of queries. -/
def qOf (t : Fin cfg0.N) : Fin 16 := ⟨t.val % 16, by omega⟩
/-- A query of its tile. -/
def query (t : Fin cfg0.N) (q : Fin 512) : Fin 8192 := ⟨512 * (qOf t).val + q.val, by omega⟩

theorem coord2 : ∀ t : Fin cfg0.N, (grid0.coords t 2).val = t.val % 16 := by decide +kernel
theorem index_0 : ∀ t : Fin cfg0.N, win0_0.index t = ![0] := by decide +kernel
theorem index_1 : ∀ t : Fin cfg0.N, win0_1.index t = ![16 * (t.val / 64) + t.val % 16, 28 + t.val / 16 % 4] := by decide +kernel
theorem index_2 : ∀ t : Fin cfg0.N, win0_2.index t = ![t.val / 64, 32 + t.val / 16 % 4] := by decide +kernel
theorem index_3 : ∀ t : Fin cfg0.N, win0_3.index t = ![t.val / 64, t.val / 16 % 4, 0, 0, 0] := by decide +kernel
theorem index_4 : ∀ t : Fin cfg0.N, win0_4.index t = ![t.val / 16 % 4, 0, 0, 0] := by decide +kernel
theorem index_5 : ∀ t : Fin cfg0.N, win0_5.index t = ![0, 0] := by decide +kernel
theorem index_6 : ∀ t : Fin cfg0.N, win0_6.index t = ![t.val / 64, t.val / 16 % 4, t.val % 16] := by decide +kernel

theorem blk_q (t : Fin cfg0.N) (q : Fin 512) (d : Fin 128) :
    iblk m c 1 t (ix2 q d) = argP m c (ix2 (tok (bOf t) (query t q)) ⟨3584 + 128 * (hOf t).val + d.val, by omega⟩) := by
  blk_ext! [iblk, V, argP, index_1 t, tok, bOf, hOf, query, qOf]
theorem blk_k (t : Fin cfg0.N) (K : Fin 8192) (d : Fin 128) :
    iblk m c 2 t (ix2 K d) = argP m c (ix2 (tok (bOf t) K) ⟨4096 + 128 * (hOf t).val + d.val, by omega⟩) := by
  blk_ext! [iblk, V, argP, index_2 t, tok, bOf, hOf]
theorem blk_v' (t : Fin cfg0.N) (k : Fin 16) (e : Fin 128) (a : Fin 512) :
    iblk m c 3 t (ix5 0 0 k e a) = V m c main_v21 (ix5 (bOf t) (hOf t) k e a) := by
  blk_ext! [iblk, index_3 t, bOf, hOf]
theorem blk_b' (t : Fin cfg0.N) (d : Fin 4) (a q : Fin 512) : iblk m c 4 t (ix4 0 d a q) = V m c main_v189 (ix4 (hOf t) d a q) := by
  blk_ext! [iblk, index_4 t, hOf]
theorem blk_g' (t : Fin cfg0.N) (e : Fin 128) : iblk m c 5 t (ix2 e 0) = V m c main_v18 (ix2 e 0) := by
  blk_ext! [iblk, index_5 t]
theorem blk_l' (t : Fin cfg0.N) : iblk m c 0 t (ix1 0) = V m c main_v190 (ix1 0) := by
  blk_ext! [iblk, index_0 t]

end Cert.DiffIdeal.Hand

end
-- ==== Proof.Diff.Entry.lean ====
module

public import proofs.«01_k».proof.Proof.Gen.DiffIdeal.Value
public import proofs.«01_k».proof.Proof.Diff.Host
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! What the host makes of the attention's arguments before the kernel runs. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

variable (m : (ℓ : Loc nD τ sig) → Buf (Elt Ideal) ℓ) (c : Dev nD)

/-- The weight of the second softmax, from the four rows. -/
def lamT (x : FVec Ideal S4x64 .f32) : FVec Ideal S_ .f32 :=
  addf (subf
      (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_))
      (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_)))
    (constant S_ .f32 0x3E4CCCCD#32)

theorem V_l : V m c main_v190 = shapeCast S1 (lamT (argL m c)) shapeCasts_S_S1 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil,
    List.cons_append, List.nil_append]
  entry_read
  rfl

theorem V_gain : V m c main_v18 = shapeCast S128x1 (mulf (argS m c) (broadcastInDim S128 ![] bcast_S_S128 (constant S_ .f32 0x3F4CCCCD#32))) shapeCasts_S128_S128x1 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil,
    List.cons_append, List.nil_append]
  entry_read
  rfl

theorem V_vals : V m c main_v21 = transpose S4x4x16x128x512 [0, 3, 1, 4, 2] (shapeCast S4x16x512x4x128 (extractStridedSlice S32768x512 ![0, 4608] (argP m c) slices_S32768x8192_S32768x512_0_4608) shapeCasts_S32768x512_S4x16x512x4x128) transposes_S4x16x512x4x128_S4x4x16x128x512_0_3_1_4_2 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil,
    List.cons_append, List.nil_append]
  entry_read
  rfl

theorem lamT_at (x : FVec Ideal S4x64 .f32) : lamT x ix0 = lam (fun r d => x (ix2 r d)) := by
  pointwise [lamT]
  rfl

theorem vals_at (x : FVec Ideal S32768x8192 .bf16) (b h : Fin 4) (k : Fin 16) (e : Fin 128) (a : Fin 512) :
    transpose S4x4x16x128x512 [0, 3, 1, 4, 2] (shapeCast S4x16x512x4x128 (extractStridedSlice S32768x512 ![0, 4608] x slices_S32768x8192_S32768x512_0_4608) shapeCasts_S32768x512_S4x16x512x4x128) transposes_S4x16x512x4x128_S4x4x16x128x512_0_3_1_4_2 (ix5 b h k e a)
      = x (ix2 (tok b (key k.val a)) (colV h e)) := by
  pointwise
  congr 2
  · exact Fin.ext (by simp only [tok, key]; rw [Nat.mod_eq_of_lt (by omega)]; omega)
  · exact Fin.ext (by simp only [colV]; omega)

end Cert.DiffIdeal.Hand

end
-- ==== Proof.Diff.EntryBias.lean ====
module

public import proofs.«01_k».proof.Proof.Gen.DiffIdeal.Value
public import proofs.«01_k».proof.Proof.Diff.Host
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! What the host makes of the table of biases. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

variable (m : (ℓ : Loc nD τ sig) → Buf (Elt Ideal) ℓ) (c : Dev nD)

theorem after_two (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons a l ih => exact ih _

variable (U : Valuation τ sig (Elt Ideal))

set_option maxHeartbeats 4000000 in
theorem first_v70 : StableHlo.after (List.flatten [hostOps0, hostOps0_1, hostOps0_2, hostOps0_3, hostOps0_4, hostOps0_5, hostOps0_6, hostOps0_7]) U (Proc.devRef (τ := τ) .tc main_v70) = tile0 (U (Proc.devRef (τ := τ) .tc main_arg1)) := by
  simp only [hostOps0, hostOps0_1, hostOps0_2, hostOps0_3, hostOps0_4, hostOps0_5, hostOps0_6, hostOps0_7, List.flatten_cons, List.flatten_nil, List.append_nil,
    List.cons_append, List.nil_append]
  entry_read
  rfl

theorem first_v23 : StableHlo.after (List.flatten [hostOps0, hostOps0_1, hostOps0_2, hostOps0_3, hostOps0_4, hostOps0_5, hostOps0_6, hostOps0_7]) U (Proc.devRef (τ := τ) .tc main_v23) = colI := by
  simp only [hostOps0, hostOps0_1, hostOps0_2, hostOps0_3, hostOps0_4, hostOps0_5, hostOps0_6, hostOps0_7, List.flatten_cons, List.flatten_nil, List.append_nil,
    List.cons_append, List.nil_append]
  entry_read
  rfl

theorem first_v25 : StableHlo.after (List.flatten [hostOps0, hostOps0_1, hostOps0_2, hostOps0_3, hostOps0_4, hostOps0_5, hostOps0_6, hostOps0_7]) U (Proc.devRef (τ := τ) .tc main_v25) = rowI := by
  simp only [hostOps0, hostOps0_1, hostOps0_2, hostOps0_3, hostOps0_4, hostOps0_5, hostOps0_6, hostOps0_7, List.flatten_cons, List.flatten_nil, List.append_nil,
    List.cons_append, List.nil_append]
  entry_read
  rfl

theorem first_arg1 : StableHlo.after (List.flatten [hostOps0, hostOps0_1, hostOps0_2, hostOps0_3, hostOps0_4, hostOps0_5, hostOps0_6, hostOps0_7]) U (Proc.devRef (τ := τ) .tc main_arg1) = U (Proc.devRef (τ := τ) .tc main_arg1) := by
  simp only [hostOps0, hostOps0_1, hostOps0_2, hostOps0_3, hostOps0_4, hostOps0_5, hostOps0_6, hostOps0_7, List.flatten_cons, List.flatten_nil, List.append_nil,
    List.cons_append, List.nil_append]
  entry_read
  rfl

theorem rest_v70 : StableHlo.after (List.flatten [hostOps0_8, hostOps0_9, hostOps0_10, hostOps0_11, hostOps0_12, hostOps0_13]) U (Proc.devRef (τ := τ) .tc main_v70) = U (Proc.devRef (τ := τ) .tc main_v70) := by
  simp only [hostOps0_8, hostOps0_9, hostOps0_10, hostOps0_11, hostOps0_12, hostOps0_13, List.flatten_cons, List.flatten_nil, List.append_nil,
    List.cons_append, List.nil_append]
  entry_read
  rfl

set_option maxHeartbeats 4000000 in
theorem rest_v108 (h23 : U (Proc.devRef (τ := τ) .tc main_v23) = colI) (h25 : U (Proc.devRef (τ := τ) .tc main_v25) = rowI) :
    StableHlo.after (List.flatten [hostOps0_8, hostOps0_9, hostOps0_10, hostOps0_11, hostOps0_12, hostOps0_13]) U (Proc.devRef (τ := τ) .tc main_v108) = tileT (U (Proc.devRef (τ := τ) .tc main_arg1)) (relT 4294966784#32) := by
  simp only [hostOps0_8, hostOps0_9, hostOps0_10, hostOps0_11, hostOps0_12, hostOps0_13, List.flatten_cons, List.flatten_nil, List.append_nil,
    List.cons_append, List.nil_append]
  entry_read
  rw [h23, h25]
  rfl

set_option maxHeartbeats 4000000 in
theorem rest_v146 (h23 : U (Proc.devRef (τ := τ) .tc main_v23) = colI) (h25 : U (Proc.devRef (τ := τ) .tc main_v25) = rowI) :
    StableHlo.after (List.flatten [hostOps0_8, hostOps0_9, hostOps0_10, hostOps0_11, hostOps0_12, hostOps0_13]) U (Proc.devRef (τ := τ) .tc main_v146) = tileT (U (Proc.devRef (τ := τ) .tc main_arg1)) (relT 4294966272#32) := by
  simp only [hostOps0_8, hostOps0_9, hostOps0_10, hostOps0_11, hostOps0_12, hostOps0_13, List.flatten_cons, List.flatten_nil, List.append_nil,
    List.cons_append, List.nil_append]
  entry_read
  rw [h23, h25]
  rfl

set_option maxHeartbeats 4000000 in
theorem rest_v184 (h23 : U (Proc.devRef (τ := τ) .tc main_v23) = colI) (h25 : U (Proc.devRef (τ := τ) .tc main_v25) = rowI) :
    StableHlo.after (List.flatten [hostOps0_8, hostOps0_9, hostOps0_10, hostOps0_11, hostOps0_12, hostOps0_13, hostOps0_14]) U (Proc.devRef (τ := τ) .tc main_v184) = tileT (U (Proc.devRef (τ := τ) .tc main_arg1)) (relT 4294965760#32) := by
  simp only [hostOps0_8, hostOps0_9, hostOps0_10, hostOps0_11, hostOps0_12, hostOps0_13, hostOps0_14, List.flatten_cons, List.flatten_nil, List.append_nil,
    List.cons_append, List.nil_append]
  entry_read
  rw [h23, h25]
  rfl

theorem tail_v189 : StableHlo.after (hostOps0_14.drop 15) U (Proc.devRef (τ := τ) .tc main_v189) = concatenate S4x4x512x512 1 [⟨S4x1x512x512, U (Proc.devRef (τ := τ) .tc main_v185)⟩, ⟨S4x1x512x512, U (Proc.devRef (τ := τ) .tc main_v186)⟩, ⟨S4x1x512x512, U (Proc.devRef (τ := τ) .tc main_v187)⟩, ⟨S4x1x512x512, U (Proc.devRef (τ := τ) .tc main_v188)⟩]
    concatenates_S4x1x512x512_S4x1x512x512_S4x1x512x512_S4x1x512x512_S4x4x512x512_d1 := by
  simp only [hostOps0_14, List.drop_succ_cons, List.drop_zero]
  rw [StableHlo.after_cons, StableHlo.after_cons, StableHlo.after_nil, StableHlo.reshape_result_ne]
  rotate_left
  · decide
  rw [StableHlo.nary4_result]
  rfl

theorem head_v185 : StableHlo.after (hostOps0_14.take 15) U (Proc.devRef (τ := τ) .tc main_v185) = broadcastInDim S4x1x512x512 ![0, 2, 3] bcast_S4x512x512_S4x1x512x512_0_2_3 (U (Proc.devRef (τ := τ) .tc main_v70)) := by
  simp only [hostOps0_14, List.take_succ_cons, List.take_zero]
  entry_read
  rfl

theorem head_v186 : StableHlo.after (hostOps0_14.take 15) U (Proc.devRef (τ := τ) .tc main_v186) = broadcastInDim S4x1x512x512 ![0, 2, 3] bcast_S4x512x512_S4x1x512x512_0_2_3 (U (Proc.devRef (τ := τ) .tc main_v108)) := by
  simp only [hostOps0_14, List.take_succ_cons, List.take_zero]
  entry_read
  rfl

theorem head_v187 : StableHlo.after (hostOps0_14.take 15) U (Proc.devRef (τ := τ) .tc main_v187) = broadcastInDim S4x1x512x512 ![0, 2, 3] bcast_S4x512x512_S4x1x512x512_0_2_3 (U (Proc.devRef (τ := τ) .tc main_v146)) := by
  simp only [hostOps0_14, List.take_succ_cons, List.take_zero]
  entry_read
  rfl

theorem head_v188 : StableHlo.after (hostOps0_14.take 15) U (Proc.devRef (τ := τ) .tc main_v188) = broadcastInDim S4x1x512x512 ![0, 2, 3] bcast_S4x512x512_S4x1x512x512_0_2_3 (StableHlo.after hostOps0_14 U (Proc.devRef (τ := τ) .tc main_v184)) := by
  simp only [hostOps0_14, List.take_succ_cons, List.take_zero]
  entry_read
  rfl

theorem last_v189 : StableHlo.after hostOps0_14 U (Proc.devRef (τ := τ) .tc main_v189) = cat4 (U (Proc.devRef (τ := τ) .tc main_v70)) (U (Proc.devRef (τ := τ) .tc main_v108)) (U (Proc.devRef (τ := τ) .tc main_v146)) (StableHlo.after hostOps0_14 U (Proc.devRef (τ := τ) .tc main_v184)) := by
  have h : (hostOps0_14 : List (HloOp τ sig (Elt Ideal))) = hostOps0_14.take 15 ++ hostOps0_14.drop 15 := (List.take_append_drop 15 _).symm
  refine (congrArg (fun l => StableHlo.after l U (Proc.devRef (τ := τ) .tc main_v189)) h).trans ?_
  rw [after_two, tail_v189, head_v185, head_v186, head_v187, head_v188]
  rfl

/-- The table of biases that the kernel gets. -/
theorem V_tiles : V m c main_v189 = tilesT (argT m c) := by
  have e : V m c main_v189 = StableHlo.after hostOps0_14 (StableHlo.after (List.flatten [hostOps0_8, hostOps0_9, hostOps0_10, hostOps0_11, hostOps0_12, hostOps0_13]) (StableHlo.after (List.flatten [hostOps0, hostOps0_1, hostOps0_2, hostOps0_3, hostOps0_4, hostOps0_5, hostOps0_6, hostOps0_7]) (fun b => m (c, b)))) (Proc.devRef (τ := τ) .tc main_v189) := by
    rw [← after_two, ← after_two]; rfl
  have e' : StableHlo.after hostOps0_14 (StableHlo.after (List.flatten [hostOps0_8, hostOps0_9, hostOps0_10, hostOps0_11, hostOps0_12, hostOps0_13]) (StableHlo.after (List.flatten [hostOps0, hostOps0_1, hostOps0_2, hostOps0_3, hostOps0_4, hostOps0_5, hostOps0_6, hostOps0_7]) (fun b => m (c, b)))) (Proc.devRef (τ := τ) .tc main_v184)
      = StableHlo.after (List.flatten [hostOps0_8, hostOps0_9, hostOps0_10, hostOps0_11, hostOps0_12, hostOps0_13, hostOps0_14]) (StableHlo.after (List.flatten [hostOps0, hostOps0_1, hostOps0_2, hostOps0_3, hostOps0_4, hostOps0_5, hostOps0_6, hostOps0_7]) (fun b => m (c, b))) (Proc.devRef (τ := τ) .tc main_v184) := by
    rw [← after_two]; rfl
  rw [e, last_v189, e', rest_v70, rest_v108 _ (first_v23 _) (first_v25 _), rest_v146 _ (first_v23 _) (first_v25 _),
    rest_v184 _ (first_v23 _) (first_v25 _), first_v70, first_arg1]
  rfl

end Cert.DiffIdeal.Hand

end
-- ==== Proof.Diff.Kernel.lean ====
module

public import proofs.«01_k».proof.Proof.Gen.DiffIdeal.Value
public import proofs.«01_k».proof.Proof.Diff.Host
public import proofs.«01_k».proof.Proof.Diff.Entry
public import proofs.«01_k».proof.Proof.Diff.EntryBias
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.WritesUnit

/-! What the kernel leaves of each tile, and what its result ends as. -/

@[expose] public section

set_option maxRecDepth 16384

noncomputable section

namespace Cert.DiffIdeal.Hand

open Cert.DiffIdeal Cert.DiffIdeal.Gen Cert.DiffModel Idealize.ShloMosaic Idealize.ShloMosaic.TcCoe Idealize.SL.Sem

variable (m : (ℓ : Loc nD τ sig) → Buf (Elt Ideal) ℓ) (ρ : Dev nD → PrngReg) (c : Dev nD)

theorem sum_half (f g : Fin 128 → EReal) (s : Fin 2) :
    ∑ d : Fin 128, f d * (if d.val / 64 = s.val then g d else 0) = ∑ d : Fin 64, f ⟨64 * s.val + d.val, by omega⟩ * g ⟨64 * s.val + d.val, by omega⟩ := by
  rw [show (∑ d : Fin 128, f d * (if d.val / 64 = s.val then g d else 0)) = ∑ d : Fin (64 + 64), f d * (if d.val / 64 = s.val then g d else 0) from rfl, Fin.sum_univ_add]
  obtain rfl | rfl : s = 0 ∨ s = 1 := by omega
  · have h1 : ∀ d : Fin 64, (Fin.castAdd 64 d).val / 64 = (0 : Fin 2).val := fun d => by rw [Fin.val_castAdd]; show d.val / 64 = 0; omega
    have h2 : ∀ d : Fin 64, ¬ (Fin.natAdd 64 d).val / 64 = (0 : Fin 2).val := fun d => by rw [Fin.val_natAdd]; show ¬ (64 + d.val) / 64 = 0; omega
    simp only [h1, h2, if_true, if_false, mul_zero, Finset.sum_const_zero, add_zero]
    refine Finset.sum_congr rfl fun d _ => ?_
    have e : (Fin.castAdd 64 d : Fin (64 + 64)) = (⟨64 * (0 : Fin 2).val + d.val, by show 64 * 0 + d.val < 128; omega⟩ : Fin 128) := Fin.ext (by rw [Fin.val_castAdd]; show d.val = 64 * 0 + d.val; omega)
    rw [e]
  · have h1 : ∀ d : Fin 64, ¬ (Fin.castAdd 64 d).val / 64 = (1 : Fin 2).val := fun d => by rw [Fin.val_castAdd]; show ¬ d.val / 64 = 1; omega
    have h2 : ∀ d : Fin 64, (Fin.natAdd 64 d).val / 64 = (1 : Fin 2).val := fun d => by rw [Fin.val_natAdd]; show (64 + d.val) / 64 = 1; omega
    simp only [h1, h2, if_true, if_false, mul_zero, Finset.sum_const_zero, zero_add]
    refine Finset.sum_congr rfl fun d _ => ?_
    have e : (Fin.natAdd 64 d : Fin (64 + 64)) = (⟨64 * (1 : Fin 2).val + d.val, by show 64 * 1 + d.val < 128; omega⟩ : Fin 128) := Fin.ext (by rw [Fin.val_natAdd]; show 64 + d.val = 64 * 1 + d.val; omega)
    rw [e]

/-- The projections, as a plain table. -/
def P (r : Fin 32768) (k : Fin 8192) : EReal := argP m c (ix2 r k)
/-- The biases. -/
def TB (r : Fin 32) (h : Fin 4) : EReal := argT m c (ix2 r h)
/-- The four rows. -/
def LM (r : Fin 4) (d : Fin 64) : EReal := argL m c (ix2 r d)
/-- The gain. -/
def GS (e : Fin 128) : EReal := argS m c (ix1 e)

theorem key_val (k : Nat) (hk : k < 16) (a : Fin 512) : (key k a).val = 512 * k + a.val := Nat.mod_eq_of_lt (by omega)

/-- The blocks of a point, each at its own shape. -/
def B0 (t : Fin cfg0.N) : FVec Ideal S1 .f32 := iblk m c 0 t
@[inherit_doc B0] def B1 (t : Fin cfg0.N) : FVec Ideal S512x128 .bf16 := iblk m c 1 t
@[inherit_doc B0] def B2 (t : Fin cfg0.N) : FVec Ideal S8192x128 .bf16 := iblk m c 2 t
@[inherit_doc B0] def B3 (t : Fin cfg0.N) : FVec Ideal S1x1x16x128x512 .bf16 := iblk m c 3 t
@[inherit_doc B0] def B4 (t : Fin cfg0.N) : FVec Ideal S1x4x512x512 .f32 := iblk m c 4 t
@[inherit_doc B0] def B5 (t : Fin cfg0.N) : FVec Ideal S128x1 .f32 := iblk m c 5 t

theorem B0_at (t : Fin cfg0.N) : B0 m c t (ix1 0) = lam (LM m c) := by
  refine (blk_l' m c t).trans ?_
  rw [V_l]
  refine Eq.trans ?_ (lamT_at (argL m c))
  pointwise
theorem B1_at (t : Fin cfg0.N) (q : Fin 512) (d : Fin 128) :
    B1 m c t (ix2 q d) = argP m c (ix2 (tok (bOf t) (query t q)) ⟨3584 + 128 * (hOf t).val + d.val, by omega⟩) := blk_q m c t q d
theorem B2_at (t : Fin cfg0.N) (K : Fin 8192) (d : Fin 128) :
    B2 m c t (ix2 K d) = argP m c (ix2 (tok (bOf t) K) ⟨4096 + 128 * (hOf t).val + d.val, by omega⟩) := blk_k m c t K d
theorem B3_at (t : Fin cfg0.N) (e : Fin 128) (k : Fin 16) (a : Fin 512) :
    B3 m c t (ix5 0 0 k e a) = P m c (tok (bOf t) (key k.val a)) (colV (hOf t) e) := by
  refine (blk_v' m c t k e a).trans ?_
  rw [V_vals, vals_at]
  rfl
theorem B4_at (t : Fin cfg0.N) (d : Fin 4) (a q : Fin 512) : B4 m c t (ix4 0 d a q)
    = if d = 0 → a.val / 64 ≤ q.val / 64 then argT m c (ix2 (slot (IntOp.subi (IntOp.addi (back d) (BitVec.ofNat 32 a.val)) (BitVec.ofNat 32 q.val))) (hOf t)) else ⊥ := by
  refine (blk_b' m c t d a q).trans ?_
  rw [V_tiles, tilesT_at]
theorem B5_at (t : Fin cfg0.N) (e : Fin 128) : B5 m c t (ix2 e 0) = GS m c e * Ideal.ofBits FTy.f32 1061997773#32 := by
  refine (blk_g' m c t e).trans ?_
  rw [V_gain]
  pointwise [GS]

theorem argP_col (r : Fin 32768) {k k' : Fin 8192} (h : k.val = k'.val) : argP m c (ix2 r k) = argP m c (ix2 r k') := by
  rw [Fin.ext h]

theorem score_blk (t : Fin cfg0.N) (q : Fin 512) (s : Fin 2) (k : Nat) (a : Fin 512) (hk : k ≤ (grid0.coords t 2).val) :
    sc (P m c) (TB m c) (bOf t) (hOf t) (query t q) s (key k a)
      = (∑ d : Fin 128, B2 m c t (ix2 (key k a) d) * (if d.val / 64 = s.val then B1 m c t (ix2 q d) else 0))
        + B4 m c t (ix4 0 ⟨min ((grid0.coords t 2).val - k) 3, min3 _⟩ a q) := by
  have hk' : k ≤ t.val % 16 := by rw [← coord2 t]; exact hk
  have hd : (⟨min ((grid0.coords t 2).val - k) 3, min3 _⟩ : Fin 4) = ⟨min (t.val % 16 - k) 3, by omega⟩ := Fin.ext (by
    show min ((grid0.coords t 2).val - k) 3 = min (t.val % 16 - k) 3
    rw [coord2])
  have hs : (∑ d : Fin 128, B2 m c t (ix2 (key k a) d) * (if d.val / 64 = s.val then B1 m c t (ix2 q d) else 0))
      = qk (P m c) (bOf t) (hOf t) s (query t q) (key k a) := by
    rw [sum_half (fun d => B2 m c t (ix2 (key k a) d)) (fun d => B1 m c t (ix2 q d)) s]
    unfold qk P
    refine Finset.sum_congr rfl fun d _ => ?_
    rw [B2_at, B1_at, mul_comm]
    refine congrArg₂ _ (argP_col m c _ ?_) (argP_col m c _ ?_)
    · simp only [colQ]; omega
    · simp only [colK]; omega
  rw [hd, hs, B4_at, slot_tile (t.val % 16) k a.val q.val hk' (by omega) a.isLt q.isLt]
  have hv := key_val k (by omega) a
  have hq : (query t q).val = 512 * (t.val % 16) + q.val := rfl
  unfold sc scoreOf
  rw [hv, hq]
  by_cases h0 : k = t.val % 16
  · have hz : (⟨min (t.val % 16 - k) 3, by omega⟩ : Fin 4) = 0 := Fin.ext (by show min (t.val % 16 - k) 3 = 0; omega)
    rw [hz]
    by_cases h1 : a.val / 64 ≤ q.val / 64
    · rw [if_pos (by omega), if_pos (fun _ => h1)]; rfl
    · rw [if_neg (by omega), if_neg (fun h => h1 (h rfl)), EReal.add_bot]
  · have hz : ¬ (⟨min (t.val % 16 - k) 3, by omega⟩ : Fin 4) = 0 := fun h => by
      have := congrArg Fin.val h
      have h2 : min (t.val % 16 - k) 3 = 0 := this
      omega
    rw [if_pos (by omega), if_pos (fun h => absurd h hz)]; rfl

theorem masked (t : Fin cfg0.N) (q : Fin 512) (s : Fin 2) (K : Fin 8192) (h : 512 * ((grid0.coords t 2).val + 1) ≤ K.val) :
    sc (P m c) (TB m c) (bOf t) (hOf t) (query t q) s K = ⊥ := by
  rw [coord2] at h
  have hq : (query t q).val = 512 * (t.val % 16) + q.val := rfl
  unfold sc scoreOf
  rw [if_neg (by omega)]

theorem outs_at (F : Fine (P m c) (TB m c) (LM m c)) (t : Fin cfg0.N) (q : Fin 512) (e : Fin 128) :
    outsAt0 m c t (ix3 0 e q) = attn (P m c) (TB m c) (LM m c) (GS m c) (bOf t) (hOf t) (query t q) e := by
  have h := out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
    (B0 m c t) (B1 m c t) (B2 m c t) (B3 m c t) (B4 m c t) (B5 m c t)
    (sc (P m c) (TB m c) (bOf t) (hOf t) (query t q)) (vl (P m c) (bOf t) (hOf t)) q
    (fun s K => sc_top F _ _ _ s K) (fun s K h => masked m c t q s K h) (fun s => ⟨query t q, sc_self F _ _ _ s⟩) (fun s k a hk => score_blk m c t q s k a hk)
    (fun e k a => (B3_at m c t e k a).trans (vl_coe F _ _ _ _))
    (lam (LM m c)).toReal ((B0_at m c t).trans (lam_coe F)) e
  refine Eq.trans ?_ (h.trans ?_)
  · rfl
  · unfold attn
    exact congrArg (fun g => normed _ g e) (funext fun e => B5_at m c t e)

/-- What the kernel's result ends as. -/
def outA : FVec Ideal S4x512x8192 .bf16 := fun i =>
  attn (P m c) (TB m c) (LM m c) (GS m c) (i 0) ⟨(i 1).val / 128, by have h : (i 1).val < 512 := (i 1).isLt; omega⟩ (i 2) ⟨(i 1).val % 128, by omega⟩

theorem final6 (F : Fine (P m c) (TB m c) (LM m c)) : (dats m 0 c).arrAt 6 cfg0.N = outA m c := by
  refine (dats m 0 c).arrAt_eq_of_covers 6 _ (by decide +kernel) fun t hf y => ?_
  blk_simp
  rw [after0_6]
  obtain ⟨e, q, rfl⟩ : ∃ (e : Fin 128) (q : Fin 512), y = ix3 0 e q := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  have e0 : (((View.whole main_v191).slice (win0_6.rect t)).emb (ix3 0 e q) 0) = bOf t := Fin.ext (by
    show win0_6.index t (0 : Fin 3) * 1 + 1 * 0 = t.val / 64
    rw [index_6]
    show t.val / 64 * 1 + 1 * 0 = t.val / 64
    omega)
  have e1 : (((View.whole main_v191).slice (win0_6.rect t)).emb (ix3 0 e q) 1).val = 128 * (hOf t).val + e.val := by
    show win0_6.index t (1 : Fin 3) * 128 + 1 * e.val = 128 * (t.val / 16 % 4) + e.val
    rw [index_6]
    show t.val / 16 % 4 * 128 + 1 * e.val = 128 * (t.val / 16 % 4) + e.val
    omega
  have e2 : (((View.whole main_v191).slice (win0_6.rect t)).emb (ix3 0 e q) 2) = query t q := Fin.ext (by
    show win0_6.index t (2 : Fin 3) * 512 + 1 * q.val = 512 * (t.val % 16) + q.val
    rw [index_6]
    show t.val % 16 * 512 + 1 * q.val = 512 * (t.val % 16) + q.val
    omega)
  refine (outs_at m c F t q e).trans ?_
  unfold outA
  rw [e0, e2]
  congr 1
  · exact Fin.ext (by dsimp only; rw [e1]; omega)
  · exact Fin.ext (by dsimp only; rw [e1]; omega)

end Cert.DiffIdeal.Hand

end
-- ==== Proof.Diff.RefBias.lean ====
module

public import proofs.«01_k».proof.Proof.Gen.DiffRefIdeal.Run
public import proofs.«01_k».proof.Proof.Diff.Model
public import Idealize.ShloMosaic.Lib.Pointwise

/-! The reference's bias and mask, read at an index. -/

@[expose] public section

set_option maxRecDepth 16384

noncomputable section

namespace Cert.DiffRefIdeal.Mine

open Cert.DiffRefIdeal Cert.DiffRefIdeal.Gen Cert.DiffRefIdeal.Value Cert.DiffModel Idealize.ShloMosaic Idealize.ShloMosaic.TcCoe Idealize.SL.Sem

/-- The bucket of each relative position, as the host finds it. -/
def bktT (r : IVec S8192x8192 32) : IVec S8192x8192 32 :=
  addi (muli (extui 32 (cmpi .sgt r (broadcastInDim S8192x8192 ![] bcast_S_S8192x8192 (constantI S_ 32 0#32))) natLt_1_32) (broadcastInDim S8192x8192 ![] bcast_S_S8192x8192 (constantI S_ 32 16#32)))
    (select (cmpi .slt (absi r) (broadcastInDim S8192x8192 ![] bcast_S_S8192x8192 (constantI S_ 32 8#32))) (absi r)
      (minsi (addi (broadcastInDim S8192x8192 ![] bcast_S_S8192x8192 (constantI S_ 32 8#32))
        (fptosi (F := Ideal) 32 (mulf (Host.divf (Host.log (Host.divf (sitofp (F := Ideal) .f32 (maxsi (absi r) (broadcastInDim S8192x8192 ![] bcast_S_S8192x8192 (constantI S_ 32 8#32))))
          (broadcastInDim S8192x8192 ![] bcast_S_S8192x8192 (constant S_ .f32 0x41000000#32)))) (broadcastInDim S8192x8192 ![] bcast_S_S8192x8192 (constant S_ .f32 0x409B43D5#32)))
          (broadcastInDim S8192x8192 ![] bcast_S_S8192x8192 (constant S_ .f32 0x41000000#32)))))
        (broadcastInDim S8192x8192 ![] bcast_S_S8192x8192 (constantI S_ 32 15#32))))

/-- A row index below zero counts from the end. -/
def wrapT (b : IVec S8192x8192 32) : IVec S8192x8192 32 :=
  select (cmpi .slt b (broadcastInDim S8192x8192 ![] bcast_S_S8192x8192 (constantI S_ 32 0#32))) (addi b (broadcastInDim S8192x8192 ![] bcast_S_S8192x8192 (constantI S_ 32 32#32))) b

/-- The biases of one tile. -/
def tileT (tb : FVec Ideal S32x4 .f32) (r : IVec S8192x8192 32) : FVec Ideal S4x8192x8192 .f32 :=
  transpose S4x8192x8192 [2, 0, 1] (Host.gather gather_S32x4_S8192x8192x1_S8192x8192x4_2_0_n_n_0_2_14 tb (broadcastInDim S8192x8192x1 ![0, 1] bcast_S8192x8192_S8192x8192x1_0_1 (wrapT (bktT r)))) transposes_S8192x8192x4_S4x8192x8192_2_0_1

/-- Positions down a column. -/
def colI : IVec S8192x1 32 := broadcastInDim S8192x1 ![0] bcast_S8192_S8192x1_0 (iotaInDim S8192 32 0)
/-- Positions along a row. -/
def rowI : IVec S1x8192 32 := broadcastInDim S1x8192 ![1] bcast_S8192_S1x8192_1 (iotaInDim S8192 32 0)

/-- The position of each key from each query. -/
def relT : IVec S8192x8192 32 :=
  subi (broadcastInDim S8192x8192 ![0, 1] bcast_S1x8192_S8192x8192_0_1 rowI) (broadcastInDim S8192x8192 ![0, 1] bcast_S8192x1_S8192x8192_0_1 colI)

/-- Positions over 64, down a column. -/
def fdC (x : IVec S8192x1 32) : IVec S8192x1 32 :=
  select (andi (cmpi .ne (signi x) (broadcastInDim S8192x1 ![] bcast_S_S8192x1 (signi (constantI S_ 32 64#32))))
      (cmpi .ne (Host.remsi x (broadcastInDim S8192x1 ![] bcast_S_S8192x1 (constantI S_ 32 64#32))) (broadcastInDim S8192x1 ![] bcast_S_S8192x1 (constantI S_ 32 0#32))))
    (subi (Host.divsi x (broadcastInDim S8192x1 ![] bcast_S_S8192x1 (constantI S_ 32 64#32))) (broadcastInDim S8192x1 ![] bcast_S_S8192x1 (constantI S_ 32 1#32)))
    (Host.divsi x (broadcastInDim S8192x1 ![] bcast_S_S8192x1 (constantI S_ 32 64#32)))
/-- Positions over 64, along a row. -/
def fdR (x : IVec S1x8192 32) : IVec S1x8192 32 :=
  select (andi (cmpi .ne (signi x) (broadcastInDim S1x8192 ![] bcast_S_S1x8192 (signi (constantI S_ 32 64#32))))
      (cmpi .ne (Host.remsi x (broadcastInDim S1x8192 ![] bcast_S_S1x8192 (constantI S_ 32 64#32))) (broadcastInDim S1x8192 ![] bcast_S_S1x8192 (constantI S_ 32 0#32))))
    (subi (Host.divsi x (broadcastInDim S1x8192 ![] bcast_S_S1x8192 (constantI S_ 32 64#32))) (broadcastInDim S1x8192 ![] bcast_S_S1x8192 (constantI S_ 32 1#32)))
    (Host.divsi x (broadcastInDim S1x8192 ![] bcast_S_S1x8192 (constantI S_ 32 64#32)))
theorem gather_at (tb : FVec Ideal S32x4 .f32) (ix : IVec S8192x8192x1 32) (a c : Fin 8192) (h : Fin 4) :
    Host.gather gather_S32x4_S8192x8192x1_S8192x8192x4_2_0_n_n_0_2_14 tb ix (ix3 a c h) = tb (ix2 ⟨min (ix (ix3 a c 0)).toInt.toNat 31, by omega⟩ h) := by
  unfold Host.gather
  refine congrArg tb ?_
  funext j
  refine Fin.ext ?_
  fin_cases j
  · refine congrArg (fun y : S8192x8192x1.Idx => min (ix y).toInt.toNat 31) ?_
    funext b; fin_cases b <;> rfl
  · show GatherDims.start _ _ _ 1 + GatherDims.batchCoord _ _ 1 + GatherDims.offCoord _ _ 1 = h.val
    rw [GatherDims.batchCoord_eq_zero _ _ _ List.not_mem_nil]
    unfold GatherDims.start GatherDims.offCoord
    rw [dif_neg (by decide), dif_pos (by decide)]
    simp only [Nat.zero_add]
    rfl

/-- Which keys each query may see. -/
def seenT : IVec S8192x8192 1 :=
  cmpi .sle (broadcastInDim S8192x8192 ![0, 1] bcast_S1x8192_S8192x8192_0_1 (fdR rowI)) (broadcastInDim S8192x8192 ![0, 1] bcast_S8192x1_S8192x8192_0_1 (fdC colI))

theorem fdC_at (a : Fin 8192) : fdC colI (ix2 a 0) = fd (BitVec.ofNat 32 a.val) := by
  pointwise [fdC, colI]; rfl
theorem fdR_at (a : Fin 8192) : fdR rowI (ix2 0 a) = fd (BitVec.ofNat 32 a.val) := by
  pointwise [fdR, rowI]; rfl
theorem relT_at (a c : Fin 8192) : relT (ix2 a c) = IntOp.subi (BitVec.ofNat 32 c.val) (BitVec.ofNat 32 a.val) := by
  pointwise [relT, colI, rowI]
theorem seenT_at (a c : Fin 8192) : seenT (ix2 a c) = if c.val / 64 ≤ a.val / 64 then 1#1 else 0#1 := by
  pointwise [seenT]
  rw [fdC_at, fdR_at, allowed _ _ c.isLt a.isLt]
theorem bktT_at (r : IVec S8192x8192 32) (a c : Fin 8192) : wrapT (bktT r) (ix2 a c) = wrap (bkt (r (ix2 a c))) := by
  pointwise [wrapT, bktT]; rfl
theorem unit_at (w : IVec S8192x8192 32) (a c : Fin 8192) : broadcastInDim S8192x8192x1 ![0, 1] bcast_S8192x8192_S8192x8192x1_0_1 w (ix3 a c 0) = w (ix2 a c) := by
  pointwise
theorem tileT_at (tb : FVec Ideal S32x4 .f32) (r) (h : Fin 4) (a c : Fin 8192) : tileT tb r (ix3 h a c) = tb (ix2 (slot (r (ix2 a c))) h) := by
  pointwise [tileT]
  rw [gather_at]
  refine congrArg (fun j : Fin 32 => tb (ix2 j h)) (Fin.ext ?_)
  refine congrArg (fun z : BitVec 32 => min z.toInt.toNat 31) ?_
  rw [unit_at, bktT_at]

theorem bias_at (tb : FVec Ideal S32x4 .f32) (h : Fin 4) (a c : Fin 8192) :
    tileT tb relT (ix3 h a c) = tb (ix2 (slot (IntOp.subi (BitVec.ofNat 32 c.val) (BitVec.ofNat 32 a.val))) h) := by
  rw [tileT_at, relT_at]

end Cert.DiffRefIdeal.Mine

end
-- ==== Proof.Diff.RefScore.lean ====
module

public import proofs.«01_k».proof.Proof.Gen.DiffRefIdeal.Run
public import proofs.«01_k».proof.Proof.Diff.RefBias
public import Idealize.ShloMosaic.Lib.Pointwise

/-! The reference's scores, read at an index. -/

@[expose] public section

set_option maxRecDepth 16384

noncomputable section

namespace Cert.DiffRefIdeal.Mine

open Cert.DiffRefIdeal Cert.DiffRefIdeal.Gen Cert.DiffRefIdeal.Value Cert.DiffModel Idealize.ShloMosaic Idealize.ShloMosaic.TcCoe Idealize.SL.Sem

/-- The queries, by batch, position, head and half. -/
def queries (p : FVec Ideal S32768x8192 .bf16) : FVec Ideal S4x8192x4x2x64 .f32 :=
  shapeCast _ (extf .f32 (extractStridedSlice S32768x512 ![0, 3584] p slices_S32768x8192_S32768x512_0_3584) bitsLt_bf16_f32) shapeCasts_S32768x512_S4x8192x4x2x64
/-- The keys. -/
def keys (p : FVec Ideal S32768x8192 .bf16) : FVec Ideal S4x8192x4x2x64 .f32 :=
  shapeCast _ (extf .f32 (extractStridedSlice S32768x512 ![0, 4096] p slices_S32768x8192_S32768x512_0_4096) bitsLt_bf16_f32) shapeCasts_S32768x512_S4x8192x4x2x64
/-- The values. -/
def values (p : FVec Ideal S32768x8192 .bf16) : FVec Ideal S4x8192x4x128 .f32 :=
  shapeCast _ (extf .f32 (extractStridedSlice S32768x512 ![0, 4608] p slices_S32768x8192_S32768x512_0_4608) bitsLt_bf16_f32) shapeCasts_S32768x512_S4x8192x4x128

variable (p : FVec Ideal S32768x8192 .bf16) (tb : FVec Ideal S32x4 .f32)

theorem queries_at (b : Fin 4) (Q : Fin 8192) (h : Fin 4) (s : Fin 2) (d : Fin 64) : queries p (ix5 b Q h s d) = p (ix2 (tok b Q) (colQ h s d)) := by
  pointwise [queries]
  congr 2
  · exact Fin.ext (by simp only [tok]; omega)
  · exact Fin.ext (by simp only [colQ]; omega)
theorem keys_at (b : Fin 4) (Q : Fin 8192) (h : Fin 4) (s : Fin 2) (d : Fin 64) : keys p (ix5 b Q h s d) = p (ix2 (tok b Q) (colK h s d)) := by
  pointwise [keys]
  congr 2
  · exact Fin.ext (by simp only [tok]; omega)
  · exact Fin.ext (by simp only [colK]; omega)
theorem values_at (b : Fin 4) (Q : Fin 8192) (h : Fin 4) (e : Fin 128) : values p (ix4 b Q h e) = p (ix2 (tok b Q) (colV h e)) := by
  pointwise [values]
  congr 2
  · exact Fin.ext (by simp only [tok]; omega)
  · exact Fin.ext (by simp only [colV]; omega)

/-- The products of queries and keys. -/
def prods (q k : FVec Ideal S4x8192x4x2x64 .f32) : FVec Ideal S4x4x2x8192x8192 .f32 :=
  Host.dotGeneral dot_S4x8192x4x2x64_S4x8192x4x2x64_S4x4x2x8192x8192_4_4_1_1_023_023 none q k

theorem prods_at (q k : FVec Ideal S4x8192x4x2x64 .f32) (b h : Fin 4) (s : Fin 2) (Q K : Fin 8192) :
    prods q k (ix5 b h s Q K) = ∑ d : Fin 64, q (ix5 b Q h s d) * k (ix5 b K h s d) := by
  pointwise [prods]

/-- The masked scores. -/
def masked (x : FVec Ideal S4x4x2x8192x8192 .f32) (t : FVec Ideal S4x8192x8192 .f32) (sn : IVec S8192x8192 1) : FVec Ideal S4x4x2x8192x8192 .f32 :=
  select (broadcastInDim S4x4x2x8192x8192 ![3, 4] bcast_S8192x8192_S4x4x2x8192x8192_3_4 sn)
    (addf x (broadcastInDim S4x4x2x8192x8192 ![0, 1, 2, 3, 4] bcast_S1x4x1x8192x8192_S4x4x2x8192x8192_0_1_2_3_4 (broadcastInDim S1x4x1x8192x8192 ![1, 3, 4] bcast_S4x8192x8192_S1x4x1x8192x8192_1_3_4 t)))
    (broadcastInDim S4x4x2x8192x8192 ![] bcast_S_S4x4x2x8192x8192 (constant S_ .f32 0xFF800000#32))

theorem masked_at (x : FVec Ideal S4x4x2x8192x8192 .f32) (t : FVec Ideal S4x8192x8192 .f32) (sn : IVec S8192x8192 1) (b h : Fin 4) (s : Fin 2) (Q K : Fin 8192) :
    masked x t sn (ix5 b h s Q K) = Scalar.select (sn (ix2 Q K)) (x (ix5 b h s Q K) + t (ix3 h Q K)) (Ideal.ofBits FTy.f32 4286578688#32) := by
  pointwise [masked]

/-- The reference's scores. -/
def scores : FVec Ideal S4x4x2x8192x8192 .f32 := masked (prods (queries p) (keys p)) (tileT tb relT) seenT

theorem scores_at (b h : Fin 4) (s : Fin 2) (Q K : Fin 8192) :
    scores p tb (ix5 b h s Q K) = sc (fun r k => p (ix2 r k)) (fun r h => tb (ix2 r h)) b h Q s K := by
  have e : Ideal.ofBits FTy.f32 4286578688#32 = ⊥ := by simp [Ideal.ofBits, Ideal.ieee]
  unfold scores
  rw [masked_at, prods_at, bias_at, seenT_at, e]
  unfold sc scoreOf qk
  simp only [queries_at, keys_at]
  by_cases hc : K.val / 64 ≤ Q.val / 64
  · rw [if_pos hc, if_pos hc]; rfl
  · rw [if_neg hc, if_neg hc]; rfl

end Cert.DiffRefIdeal.Mine

end
-- ==== Proof.Diff.RefTop.lean ====
module

public import proofs.«01_k».proof.Proof.Gen.DiffRefIdeal.Run
public import proofs.«01_k».proof.Proof.Diff.RefScore
public import Idealize.ShloMosaic.Lib.Pointwise

/-! The largest score of a query in the reference is a number. -/

@[expose] public section

set_option maxRecDepth 16384

noncomputable section

namespace Cert.DiffRefIdeal.Mine

open Cert.DiffRefIdeal Cert.DiffRefIdeal.Gen Cert.DiffRefIdeal.Value Cert.DiffModel Idealize.ShloMosaic Idealize.ShloMosaic.TcCoe Idealize.SL.Sem

/-- The largest score of each query. -/
def tops (x : FVec Ideal S4x4x2x8192x8192 .f32) : FVec Ideal S4x4x2x8192 .f32 :=
  maximumf (broadcastInDim S4x4x2x8192 ![] bcast_S_S4x4x2x8192 (constant S_ .f32 0xFF800000#32))
    (Host.reduce FloatOps.maximumf x (constant S_ .f32 0xFF800000#32) reducesTo_S4x4x2x8192x8192_S4x4x2x8192_d4 h_S_)

/-- The largest of entries below infinity, one of them above minus infinity, is a number. -/
theorem largest {s t u : Shape} {axes : List (Fin s.rank)} (x : FVec Ideal s .f32) (init : FVec Ideal u .f32) (h : s.ReducesTo axes t) (hu : 0 < u.numel)
    (j : t.Idx) (hi : init (Shape.Idx.first hu) = ⊥) (hT : ∀ i, x i ≠ ⊤) (i₀ : s.Idx) (hd : h.drop i₀ = j) (hB : x i₀ ≠ ⊥) :
    ∃ M : ℝ, Host.reduce FloatOps.maximumf x init h hu j = (M : EReal) := by
  rw [Ideal.maximumf_eq_max]
  change ∃ M : ℝ, Host.reduce (max : EReal → EReal → EReal) x init h hu j = (M : EReal)
  rw [Host.reduce_eq_fold, hi]
  have h1 : (Finset.univ.filter fun i => h.drop i = j).fold max ⊥ x ≠ ⊤ :=
    ne_of_lt ((Finset.fold_max_lt ⊤).2 ⟨bot_lt_top, fun i _ => lt_top_iff_ne_top.2 (hT i)⟩)
  have h2 : x i₀ ≤ (Finset.univ.filter fun i => h.drop i = j).fold max ⊥ x :=
    (Finset.le_fold_max _).2 (Or.inr ⟨i₀, Finset.mem_filter.2 ⟨Finset.mem_univ _, hd⟩, le_rfl⟩)
  have h3 : (Finset.univ.filter fun i => h.drop i = j).fold max ⊥ x ≠ ⊥ := fun e => hB (le_bot_iff.1 (e ▸ h2))
  exact ⟨_, (EReal.coe_toReal h1 h3).symm⟩

theorem above_bot (r : FVec Ideal S4x4x2x8192 .f32) (j : S4x4x2x8192.Idx) (M : ℝ) (h : r j = (M : EReal)) :
    maximumf (broadcastInDim S4x4x2x8192 ![] bcast_S_S4x4x2x8192 (constant (F := Ideal) S_ .f32 0xFF800000#32)) r j = (M : EReal) := by
  have e : Ideal.ofBits FTy.f32 4286578688#32 = ⊥ := by simp [Ideal.ofBits, Ideal.ieee]
  pointwise
  rw [e, h]
  exact max_eq_right bot_le

theorem bot_word : constant (F := Ideal) S_ .f32 0xFF800000#32 (Shape.Idx.first h_S_) = (⊥ : EReal) := by
  show Ideal.ofBits FTy.f32 4286578688#32 = ⊥
  simp [Ideal.ofBits, Ideal.ieee]

theorem drop_at (h : S4x4x2x8192x8192.ReducesTo [4] S4x4x2x8192) (b k : Fin 4) (s : Fin 2) (Q K : Fin 8192) : h.drop (ix5 b k s Q K) = ix4 b k s Q := by
  funext a
  match a with
  | ⟨0, _⟩ => exact Fin.ext (h.drop_apply_val_of_eq _ ⟨0, by decide⟩ 0 (by decide) (by decide))
  | ⟨1, _⟩ => exact Fin.ext (h.drop_apply_val_of_eq _ ⟨1, by decide⟩ 1 (by decide) (by decide))
  | ⟨2, _⟩ => exact Fin.ext (h.drop_apply_val_of_eq _ ⟨2, by decide⟩ 2 (by decide) (by decide))
  | ⟨3, _⟩ => exact Fin.ext (h.drop_apply_val_of_eq _ ⟨3, by decide⟩ 3 (by decide) (by decide))

theorem tops_at (x : FVec Ideal S4x4x2x8192x8192 .f32) (hT : ∀ i, x i ≠ ⊤) (b k : Fin 4) (s : Fin 2) (Q : Fin 8192) (hB : x (ix5 b k s Q Q) ≠ ⊥) :
    ∃ M : ℝ, tops x (ix4 b k s Q) = M := by
  obtain ⟨M, hM⟩ := largest x (constant S_ .f32 0xFF800000#32) reducesTo_S4x4x2x8192x8192_S4x4x2x8192_d4 h_S_ (ix4 b k s Q) bot_word hT (ix5 b k s Q Q) (drop_at _ b k s Q Q) hB
  exact ⟨M, above_bot _ _ M hM⟩

end Cert.DiffRefIdeal.Mine

end
-- ==== Proof.Diff.RefSoft.lean ====
module

public import proofs.«01_k».proof.Proof.Gen.DiffRefIdeal.Run
public import proofs.«01_k».proof.Proof.Diff.RefTop
public import Idealize.ShloMosaic.Lib.Pointwise

/-! The reference's softmax and its average of the values, read at an index. -/

@[expose] public section

set_option maxRecDepth 16384

noncomputable section

namespace Cert.DiffRefIdeal.Mine

open Cert.DiffRefIdeal Cert.DiffRefIdeal.Gen Cert.DiffRefIdeal.Value Cert.DiffModel Idealize.ShloMosaic Idealize.ShloMosaic.TcCoe Idealize.SL.Sem

/-- The exponentials. -/
def exps (x : FVec Ideal S4x4x2x8192x8192 .f32) (t : FVec Ideal S4x4x2x8192 .f32) : FVec Ideal S4x4x2x8192x8192 .f32 :=
  Host.exp (subf x (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 t)))
/-- The softmax. -/
def soft (x : FVec Ideal S4x4x2x8192x8192 .f32) : FVec Ideal S4x4x2x8192x8192 .f32 :=
  Host.divf x (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3
    (Host.reduceAdd x (constant S_ .f32 0x00000000#32) reducesTo_S4x4x2x8192x8192_S4x4x2x8192_d4 h_S_)))

theorem exps_at (x : FVec Ideal S4x4x2x8192x8192 .f32) (t : FVec Ideal S4x4x2x8192 .f32) (b h : Fin 4) (s : Fin 2) (Q K : Fin 8192) :
    exps x t (ix5 b h s Q K) = Ideal.exp (x (ix5 b h s Q K) - t (ix4 b h s Q)) := by
  pointwise [exps]
theorem soft_at (x : FVec Ideal S4x4x2x8192x8192 .f32) (b h : Fin 4) (s : Fin 2) (Q K : Fin 8192) :
    soft x (ix5 b h s Q K) = Ideal.div (x (ix5 b h s Q K)) (∑ K : Fin 8192, x (ix5 b h s Q K)) := by
  pointwise [soft]

/-- The weight of the second softmax. -/
def lamT (x : FVec Ideal S4x64 .f32) : FVec Ideal S_ .f32 :=
  addf (subf
      (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_))
      (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_)))
    (constant S_ .f32 0x3E4CCCCD#32)

theorem lamT_at (x : FVec Ideal S4x64 .f32) : lamT x ix0 = lam (fun r d => x (ix2 r d)) := by
  pointwise [lamT]
  rfl

/-- The difference of the two softmaxes. -/
def diffs (w : FVec Ideal S4x4x2x8192x8192 .f32) (l : FVec Ideal S_ .f32) : FVec Ideal S4x4x8192x8192 .f32 :=
  subf (shapeCast _ (extractStridedSlice S4x4x1x8192x8192 ![0, 0, 0, 0, 0] w slices_S4x4x2x8192x8192_S4x4x1x8192x8192_0_0_0_0_0) shapeCasts_S4x4x1x8192x8192_S4x4x8192x8192)
    (mulf (broadcastInDim S4x4x8192x8192 ![] bcast_S_S4x4x8192x8192 l)
      (shapeCast _ (extractStridedSlice S4x4x1x8192x8192 ![0, 0, 1, 0, 0] w slices_S4x4x2x8192x8192_S4x4x1x8192x8192_0_0_1_0_0) shapeCasts_S4x4x1x8192x8192_S4x4x8192x8192))

theorem diffs_at (w : FVec Ideal S4x4x2x8192x8192 .f32) (l : FVec Ideal S_ .f32) (b h : Fin 4) (Q K : Fin 8192) :
    diffs w l (ix4 b h Q K) = w (ix5 b h 0 Q K) - l ix0 * w (ix5 b h 1 Q K) := by
  pointwise [diffs]

/-- The averages of the values under them. -/
def avgs (v : FVec Ideal S4x8192x4x128 .f32) (w : FVec Ideal S4x4x8192x8192 .f32) : FVec Ideal S4x8192x4x128 .f32 :=
  transpose S4x8192x4x128 [0, 3, 1, 2] (Host.dotGeneral dot_S4x8192x4x128_S4x4x8192x8192_S4x4x128x8192_1_3_3_2_02_01 none v w) transposes_S4x4x128x8192_S4x8192x4x128_0_3_1_2

theorem avgs_at (v : FVec Ideal S4x8192x4x128 .f32) (w : FVec Ideal S4x4x8192x8192 .f32) (b h : Fin 4) (Q : Fin 8192) (e : Fin 128) :
    avgs v w (ix4 b Q h e) = ∑ K : Fin 8192, v (ix4 b K h e) * w (ix4 b h Q K) := by
  pointwise [avgs]

/-- The norm of each head, its gain and the last factor. -/
def norms (o : FVec Ideal S4x8192x4x128 .f32) (g : FVec Ideal S128 .f32) : FVec Ideal S4x8192x4x128 .f32 :=
  mulf (mulf (mulf o (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf o o) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g))) (broadcastInDim S4x8192x4x128 ![] bcast_S_S4x8192x4x128 (constant S_ .f32 0x3F4CCCCD#32))

theorem norms_at (o : FVec Ideal S4x8192x4x128 .f32) (g : FVec Ideal S128 .f32) (b h : Fin 4) (Q : Fin 8192) (e : Fin 128) :
    norms o g (ix4 b Q h e) = Cert.DiffIdeal.Hand.normed (fun e => o (ix4 b Q h e)) (fun e => g (ix1 e) * Ideal.ofBits FTy.f32 1061997773#32) e := by
  unfold Cert.DiffIdeal.Hand.normed
  rw [← Cert.DiffIdeal.Hand.f128, ← mul_assoc]
  pointwise [norms]

/-- The result, as the call gives it. -/
def laid (x : FVec Ideal S4x8192x4x128 .f32) : FVec Ideal S4x512x8192 .bf16 :=
  truncf .bf16 (transpose S4x512x8192 [0, 2, 1] (shapeCast _ x shapeCasts_S4x8192x4x128_S4x8192x512) transposes_S4x8192x512_S4x512x8192_0_2_1) bitsLt_bf16_f32

theorem laid_at (x : FVec Ideal S4x8192x4x128 .f32) (b h : Fin 4) (e : Fin 128) (Q : Fin 8192) (r : Fin 512) (hr : r.val = 128 * h.val + e.val) :
    laid x (ix3 b r Q) = x (ix4 b Q h e) := by
  obtain ⟨r, hr'⟩ := r
  dsimp only at hr
  subst hr
  pointwise [laid]

end Cert.DiffRefIdeal.Mine

end
-- ==== Proof.Diff.Ref.lean ====
module

public import proofs.«01_k».proof.Proof.Gen.DiffRefIdeal.Run
public import proofs.«01_k».proof.Proof.Diff.RefSoft
public import proofs.«01_k».proof.Proof.Diff.RefTop
public import proofs.«01_k».proof.Proof.Diff.RefScore
public import Idealize.ShloMosaic.Lib.Pointwise

/-! The reference of the differential attention at every place of its result. -/

@[expose] public section

set_option maxRecDepth 16384

noncomputable section

namespace Cert.DiffRefIdeal.Mine

open Cert.DiffRefIdeal Cert.DiffRefIdeal.Gen Cert.DiffRefIdeal.Value Cert.DiffModel Idealize.ShloMosaic Idealize.ShloMosaic.TcCoe Idealize.SL.Sem

variable (p : FVec Ideal S32768x8192 .bf16) (tb : FVec Ideal S32x4 .f32) (l : FVec Ideal S4x64 .f32) (g : FVec Ideal S128 .f32)

/-- The reference's weights. -/
def wts : FVec Ideal S4x4x8192x8192 .f32 := diffs (soft (exps (scores p tb) (tops (scores p tb)))) (lamT l)
/-- The reference's result. -/
def refOut : FVec Ideal S4x512x8192 .bf16 := laid (norms (avgs (values p) (wts p tb l)) g)

theorem idx5 {A B C D E : ℕ} (i : (⟨5, ![A, B, C, D, E]⟩ : Shape).Idx) : i = ix5 (i 0) (i 1) (i 2) (i 3) (i 4) := by
  funext a
  match a with
  | ⟨0, _⟩ => rfl
  | ⟨1, _⟩ => rfl
  | ⟨2, _⟩ => rfl
  | ⟨3, _⟩ => rfl
  | ⟨4, _⟩ => rfl

/-- A weight, over plain scores. -/
theorem wts_at (x : FVec Ideal S4x4x2x8192x8192 .f32) (t : FVec Ideal S4x4x2x8192 .f32) (b h : Fin 4) (Q K : Fin 8192) :
    diffs (soft (exps x t)) (lamT l) (ix4 b h Q K)
      = Ideal.div (Ideal.exp (x (ix5 b h 0 Q K) - t (ix4 b h 0 Q))) (∑ K : Fin 8192, Ideal.exp (x (ix5 b h 0 Q K) - t (ix4 b h 0 Q)))
        - lam (fun r d => l (ix2 r d)) * Ideal.div (Ideal.exp (x (ix5 b h 1 Q K) - t (ix4 b h 1 Q))) (∑ K : Fin 8192, Ideal.exp (x (ix5 b h 1 Q K) - t (ix4 b h 1 Q))) := by
  rw [diffs_at, lamT_at, soft_at, soft_at]
  simp only [exps_at]

variable {p tb l} (F : Fine (fun r k => p (ix2 r k)) (fun r h => tb (ix2 r h)) (fun r d => l (ix2 r d)))
include F

theorem scores_top (i : S4x4x2x8192x8192.Idx) : scores p tb i ≠ ⊤ := by
  rw [idx5 i]
  exact fun e => sc_top F (i 0) (i 1) (i 3) (i 2) (i 4) ((scores_at p tb (i 0) (i 1) (i 2) (i 3) (i 4)).symm.trans e)

theorem tops_real (b h : Fin 4) (s : Fin 2) (Q : Fin 8192) : ∃ M : ℝ, tops (scores p tb) (ix4 b h s Q) = M :=
  tops_at (scores p tb) (scores_top F) b h s Q fun e => sc_self F b h Q s ((scores_at p tb b h s Q Q).symm.trans e)

/-- The averages are the head's difference. -/
theorem mix_at (b h : Fin 4) (Q : Fin 8192) (e : Fin 128) :
    avgs (values p) (wts p tb l) (ix4 b Q h e) = mix (fun r k => p (ix2 r k)) (fun r h => tb (ix2 r h)) (fun r d => l (ix2 r d)) b h Q e := by
  obtain ⟨M₀, h₀⟩ := tops_real F b h 0 Q
  obtain ⟨M₁, h₁⟩ := tops_real F b h 1 Q
  refine (avgs_at (values p) (wts p tb l) b h Q e).trans ?_
  refine Eq.trans (Finset.sum_congr rfl fun K _ => ?_) (Cert.DiffModel.reference
    (sc (fun r k => p (ix2 r k)) (fun r h => tb (ix2 r h)) b h Q 0) (sc (fun r k => p (ix2 r k)) (fun r h => tb (ix2 r h)) b h Q 1)
    (vl (fun r k => p (ix2 r k)) b h e) (lam (fun r d => l (ix2 r d))).toReal (sc_top F b h Q 0) (sc_top F b h Q 1) (sc_self F b h Q 0) (sc_self F b h Q 1) M₀ M₁)
  refine congrArg₂ (· * ·) ((values_at p b K h e).trans (vl_coe F b h e K)) ?_
  refine (wts_at l (scores p tb) (tops (scores p tb)) b h Q K).trans ?_
  rw [h₀, h₁, ← lam_coe F]
  simp only [scores_at]

/-- The reference's result at every place. -/
theorem refOut_at (b h : Fin 4) (e : Fin 128) (Q : Fin 8192) (r : Fin 512) (hr : r.val = 128 * h.val + e.val) :
    refOut p tb l g (ix3 b r Q) = attn (fun r k => p (ix2 r k)) (fun r h => tb (ix2 r h)) (fun r d => l (ix2 r d)) (fun e => g (ix1 e)) b h Q e := by
  refine (laid_at _ b h e Q r hr).trans ((norms_at _ g b h Q e).trans ?_)
  exact congrArg (fun o => Cert.DiffIdeal.Hand.normed o (fun e => g (ix1 e) * Ideal.ofBits FTy.f32 1061997773#32) e) (funext fun e => mix_at F b h Q e)

end Cert.DiffRefIdeal.Mine

end
-- ==== Proof.Diff.Finite.lean ====
module

public import proofs.«01_k».proof.Proof.Gen.Pre_entries_are_finite
public import proofs.«01_k».proof.Proof.Diff.Model
public import Idealize.ShloMosaic.Lib.ReduceAll
public import Idealize.ShloMosaic.Lib.Pointwise
public import Idealize.ShloMosaic.Lib.Tactic.CleanTypes

/-! What the precondition says: the entries that the attention reads are numbers. -/

@[expose] public section

set_option maxRecDepth 16384

noncomputable section

namespace Cert.Pre_entries_are_finite.Mine

open Cert.Pre_entries_are_finite Cert.Pre_entries_are_finite.Gen Idealize.ShloMosaic Cert.DiffModel

variable (p : FVec Ideal S32768x8192 .bf16) (tb : FVec Ideal S32x4 .f32) (l : FVec Ideal S4x64 .f32) (g : FVec Ideal S128 .f32)

/-- What the comparison's word says of a number's magnitude: the number is real. -/
theorem real_of_word (y : EReal) (h : BitVec.ofBool (decide (max y (-y) < Ideal.ofBits FTy.f32 2139095040#32)) = 1#1) : ∃ x : ℝ, y = x := by
  have e : Ideal.ofBits FTy.f32 2139095040#32 = ⊤ := by simp [Ideal.ofBits, Ideal.ieee]
  rw [e] at h
  have h1 : max y (-y) < ⊤ := by
    by_contra hp
    rw [decide_eq_false hp] at h
    exact absurd h (by decide)
  induction y using EReal.rec with
  | bot => exact absurd h1 (by simp)
  | top => exact absurd h1 (by simp)
  | coe x => exact ⟨x, rfl⟩

theorem fine_of_pre (hp : fn p tb l g = fun _ => 1#1) :
    Fine (fun r k => p (ix2 r k)) (fun r h => tb (ix2 r h)) (fun r d => l (ix2 r d)) := by
  have h0 := congrFun hp (fun a => a.elim0)
  dsimp only [fn] at h0
  obtain ⟨h1, hl⟩ := IntOp.andi_eq_one.1 h0
  obtain ⟨hq, ht⟩ := IntOp.andi_eq_one.1 h1
  refine ⟨fun r c hc hc' => ?_, fun r h => ?_, fun r d => ?_⟩
  · have h2 := Host.reduce_andi_all _ _ _ _ _ hq (ix2 r ⟨c.val - 3584, by omega⟩)
    pointwise at h2
    have e : c = ⟨3584 + (c.val - 3584), by omega⟩ := Fin.ext (by dsimp only; omega)
    rw [e]
    exact real_of_word _ h2
  · have h2 := Host.reduce_andi_all _ _ _ _ _ ht (ix2 r h)
    pointwise at h2
    exact real_of_word _ h2
  · have h2 := Host.reduce_andi_all _ _ _ _ _ hl (ix2 r d)
    pointwise at h2
    exact real_of_word _ h2

end Cert.Pre_entries_are_finite.Mine

end
-- ==== Proof.Diff.Tie.lean ====
module

public import proofs.«01_k».proof.Proof.Diff.Kernel
public import proofs.«01_k».proof.Proof.Diff.Ref
public import proofs.«01_k».proof.Proof.Diff.Finite

/-! The differential attention's result is the reference's. -/

@[expose] public section

set_option maxRecDepth 16384

noncomputable section

namespace Cert.DiffTie

open Idealize.ShloMosaic Idealize.ShloMosaic.TcCoe Idealize.SL.Sem Cert.DiffModel
open Cert.DiffIdeal.Hand

variable (m : (ℓ : Loc Cert.DiffIdeal.nD Cert.DiffIdeal.τ Cert.DiffIdeal.sig) → Buf (Elt Ideal) ℓ) (c : Dev Cert.DiffIdeal.nD)

theorem idx3 {A B C : ℕ} (i : (⟨3, ![A, B, C]⟩ : Shape).Idx) : i = ix3 (i 0) (i 1) (i 2) := by
  funext a
  match a with
  | ⟨0, _⟩ => rfl
  | ⟨1, _⟩ => rfl
  | ⟨2, _⟩ => rfl

/-- The precondition, of the kernel's tables. -/
theorem fine (h : Cert.Pre_entries_are_finite.fn (F := Ideal) (argP m c) (argT m c) (argL m c) (argS m c) = fun _ => 1#1) :
    Fine (P m c) (TB m c) (LM m c) := Cert.Pre_entries_are_finite.Mine.fine_of_pre _ _ _ _ h

theorem result_eq (F : Fine (P m c) (TB m c) (LM m c)) :
    Cert.DiffRefIdeal.Mine.refOut (argP m c) (argT m c) (argL m c) (argS m c) = outA m c := by
  funext i
  have hi : (i 1).val < 512 := (i 1).isLt
  refine (congrArg (Cert.DiffRefIdeal.Mine.refOut (argP m c) (argT m c) (argL m c) (argS m c)) (idx3 i)).trans ?_
  exact Cert.DiffRefIdeal.Mine.refOut_at (argS m c) F (i 0) ⟨(i 1).val / 128, by omega⟩ ⟨(i 1).val % 128, by omega⟩ (i 2) (i 1) (by dsimp only; omega)

end Cert.DiffTie

namespace Cert.DiffRefIdeal.Mine

open Cert.DiffRefIdeal Cert.DiffRefIdeal.Gen Cert.DiffRefIdeal.Value Idealize.ShloMosaic Idealize.ShloMosaic.TcCoe Idealize.SL.Sem
open Idealize.ShloMosaic.StableHlo

/-- The averages, in the reference's run. -/
theorem res_avgs (m : (ℓ : Loc nD τ sig) → Buf (Elt Ideal) ℓ) (c : Dev nD) :
    res_main_v95 (launchContents m c) = avgs (values (m ((c.tc : Thread nD τ).loc main_arg0)))
      (wts (m ((c.tc : Thread nD τ).loc main_arg0)) (m ((c.tc : Thread nD τ).loc main_arg1)) (m ((c.tc : Thread nD τ).loc main_arg2))) := rfl

/-- The result, in the reference's run. -/
theorem res_out (m : (ℓ : Loc nD τ sig) → Buf (Elt Ideal) ℓ) (c : Dev nD) :
    laid (norms (res_main_v95 (launchContents m c)) (m ((c.tc : Thread nD τ).loc main_arg3)))
      = refOut (m ((c.tc : Thread nD τ).loc main_arg0)) (m ((c.tc : Thread nD τ).loc main_arg1)) (m ((c.tc : Thread nD τ).loc main_arg2))
          (m ((c.tc : Thread nD τ).loc main_arg3)) :=
  congrArg (fun o => laid (norms o (m ((c.tc : Thread nD τ).loc main_arg3)))) (res_avgs m c)

end Cert.DiffRefIdeal.Mine

end
-- ==== Proof.Merge.Model.lean ====
module

public import Idealize.ShloMosaic.PureOps.Ideal
public import Idealize.ShloMosaic.Lib.Pointwise

/-! What the merge makes of a token: the gated branches, the output projection on top of the residual stream, the second norm and
the logits. -/

@[expose] public section

noncomputable section

namespace Cert.MergeModel

open Idealize.ShloMosaic

variable (ha hb hc : FVec Ideal ⟨2, ![32768, 512]⟩ .bf16) (p : FVec Ideal ⟨2, ![32768, 8192]⟩ .bf16)
  (x2 : FVec Ideal ⟨2, ![32768, 1024]⟩ .f32) (wb : FVec Ideal ⟨3, ![3, 512, 1024]⟩ .f32) (wo : FVec Ideal ⟨2, ![1024, 1024]⟩ .f32)
  (ng : FVec Ideal ⟨1, ![1024]⟩ .f32) (wg : FVec Ideal ⟨2, ![1024, 4]⟩ .f32) (bg : FVec Ideal ⟨1, ![4]⟩ .f32)
  (wr : FVec Ideal ⟨2, ![1024, 32]⟩ .f32) (br : FVec Ideal ⟨1, ![32]⟩ .f32) (n : Fin 32768)

/-- The three branches, each through its projection and under its gate. -/
def gated (e : Fin 1024) : EReal :=
  p (ix2 n ⟨5120 + e.val, by omega⟩) * (∑ k : Fin 512, ha (ix2 n k) * wb (ix3 0 k e))
    + p (ix2 n ⟨6144 + e.val, by omega⟩) * (∑ k : Fin 512, hb (ix2 n k) * wb (ix3 1 k e))
    + p (ix2 n ⟨7168 + e.val, by omega⟩) * (∑ k : Fin 512, hc (ix2 n k) * wb (ix3 2 k e))

/-- The residual stream after the merge. -/
def stream (d : Fin 1024) : EReal := x2 (ix2 n d) + ∑ e : Fin 1024, gated ha hb hc p wb n e * wo (ix2 e d)

/-- A row divided by the root of its mean square, times the gain. -/
def normed (x : Fin 1024 → EReal) (d : Fin 1024) : EReal :=
  x d * Ideal.rsqrt (Ideal.div (∑ k : Fin 1024, x k * x k) (FloatOps.ofBits (F := Ideal) .f32 0x44800000#32)
    + FloatOps.ofBits (F := Ideal) .f32 0x358637BD#32) * ng (ix1 d)

/-- The router's logits, then the groups', then zeros. -/
def logit (h : Fin 1024 → EReal) (l : Fin 128) : EReal :=
  if h0 : l.val < 32 then (∑ k : Fin 1024, h k * wr (ix2 k ⟨l.val, h0⟩)) + br (ix1 ⟨l.val, h0⟩)
  else if h1 : l.val - 32 < 4 then (∑ k : Fin 1024, h k * wg (ix2 k ⟨l.val - 32, h1⟩)) + bg (ix1 ⟨l.val - 32, h1⟩)
  else 0

end Cert.MergeModel

end
-- ==== Proof.Merge.Kernel.lean ====
module

public import proofs.«01_k».proof.Proof.Gen.MergeIdeal.Value
public import proofs.«01_k».proof.Proof.Merge.Model
public import Idealize.ShloMosaic.Lib.Pipeline.ValueKit
public import Idealize.ShloMosaic.Lib.Pipeline.ReadBack
public import Idealize.ShloMosaic.Lib.Pointwise

/-! The kernel of the merge: 64 tiles of 512 tokens, each on its own. -/

@[expose] public section

set_option maxRecDepth 16384

noncomputable section

namespace Cert.MergeIdeal.Mine

open Cert.MergeIdeal Cert.MergeIdeal.Gen Cert.MergeIdeal.Value Cert.MergeModel Idealize.ShloMosaic Idealize.ShloMosaic.TcCoe Idealize.SL.Sem

variable (m : (ℓ : Loc nD τ sig) → Buf (Elt Ideal) ℓ) (c : Dev nD)

/-- The first branch. -/
def argA : FVec Ideal S32768x512 .bf16 := m ((c : Thread nD τ).loc main_arg0)
/-- The second branch. -/
def argB : FVec Ideal S32768x512 .bf16 := m ((c : Thread nD τ).loc main_arg1)
/-- The third branch. -/
def argC : FVec Ideal S32768x512 .bf16 := m ((c : Thread nD τ).loc main_arg2)
/-- The projections, the gates among them. -/
def argP : FVec Ideal S32768x8192 .bf16 := m ((c : Thread nD τ).loc main_arg3)
/-- The residual stream. -/
def argX : FVec Ideal S32768x1024 .f32 := m ((c : Thread nD τ).loc main_arg4)
/-- The branches' projections. -/
def argWb : FVec Ideal S3x512x1024 .f32 := m ((c : Thread nD τ).loc main_arg5)
/-- The output projection. -/
def argWo : FVec Ideal S1024x1024 .f32 := m ((c : Thread nD τ).loc main_arg6)
/-- The second norm's gain. -/
def argN : FVec Ideal S1024 .f32 := m ((c : Thread nD τ).loc main_arg7)
/-- The group weights. -/
def argWg : FVec Ideal S1024x4 .f32 := m ((c : Thread nD τ).loc main_arg8)
/-- The group biases. -/
def argBg : FVec Ideal S4 .f32 := m ((c : Thread nD τ).loc main_arg9)
/-- The router's weights. -/
def argWr : FVec Ideal S1024x32 .f32 := m ((c : Thread nD τ).loc main_arg10)
/-- The router's biases. -/
def argBr : FVec Ideal S32 .f32 := m ((c : Thread nD τ).loc main_arg11)

/-- The token that row `r` of the tile of point `t` holds. -/
def tok (t : Fin cfg0.N) (r : Fin 512) : Fin 32768 :=
  ⟨512 * t.val + r.val, by have := lt_of_lt_of_eq t.isLt N_0; omega⟩

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 5] := by decide +kernel
theorem index_4 : ∀ t : Fin cfg0.N, win0_4.index t = ![t.val, 6] := by decide +kernel
theorem index_5 : ∀ t : Fin cfg0.N, win0_5.index t = ![t.val, 7] := by decide +kernel
theorem index_6 : ∀ t : Fin cfg0.N, win0_6.index t = ![t.val, 0] := by decide +kernel
theorem index_7 : ∀ t : Fin cfg0.N, win0_7.index t = ![0, 0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![0, 0] := by decide +kernel
theorem index_12 : ∀ t : Fin cfg0.N, win0_12.index t = ![t.val, 0] := by decide +kernel
theorem index_13 : ∀ t : Fin cfg0.N, win0_13.index t = ![t.val, 0] := by decide +kernel
theorem index_14 : ∀ t : Fin cfg0.N, win0_14.index t = ![t.val, 0] := by decide +kernel

theorem blk_a (t : Fin cfg0.N) (r k : Fin 512) : iblk m c 0 t (ix2 r k) = argA m c (ix2 (tok t r) k) := by
  blk_ext! [iblk, V, argA, index_0 t, tok]
theorem blk_b (t : Fin cfg0.N) (r k : Fin 512) : iblk m c 1 t (ix2 r k) = argB m c (ix2 (tok t r) k) := by
  blk_ext! [iblk, V, argB, index_1 t, tok]
theorem blk_c (t : Fin cfg0.N) (r k : Fin 512) : iblk m c 2 t (ix2 r k) = argC m c (ix2 (tok t r) k) := by
  blk_ext! [iblk, V, argC, index_2 t, tok]
theorem blk_g0 (t : Fin cfg0.N) (r : Fin 512) (e : Fin 1024) :
    iblk m c 3 t (ix2 r e) = argP m c (ix2 (tok t r) ⟨5120 + e.val, by omega⟩) := by
  blk_ext! [iblk, V, argP, index_3 t, tok]
theorem blk_g1 (t : Fin cfg0.N) (r : Fin 512) (e : Fin 1024) :
    iblk m c 4 t (ix2 r e) = argP m c (ix2 (tok t r) ⟨6144 + e.val, by omega⟩) := by
  blk_ext! [iblk, V, argP, index_4 t, tok]
theorem blk_g2 (t : Fin cfg0.N) (r : Fin 512) (e : Fin 1024) :
    iblk m c 5 t (ix2 r e) = argP m c (ix2 (tok t r) ⟨7168 + e.val, by omega⟩) := by
  blk_ext! [iblk, V, argP, index_5 t, tok]
theorem blk_x (t : Fin cfg0.N) (r : Fin 512) (d : Fin 1024) : iblk m c 6 t (ix2 r d) = argX m c (ix2 (tok t r) d) := by
  blk_ext! [iblk, V, argX, index_6 t, tok]

theorem blk_wb' (t : Fin cfg0.N) (b : Fin 3) (k : Fin 512) (e : Fin 1024) : iblk m c 7 t (ix3 b k e) = V m c main_v6 (ix3 b k e) := by
  blk_ext! [iblk, index_7 t]
theorem blk_wo' (t : Fin cfg0.N) (e d : Fin 1024) : iblk m c 8 t (ix2 e d) = V m c main_v7 (ix2 e d) := by
  blk_ext! [iblk, index_8 t]
theorem blk_n' (t : Fin cfg0.N) (d : Fin 1024) : iblk m c 9 t (ix2 0 d) = V m c main_v8 (ix2 0 d) := by
  blk_ext! [iblk, index_9 t]
theorem blk_wr' (t : Fin cfg0.N) (k : Fin 1024) (l : Fin 128) : iblk m c 10 t (ix2 k l) = V m c main_v2 (ix2 k l) := by
  blk_ext! [iblk, index_10 t]
theorem blk_br' (t : Fin cfg0.N) (l : Fin 128) : iblk m c 11 t (ix2 0 l) = V m c main_v5 (ix2 0 l) := by
  blk_ext! [iblk, index_11 t]

theorem blk_wb (t : Fin cfg0.N) (b : Fin 3) (k : Fin 512) (e : Fin 1024) : iblk m c 7 t (ix3 b k e) = argWb m c (ix3 b k e) := by
  rw [blk_wb']; entry_read; pointwise; rfl
theorem blk_wo (t : Fin cfg0.N) (e d : Fin 1024) : iblk m c 8 t (ix2 e d) = argWo m c (ix2 e d) := by
  rw [blk_wo']; entry_read; pointwise; rfl
/-- What the host makes of the gain. -/
theorem V_v8 : V m c main_v8 = shapeCast S1x1024 (argN m c) shapeCasts_S1024_S1x1024 := by
  simp only [V, hostOps0, hostOps0_1, hostOps0_2, hostOps0_3, hostOps0_4, List.flatten_cons, List.flatten_nil, List.append_nil,
    List.cons_append, List.nil_append]
  entry_read
  rfl

/-- What the host makes of the logits' weights. -/
theorem V_v2 : V m c main_v2 = pad S1024x128 ![0, 0] ![0, 92] ![0, 0] (concatenate S1024x36 1 [⟨S1024x32, argWr m c⟩, ⟨S1024x4, argWg m c⟩] concatenates_S1024x32_S1024x4_S1024x36_d1)
    (sitofp (F := Ideal) .f32 (constantI S_ 32 0#32)) pads_S1024x36_S1024x128_000_0920 h_S_ := by
  simp only [V, hostOps0, hostOps0_1, hostOps0_2, hostOps0_3, hostOps0_4, List.flatten_cons, List.flatten_nil, List.append_nil,
    List.cons_append, List.nil_append]
  entry_read
  rfl

/-- What the host makes of the logits' biases. -/
theorem V_v5 : V m c main_v5 = shapeCast S1x128 (pad S128 ![0] ![92] ![0] (concatenate S36 0 [⟨S32, argBr m c⟩, ⟨S4, argBg m c⟩] concatenates_S32_S4_S36_d0)
    (sitofp (F := Ideal) .f32 (constantI S_ 32 0#32)) pads_S36_S128_0920 h_S_) shapeCasts_S128_S1x128 := by
  simp only [V, hostOps0, hostOps0_1, hostOps0_2, hostOps0_3, hostOps0_4, List.flatten_cons, List.flatten_nil, List.append_nil,
    List.cons_append, List.nil_append]
  entry_read
  rfl

theorem blk_n (t : Fin cfg0.N) (d : Fin 1024) : iblk m c 9 t (ix2 0 d) = argN m c (ix1 d) := by
  rw [blk_n', V_v8]; pointwise

theorem zero_word : FloatOps.sitofp (F := Ideal) FTy.f32 0#32 = (0 : EReal) := by
  show (((0#32 : BitVec 32).toInt : ℝ) : EReal) = 0
  simp

/-- The weights of the logits side by side. -/
theorem blk_wr (t : Fin cfg0.N) (k : Fin 1024) (l : Fin 128) : iblk m c 10 t (ix2 k l)
    = if h0 : l.val < 32 then argWr m c (ix2 k ⟨l.val, h0⟩) else if h1 : l.val - 32 < 4 then argWg m c (ix2 k ⟨l.val - 32, h1⟩) else (0 : EReal) := by
  rw [blk_wr', V_v2]; pointwise
  split
  · rename_i h
    by_cases h0 : l.val < 32
    · rw [dif_pos h0, dif_pos h0]
    · rw [dif_neg h0, dif_neg h0, dif_pos (by omega)]
  · rename_i h
    rw [dif_neg (by omega), dif_neg (by omega)]
    exact zero_word

/-- The biases of the logits side by side. -/
theorem blk_br (t : Fin cfg0.N) (l : Fin 128) : iblk m c 11 t (ix2 0 l)
    = if h0 : l.val < 32 then argBr m c (ix1 ⟨l.val, h0⟩) else if h1 : l.val - 32 < 4 then argBg m c (ix1 ⟨l.val - 32, h1⟩) else (0 : EReal) := by
  rw [blk_br', V_v5]; pointwise
  split
  · rename_i h
    by_cases h0 : l.val < 32
    · rw [dif_pos h0, dif_pos h0]
    · rw [dif_neg h0, dif_neg h0, dif_pos (by omega)]
  · rename_i h
    rw [dif_neg (by omega), dif_neg (by omega)]
    exact zero_word

/-- The stream of a tile. -/
theorem pay4_at (t : Fin cfg0.N) (r : Fin 512) (d : Fin 1024) :
    k0_pay4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = stream (argA m c) (argB m c) (argC m c) (argP m c) (argX m c) (argWb m c) (argWo m c) (tok t r) d := by
  pointwise [k0_pay4, k0_pay3, stream, gated]
  simp only [blk_a, blk_b, blk_c, blk_g0, blk_g1, blk_g2, blk_x, blk_wb, blk_wo]

/-- The normed tokens of a tile. -/
theorem pay1_at (t : Fin cfg0.N) (x : FVec Ideal S512x1024 .f32) (r : Fin 512) (d : Fin 1024) :
    k0_pay1 x (iblk m c 9 t) (ix2 r d) = normed (argN m c) (fun k => x (ix2 r k)) d := by
  pointwise [k0_pay1, normed]
  simp only [blk_n]

/-- The logits of a tile. -/
theorem pay2_at (t : Fin cfg0.N) (x : FVec Ideal S512x1024 .f32) (r : Fin 512) (l : Fin 128) :
    k0_pay2 x (iblk m c 9 t) (iblk m c 10 t) (iblk m c 11 t) (ix2 r l)
      = logit (argWg m c) (argBg m c) (argWr m c) (argBr m c) (normed (argN m c) (fun k => x (ix2 r k))) l := by
  pointwise [k0_pay2, logit]
  simp only [pay1_at, blk_wr, blk_br]
  by_cases h0 : l.val < 32
  · simp only [dif_pos h0]
  · by_cases h1 : l.val - 32 < 4
    · simp only [dif_neg h0, dif_pos h1]
    · simp only [dif_neg h0, dif_neg h1, mul_zero, Finset.sum_const_zero, add_zero]

/-- The stream that the kernel leaves. -/
def outX : FVec Ideal S32768x1024 .f32 := fun i => stream (argA m c) (argB m c) (argC m c) (argP m c) (argX m c) (argWb m c) (argWo m c) (i 0) (i 1)
/-- The normed tokens that it leaves. -/
def outH : FVec Ideal S32768x1024 .bf16 := fun i => normed (argN m c) (fun k => stream (argA m c) (argB m c) (argC m c) (argP m c) (argX m c) (argWb m c) (argWo m c) (i 0) k) (i 1)
/-- The logits that it leaves. -/
def outL : FVec Ideal S32768x128 .f32 := fun i =>
  logit (argWg m c) (argBg m c) (argWr m c) (argBr m c) (normed (argN m c) (fun k => stream (argA m c) (argB m c) (argC m c) (argP m c) (argX m c) (argWb m c) (argWo m c) (i 0) k)) (i 1)

theorem final12 : (dats m 0 c).arrAt 12 cfg0.N = outX m c := by
  refine (dats m 0 c).arrAt_eq_of_covers 12 _ (by decide +kernel) fun t hf y => ?_
  blk_simp
  rw [after0_12]
  frame_out
  obtain ⟨r, d, rfl⟩ : ∃ (r : Fin 512) (d : Fin 1024), y = ix2 r d := ⟨y 0, y 1, by
    funext a
    match a with
    | ⟨0, _⟩ => rfl
    | ⟨1, _⟩ => rfl⟩
  have e0 : (((View.whole main_v9_0).slice (win0_12.rect t)).emb (ix2 r d) 0) = tok t r := Fin.ext (by
    show win0_12.index t (0 : Fin 2) * 512 + 1 * r.val = 512 * t.val + r.val
    rw [index_12]
    show t.val * 512 + 1 * r.val = 512 * t.val + r.val
    omega)
  have e1 : (((View.whole main_v9_0).slice (win0_12.rect t)).emb (ix2 r d) 1) = d := Fin.ext (by
    show win0_12.index t (1 : Fin 2) * 1024 + 1 * d.val = d.val
    rw [index_12]
    show 0 * 1024 + 1 * d.val = d.val
    omega)
  refine (pay4_at m c t r d).trans ?_
  unfold outX
  rw [e0, e1]

theorem final13 : (dats m 0 c).arrAt 13 cfg0.N = outH m c := by
  refine (dats m 0 c).arrAt_eq_of_covers 13 _ (by decide +kernel) fun t hf y => ?_
  blk_simp
  rw [after0_13]
  frame_out
  obtain ⟨r, d, rfl⟩ : ∃ (r : Fin 512) (d : Fin 1024), y = ix2 r d := ⟨y 0, y 1, by
    funext a
    match a with
    | ⟨0, _⟩ => rfl
    | ⟨1, _⟩ => rfl⟩
  have e0 : (((View.whole main_v9_1).slice (win0_13.rect t)).emb (ix2 r d) 0) = tok t r := Fin.ext (by
    show win0_13.index t (0 : Fin 2) * 512 + 1 * r.val = 512 * t.val + r.val
    rw [index_13]
    show t.val * 512 + 1 * r.val = 512 * t.val + r.val
    omega)
  have e1 : (((View.whole main_v9_1).slice (win0_13.rect t)).emb (ix2 r d) 1) = d := Fin.ext (by
    show win0_13.index t (1 : Fin 2) * 1024 + 1 * d.val = d.val
    rw [index_13]
    show 0 * 1024 + 1 * d.val = d.val
    omega)
  refine (pay1_at m c t _ r d).trans ?_
  unfold outH
  rw [e0, e1]
  simp only [pay4_at]

theorem final14 : (dats m 0 c).arrAt 14 cfg0.N = outL m c := by
  refine (dats m 0 c).arrAt_eq_of_covers 14 _ (by decide +kernel) fun t hf y => ?_
  blk_simp
  rw [after0_14]
  frame_out
  obtain ⟨r, d, rfl⟩ : ∃ (r : Fin 512) (d : Fin 128), y = ix2 r d := ⟨y 0, y 1, by
    funext a
    match a with
    | ⟨0, _⟩ => rfl
    | ⟨1, _⟩ => rfl⟩
  have e0 : (((View.whole main_v9_2).slice (win0_14.rect t)).emb (ix2 r d) 0) = tok t r := Fin.ext (by
    show win0_14.index t (0 : Fin 2) * 512 + 1 * r.val = 512 * t.val + r.val
    rw [index_14]
    show t.val * 512 + 1 * r.val = 512 * t.val + r.val
    omega)
  have e1 : (((View.whole main_v9_2).slice (win0_14.rect t)).emb (ix2 r d) 1) = d := Fin.ext (by
    show win0_14.index t (1 : Fin 2) * 128 + 1 * d.val = d.val
    rw [index_14]
    show 0 * 128 + 1 * d.val = d.val
    omega)
  refine (pay2_at m c t _ r d).trans ?_
  unfold outL
  rw [e0, e1]
  simp only [pay4_at]

end Cert.MergeIdeal.Mine

end
-- ==== Proof.Merge.Ref.lean ====
module

public import proofs.«01_k».proof.Proof.Gen.MergeRefIdeal.Run
public import proofs.«01_k».proof.Proof.Merge.Model
public import Idealize.ShloMosaic.Lib.Pointwise

/-! The reference of the merge in stages, each read at an index. -/

@[expose] public section

set_option maxRecDepth 16384

noncomputable section

namespace Cert.MergeRefIdeal.Mine

open Cert.MergeRefIdeal Cert.MergeRefIdeal.Gen Cert.MergeRefIdeal.Value Cert.MergeModel Idealize.ShloMosaic Idealize.ShloMosaic.TcCoe Idealize.SL.Sem

variable (ha hb hc : FVec Ideal S32768x512 .bf16) (p : FVec Ideal S32768x8192 .bf16) (x2 : FVec Ideal S32768x1024 .f32)
  (wb : FVec Ideal S3x512x1024 .f32) (wo : FVec Ideal S1024x1024 .f32) (ng : FVec Ideal S1024 .f32)
  (wg : FVec Ideal S1024x4 .f32) (bg : FVec Ideal S4 .f32) (wr : FVec Ideal S1024x32 .f32) (br : FVec Ideal S32 .f32)

/-- The gates. -/
def gates : FVec Ideal S32768x3x1024 .f32 :=
  shapeCast _ (extf .f32 (extractStridedSlice S32768x3072 ![0, 5120] p slices_S32768x8192_S32768x3072_0_5120) bitsLt_bf16_f32) shapeCasts_S32768x3072_S32768x3x1024

/-- The first branch under its gate. -/
def branch0 : FVec Ideal S32768x1024 .f32 :=
  mulf (shapeCast _ (extractStridedSlice S32768x1x1024 ![0, 0, 0] (gates p) slices_S32768x3x1024_S32768x1x1024_0_0_0) shapeCasts_S32768x1x1024_S32768x1024)
    (Host.dotGeneral (F := Ideal) dot_S32768x512_S512x1024_S32768x1024_1_0_0_1_n_n none (extf (F := Ideal) .f32 ha bitsLt_bf16_f32)
      (shapeCast _ (extractStridedSlice S1x512x1024 ![0, 0, 0] wb slices_S3x512x1024_S1x512x1024_0_0_0) shapeCasts_S1x512x1024_S512x1024))

/-- The second branch under its gate. -/
def branch1 : FVec Ideal S32768x1024 .f32 :=
  mulf (shapeCast _ (extractStridedSlice S32768x1x1024 ![0, 1, 0] (gates p) slices_S32768x3x1024_S32768x1x1024_0_1_0) shapeCasts_S32768x1x1024_S32768x1024)
    (Host.dotGeneral (F := Ideal) dot_S32768x512_S512x1024_S32768x1024_1_0_0_1_n_n none (extf (F := Ideal) .f32 hb bitsLt_bf16_f32)
      (shapeCast _ (extractStridedSlice S1x512x1024 ![1, 0, 0] wb slices_S3x512x1024_S1x512x1024_1_0_0) shapeCasts_S1x512x1024_S512x1024))

/-- The third branch under its gate. -/
def branch2 : FVec Ideal S32768x1024 .f32 :=
  mulf (shapeCast _ (extractStridedSlice S32768x1x1024 ![0, 2, 0] (gates p) slices_S32768x3x1024_S32768x1x1024_0_2_0) shapeCasts_S32768x1x1024_S32768x1024)
    (Host.dotGeneral (F := Ideal) dot_S32768x512_S512x1024_S32768x1024_1_0_0_1_n_n none (extf (F := Ideal) .f32 hc bitsLt_bf16_f32)
      (shapeCast _ (extractStridedSlice S1x512x1024 ![2, 0, 0] wb slices_S3x512x1024_S1x512x1024_2_0_0) shapeCasts_S1x512x1024_S512x1024))

/-- The residual stream after the merge. -/
def stream1 : FVec Ideal S32768x1024 .f32 :=
  addf x2 (Host.dotGeneral (F := Ideal) dot_S32768x1024_S1024x1024_S32768x1024_1_0_0_1_n_n none
    (addf (addf (branch0 ha p wb) (branch1 hb p wb)) (branch2 hc p wb)) wo)

/-- The norm of a stream. -/
def norm2 (x : FVec Ideal S32768x1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 ng))

/-- The logits of normed tokens. -/
def logits (h : FVec Ideal S32768x1024 .f32) : FVec Ideal S32768x128 .f32 :=
  concatenate S32768x128 1
    [⟨S32768x32, addf (Host.dotGeneral (F := Ideal) dot_S32768x1024_S1024x32_S32768x32_1_0_0_1_n_n none h wr)
      (broadcastInDim S32768x32 ![0, 1] bcast_S1x32_S32768x32_0_1 (broadcastInDim S1x32 ![1] bcast_S32_S1x32_1 br))⟩,
     ⟨S32768x4, addf (Host.dotGeneral (F := Ideal) dot_S32768x1024_S1024x4_S32768x4_1_0_0_1_n_n none h wg)
      (broadcastInDim S32768x4 ![0, 1] bcast_S1x4_S32768x4_0_1 (broadcastInDim S1x4 ![1] bcast_S4_S1x4_1 bg))⟩,
     ⟨S32768x92, broadcastInDim S32768x92 ![] bcast_S_S32768x92 (constant S_ .f32 0x00000000#32)⟩]
    concatenates_S32768x32_S32768x4_S32768x92_S32768x128_d1

variable (n : Fin 32768)

theorem gates_at (b : Fin 3) (e : Fin 1024) : gates p (ix3 n b e) = p (ix2 n ⟨5120 + 1024 * b.val + e.val, by omega⟩) := by
  pointwise [gates]
  refine congrArg p (congrArg (ix2 n) (Fin.ext ?_))
  show 5120 + (b.val * 1024 + e.val) = 5120 + 1024 * b.val + e.val
  omega

theorem stream_at (d : Fin 1024) : stream1 ha hb hc p x2 wb wo (ix2 n d) = stream ha hb hc p x2 wb wo n d := by
  pointwise [stream1, branch0, branch1, branch2, gates_at, stream, gated]

theorem normed_at (x : FVec Ideal S32768x1024 .f32) (d : Fin 1024) : norm2 ng x (ix2 n d) = normed ng (fun k => x (ix2 n k)) d := by
  pointwise [norm2, normed]

theorem logit_at (h : FVec Ideal S32768x1024 .f32) (l : Fin 128) :
    logits wg bg wr br h (ix2 n l) = logit wg bg wr br (fun k => h (ix2 n k)) l := by
  pointwise [logits, logit]

variable (m : (ℓ : Loc nD τ sig) → Buf (Elt Ideal) ℓ) (c : Dev nD)

/-- The stream of a run's arguments. -/
def streamOf : FVec Ideal S32768x1024 .f32 :=
  stream1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem res_normed : res_out1 m c = norm2 (m ((c.tc : Thread nD τ).loc main_arg7)) (streamOf m c) := rfl

theorem res_logits : res_out2 m c = logits (m ((c.tc : Thread nD τ).loc main_arg8)) (m ((c.tc : Thread nD τ).loc main_arg9))
    (m ((c.tc : Thread nD τ).loc main_arg10)) (m ((c.tc : Thread nD τ).loc main_arg11))
    (norm2 (m ((c.tc : Thread nD τ).loc main_arg7)) (streamOf m c)) := rfl

end Cert.MergeRefIdeal.Mine

end
-- ==== Proof.Merge.Tie.lean ====
module

public import proofs.«01_k».proof.Proof.Merge.Kernel
public import proofs.«01_k».proof.Proof.Merge.Ref

/-! The merge's three results are the reference's. -/

@[expose] public section

set_option maxRecDepth 16384

noncomputable section

namespace Cert.MergeTie

open Idealize.ShloMosaic Idealize.ShloMosaic.TcCoe Idealize.SL.Sem Cert.MergeModel
open Cert.MergeIdeal.Mine

variable (m : (ℓ : Loc Cert.MergeIdeal.nD Cert.MergeIdeal.τ Cert.MergeIdeal.sig) → Buf (Elt Ideal) ℓ) (c : Dev Cert.MergeIdeal.nD)

theorem idx_eq {R C : ℕ} (i : (⟨2, ![R, C]⟩ : Shape).Idx) : i = ix2 (i 0) (i 1) := by
  funext a
  match a with
  | ⟨0, _⟩ => rfl
  | ⟨1, _⟩ => rfl

/-- The reference's stream of the kernel's arguments. -/
abbrev refX : FVec Ideal Cert.MergeRefIdeal.S32768x1024 .f32 :=
  Cert.MergeRefIdeal.Mine.stream1 (argA m c) (argB m c) (argC m c) (argP m c) (argX m c) (argWb m c) (argWo m c)

theorem stream_eq : refX m c = outX m c := by
  funext i
  rw [idx_eq i]
  exact Cert.MergeRefIdeal.Mine.stream_at _ _ _ _ _ _ _ _ _

theorem normed_eq : Cert.MergeRefIdeal.Mine.norm2 (argN m c) (refX m c) = outH m c := by
  funext i
  rw [idx_eq i]
  refine (Cert.MergeRefIdeal.Mine.normed_at _ _ _ _).trans ?_
  rw [stream_eq]
  rfl

theorem logits_eq : Cert.MergeRefIdeal.Mine.logits (argWg m c) (argBg m c) (argWr m c) (argBr m c)
    (Cert.MergeRefIdeal.Mine.norm2 (argN m c) (refX m c)) = outL m c := by
  funext i
  rw [idx_eq i]
  refine (Cert.MergeRefIdeal.Mine.logit_at _ _ _ _ _ _ _).trans ?_
  rw [normed_eq]
  rfl

end Cert.MergeTie

end
-- ==== Proof.Inproj.Whole.lean ====
/- A store of a whole buffer, read back. -/
module

public import Idealize.ShloMosaic.Lib.Pipeline.ValueKit.Acc

@[expose] public section

namespace Cert.Whole

open Idealize.ShloMosaic

/-- After one store through the whole rectangle the buffer reads as what was stored. -/
theorem read_store {Val : EltTy → Type} [∀ e, Nonempty (Val e)] {S : Shape} {e : EltTy} {sig : RefSig} {κ : Kind} {sp : Space}
    (v : View sig κ sp S e) (f : v.ty.Contents Val) {off : Fin S.rank → Nat} (inb : ∀ a, off a + S.size a ≤ S.size a)
    (w : S.Idx → Val e) (h : ∀ a, off a = 0) : v.read Val (v.writes Val f [⟨Rect.unit off S.size inb, w⟩]) = w := by
  obtain rfl : off = 0 := funext h
  exact View.read_writes_whole v f w

end Cert.Whole
-- ==== Proof.Inproj.Body.lean ====
/- The input projection's body at one point: what it leaves in the buffers, in each of its four cases. -/
module

public import proofs.«01_k».proof.Proof.Gen.InprojIdeal.Frame
public import proofs.«01_k».proof.Proof.Gen.InprojIdeal.Skeleton
public import Idealize.ShloMosaic.Lib.Pipeline.ValueKit.Acc
public import proofs.«01_k».proof.Proof.Inproj.Whole

@[expose] public section

set_option maxRecDepth 16384

noncomputable section

namespace Cert.InprojIdeal.Hand

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x512 .bf16) (harg4 : arg4.IsWhole) (arg5 : Memref sig .tc .vmem S1024x128 .bf16) (harg5 : arg5.IsWhole)
  (arg6 : Memref sig .tc .vmem S1x1x512 .f32) (harg6 : arg6.IsWhole) (arg7 : Memref sig .tc .vmem S512x512 .bf16) (harg7 : arg7.IsWhole)
  (arg8 : Memref sig .tc .vmem S1024x512 .bf16) (harg8 : arg8.IsWhole) (arg9 : Memref sig .tc .vmem S1024x128 .f32) (harg9 : arg9.IsWhole)
  (arg10 : Memref sig .tc .vmem S1024x1024 .bf16) (harg10 : arg10.IsWhole)
  (x0 : Vec F S1024x1024 .f32) (x1 : Vec F S1x1024 .f32) (x2 : Vec F S1024x512 .bf16) (x3 : Vec F S1024x128 .bf16)
  (x4 : Vec F S1x1x512 .f32) (x5 : Vec F S512x512 .bf16)

/-- The six inputs' buffers, at their contents. -/
def inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 2000000 in
/-- At the first point of a tile of tokens: the normed tokens, their gates before the sigmoid, and the first 512 columns as they are. -/
theorem run_first (hc0 : k0_cond1 i = 1#1) (hc1 : ¬k0_cond2 i = 1#1) (hc2 : ¬k0_cond3 i = 1#1) (hc3 : k0_cond4 i = 1#1)
    (E : Set ℕ) (K : PUnit → sProp 𝕄) :
    iprop(inputs c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d)
        ∗ (iprop(inputs c arg2 arg3 arg4 arg5 arg6 arg7 x0 x1 x2 x3 x4 x5 ∗ owns (c : Thread nD τ) arg8 fullShare (k0_pay6 (k0_pay1 x0 x1) x2) ∗ owns (c : Thread nD τ) arg9 fullShare (k0_pay2 (k0_pay1 x0 x1) x3) ∗ owns (c : Thread nD τ) arg10 fullShare (k0_pay1 x0 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f6, -, H6⟩, ⟨%d9, %f7, -, H7⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1 | sl_exact hc2 | sl_exact hc3)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro; frame_open; refine (Cert.Whole.read_store _ _ _ _ (by decide)).trans ?_; simp (disch := decide) only [View.ld_unit_lit', View.readCov_unit_lit', View.readAt_eq_ld, Memref.IsWhole.read_unread]
  isplitl [H7]
  · iexists _; isplitr
    swap; · iexact H7
    ipureintro; frame_open; refine (Cert.Whole.read_store _ _ _ _ (by decide)).trans ?_; simp (disch := decide) only [View.ld_unit_lit', View.readCov_unit_lit', View.readAt_eq_ld, Memref.IsWhole.read_unread]
  iexists _; isplitr
  swap; · iexact HS
  ipureintro; frame_open; refine (Cert.Whole.read_store _ _ _ _ (by decide)).trans ?_; simp (disch := decide) only [View.ld_unit_lit', View.readCov_unit_lit', View.readAt_eq_ld, Memref.IsWhole.read_unread]

set_option maxHeartbeats 2000000 in
/-- At a point whose columns are queries or keys of an attention: they are normed by head. -/
theorem run_norm (hc0 : ¬k0_cond1 i = 1#1) (hc1 : k0_cond2 i = 1#1) (hc2 : ¬k0_cond3 i = 1#1) (hc3 : ¬k0_cond4 i = 1#1) (x7 : Vec F S1024x128 .f32) (xs : Vec F S1024x1024 .bf16)
    (E : Set ℕ) (K : PUnit → sProp 𝕄) :
    iprop(inputs c arg2 arg3 arg4 arg5 arg6 arg7 x0 x1 x2 x3 x4 x5 ∗ (∃ d, owns (c : Thread nD τ) arg8 fullShare d) ∗ owns (c : Thread nD τ) arg9 fullShare x7 ∗ owns (c : Thread nD τ) arg10 fullShare xs
        ∗ (iprop(inputs c arg2 arg3 arg4 arg5 arg6 arg7 x0 x1 x2 x3 x4 x5 ∗ owns (c : Thread nD τ) arg8 fullShare (k0_pay4 xs x2 x5 x4) ∗ owns (c : Thread nD τ) arg9 fullShare x7 ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f6, -, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hfs
  sl_exec (disch := first | sl_exact hc0 | sl_exact hc1 | sl_exact hc2 | sl_exact hc3)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro; frame_open; refine (Cert.Whole.read_store _ _ _ _ (by decide)).trans ?_; simp (disch := decide) only [View.ld_unit_lit', View.readCov_unit_lit', View.readAt_eq_ld, Memref.IsWhole.read_unread]
  isplitl [H7]
  · iexists _; isplitr; · ipureintro; exact harg9.read_unread _
    iexact H7
  iexists _; isplitr; · ipureintro; exact harg10.read_unread _
  iexact HS

set_option maxHeartbeats 2000000 in
/-- At a point whose columns are gates: their sigmoids. -/
theorem run_sigmoid (hc0 : ¬k0_cond1 i = 1#1) (hc1 : ¬k0_cond2 i = 1#1) (hc2 : k0_cond3 i = 1#1) (hc3 : ¬k0_cond4 i = 1#1) (x7 : Vec F S1024x128 .f32) (xs : Vec F S1024x1024 .bf16)
    (E : Set ℕ) (K : PUnit → sProp 𝕄) :
    iprop(inputs c arg2 arg3 arg4 arg5 arg6 arg7 x0 x1 x2 x3 x4 x5 ∗ (∃ d, owns (c : Thread nD τ) arg8 fullShare d) ∗ owns (c : Thread nD τ) arg9 fullShare x7 ∗ owns (c : Thread nD τ) arg10 fullShare xs
        ∗ (iprop(inputs c arg2 arg3 arg4 arg5 arg6 arg7 x0 x1 x2 x3 x4 x5 ∗ owns (c : Thread nD τ) arg8 fullShare (k0_pay5 xs x2) ∗ owns (c : Thread nD τ) arg9 fullShare x7 ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f6, -, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hfs
  sl_exec (disch := first | sl_exact hc0 | sl_exact hc1 | sl_exact hc2 | sl_exact hc3)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro; frame_open; refine (Cert.Whole.read_store _ _ _ _ (by decide)).trans ?_; simp (disch := decide) only [View.ld_unit_lit', View.readCov_unit_lit', View.readAt_eq_ld, Memref.IsWhole.read_unread]
  isplitl [H7]
  · iexists _; isplitr; · ipureintro; exact harg9.read_unread _
    iexact H7
  iexists _; isplitr; · ipureintro; exact harg10.read_unread _
  iexact HS

set_option maxHeartbeats 2000000 in
/-- At any other point: the columns as they are. -/
theorem run_plain (hc0 : ¬k0_cond1 i = 1#1) (hc1 : ¬k0_cond2 i = 1#1) (hc2 : ¬k0_cond3 i = 1#1) (hc3 : k0_cond4 i = 1#1) (x7 : Vec F S1024x128 .f32) (xs : Vec F S1024x1024 .bf16)
    (E : Set ℕ) (K : PUnit → sProp 𝕄) :
    iprop(inputs c arg2 arg3 arg4 arg5 arg6 arg7 x0 x1 x2 x3 x4 x5 ∗ (∃ d, owns (c : Thread nD τ) arg8 fullShare d) ∗ owns (c : Thread nD τ) arg9 fullShare x7 ∗ owns (c : Thread nD τ) arg10 fullShare xs
        ∗ (iprop(inputs c arg2 arg3 arg4 arg5 arg6 arg7 x0 x1 x2 x3 x4 x5 ∗ owns (c : Thread nD τ) arg8 fullShare (k0_pay6 xs x2) ∗ owns (c : Thread nD τ) arg9 fullShare x7 ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f6, -, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hfs
  sl_exec (disch := first | sl_exact hc0 | sl_exact hc1 | sl_exact hc2 | sl_exact hc3)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  isplitl [H6]
  · iexists _; isplitr
    swap; · iexact H6
    ipureintro; frame_open; refine (Cert.Whole.read_store _ _ _ _ (by decide)).trans ?_; simp (disch := decide) only [View.ld_unit_lit', View.readCov_unit_lit', View.readAt_eq_ld, Memref.IsWhole.read_unread]
  isplitl [H7]
  · iexists _; isplitr; · ipureintro; exact harg9.read_unread _
    iexact H7
  iexists _; isplitr; · ipureintro; exact harg10.read_unread _
  iexact HS

end Cert.InprojIdeal.Hand

end
-- ==== Proof.Inproj.Run.lean ====
/- The input projection's run: what the buffers hold after every point of the grid, and the frame. The gates' buffer is written at a
   tile's first point and written back after its last, so it is carried between them. -/
module

public import proofs.«01_k».proof.Proof.Inproj.Body
public import Idealize.ShloMosaic.Lib.Claim
public import Idealize.ShloMosaic.Lib.Pipeline.TableIdle
public import Idealize.ShloMosaic.Lib.Pipeline.Value

@[expose] public section

set_option maxRecDepth 16384

noncomputable section

namespace Cert.InprojIdeal.Hand

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- At a tile's first point only the first and the last branch run. -/
theorem conds_first : ∀ t : Fin cfg0.N, t.val % 16 = 0 → k0_cond1 (grid0.coords t) = 1#1 ∧ ¬k0_cond2 (grid0.coords t) = 1#1
    ∧ ¬k0_cond3 (grid0.coords t) = 1#1 ∧ k0_cond4 (grid0.coords t) = 1#1 :=
  (by decide +kernel : ∀ t : Fin grid0.N, t.val % 16 = 0 → k0_cond1 (grid0.coords t) = 1#1 ∧ ¬k0_cond2 (grid0.coords t) = 1#1
    ∧ ¬k0_cond3 (grid0.coords t) = 1#1 ∧ k0_cond4 (grid0.coords t) = 1#1)

/-- At the others exactly one of the last three. -/
theorem conds_rest : ∀ t : Fin cfg0.N, t.val % 16 ≠ 0 → ¬k0_cond1 (grid0.coords t) = 1#1 ∧
    ((k0_cond2 (grid0.coords t) = 1#1 ∧ ¬k0_cond3 (grid0.coords t) = 1#1 ∧ ¬k0_cond4 (grid0.coords t) = 1#1)
    ∨ (¬k0_cond2 (grid0.coords t) = 1#1 ∧ k0_cond3 (grid0.coords t) = 1#1 ∧ ¬k0_cond4 (grid0.coords t) = 1#1)
    ∨ (¬k0_cond2 (grid0.coords t) = 1#1 ∧ ¬k0_cond3 (grid0.coords t) = 1#1 ∧ k0_cond4 (grid0.coords t) = 1#1)) :=
  (by decide +kernel : ∀ t : Fin grid0.N, t.val % 16 ≠ 0 → ¬k0_cond1 (grid0.coords t) = 1#1 ∧
    ((k0_cond2 (grid0.coords t) = 1#1 ∧ ¬k0_cond3 (grid0.coords t) = 1#1 ∧ ¬k0_cond4 (grid0.coords t) = 1#1)
    ∨ (¬k0_cond2 (grid0.coords t) = 1#1 ∧ k0_cond3 (grid0.coords t) = 1#1 ∧ ¬k0_cond4 (grid0.coords t) = 1#1)
    ∨ (¬k0_cond2 (grid0.coords t) = 1#1 ∧ ¬k0_cond3 (grid0.coords t) = 1#1 ∧ k0_cond4 (grid0.coords t) = 1#1)))

theorem live6 : ∀ t : Fin cfg0.N, cfg0.idle 6 (grid0.coords t) = false :=
  (by decide +kernel : ∀ t : Fin grid0.N, cfg0.idle 6 (grid0.coords t) = false)

theorem live7 : ∀ t : Fin cfg0.N, t.val % 16 = 0 → cfg0.idle 7 (grid0.coords t) = false :=
  (by decide +kernel : ∀ t : Fin grid0.N, t.val % 16 = 0 → cfg0.idle 7 (grid0.coords t) = false)

theorem idle7 : ∀ t : Fin cfg0.N, t.val % 16 ≠ 0 → cfg0.idle 7 (grid0.coords t) = true :=
  (by decide +kernel : ∀ t : Fin grid0.N, t.val % 16 ≠ 0 → cfg0.idle 7 (grid0.coords t) = true)

/-- The gates' buffer holds nothing stored yet just at the start of a tile. -/
def tab7 (n : ℕ) : Bool := n % 16 == 0

theorem tab7_step : ∀ t : Fin cfg0.N,
    tab7 (t.val + 1) = ((cfg0.win 7).flush t || (cfg0.idle 7 (cfg0.grid.coords t) && tab7 t.val)) := by
  intro t
  have hfl := flush0_7 t
  by_cases h0 : t.val % 16 = 0
  · have e1 : (cfg0.win 7).flush t = false := by
      rw [Bool.eq_false_iff]; intro h; have := hfl.mp h; omega
    rw [e1, show cfg0.idle 7 (cfg0.grid.coords t) = false from live7 t h0]
    simp only [tab7, Bool.false_and, Bool.or_false, beq_eq_false_iff_ne, ne_eq]
    omega
  · have e2 : tab7 t.val = false := by simp only [tab7, beq_eq_false_iff_ne, ne_eq]; exact h0
    rw [e2, Bool.and_false, Bool.or_false]
    by_cases h15 : t.val % 16 = 15
    · rw [hfl.mpr h15]; simp only [tab7, beq_iff_eq]; omega
    · have e1 : (cfg0.win 7).flush t = false := by
        rw [Bool.eq_false_iff]; intro h; exact h15 (hfl.mp h)
      rw [e1]; simp only [tab7, beq_eq_false_iff_ne, ne_eq]; omega

theorem fresh7 (t : Fin cfg0.N) : cfg0.fresh 7 t.val = tab7 t.val :=
  Pipeline.Cfg.fresh_tab cfg0 7 tab7 rfl tab7_step t.val (Nat.le_of_lt t.isLt)

/-- The first point of a point's tile. -/
def head (t : Fin cfg0.N) : Fin cfg0.N := ⟨t.val - t.val % 16, Nat.lt_of_le_of_lt (Nat.sub_le _ _) t.isLt⟩

theorem head_self (t : Fin cfg0.N) (h : t.val % 16 = 0) : head t = t := Fin.ext (by unfold head; dsimp only; omega)

theorem head_pred (t : Fin cfg0.N) (h : t.val % 16 ≠ 0) (hlt : t.val - 1 < cfg0.N) : head ⟨t.val - 1, hlt⟩ = head t :=
  Fin.ext (by unfold head; dsimp only; omega)

/-! ## What the buffers hold -/

/-- The normed tokens of a point's tile. -/
def tokens (c : Dev nD) (t : Fin cfg0.N) : Vec F S1024x1024 .bf16 := k0_pay1 (iblk m c 0 (head t)) (iblk m c 1 (head t))

/-- The gates of a point's tile. -/
def gates (c : Dev nD) (t : Fin cfg0.N) : Vec F S1024x128 .f32 := k0_pay2 (tokens m c t) (iblk m c 3 (head t))

/-- A point's 512 columns. -/
def cols (c : Dev nD) (t : Fin cfg0.N) : Vec F S1024x512 .bf16 :=
  if k0_cond2 (grid0.coords t) = 1#1 then k0_pay4 (tokens m c t) (iblk m c 2 t) (iblk m c 5 t) (iblk m c 4 t)
  else if k0_cond3 (grid0.coords t) = 1#1 then k0_pay5 (tokens m c t) (iblk m c 2 t)
  else k0_pay6 (tokens m c t) (iblk m c 2 t)

/-- The tokens' buffer between points. -/
def PhiS (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S1024x1024 .bf16) fullShare (tokens m c ⟨n, hn⟩)) ∗ (∃ r, prngReg c r))

theorem PhiA_eq (c : Dev nD) :
    (Pipeline.ΦA spec0 c : sProp 𝕄)
      = iprop(iprop((∃ d, owns (c : Thread nD τ) (Memref.whole cc0_scratch0 : Memref sig .tc .vmem S1024x1024 .bf16) fullShare d)) ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(iprop(owns (c : Thread nD τ) (Memref.whole cc0_scratch0 : Memref sig .tc .vmem S1024x1024 .bf16) fullShare (tokens m c ⟨n - 1, by omega⟩)) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS0, Hg⟩
    isplitl [HS0]
    · iexists _; iexact HS0
    iexact Hg

theorem PhiS_some (c : Dev nD) (n : ℕ) (h : n ≤ cfg0.N) : PhiS m c n h
    ⊢ iprop(iprop((∃ d, owns (c : Thread nD τ) (Memref.whole cc0_scratch0 : Memref sig .tc .vmem S1024x1024 .bf16) fullShare d)) ∗ (∃ r, prngReg c r)) := by
  rw [← PhiA_eq]; exact PhiS_any m c n h

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cols m c t
    | ⟨7, _⟩ => gates m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = cols m c t := by dsimp only [dats]
theorem after7 (c : Dev nD) (t : Fin cfg0.N) : (dats m 0 c).after 7 t = gates m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

theorem tokens_pred (c : Dev nD) (t : Fin cfg0.N) (h : t.val % 16 ≠ 0) (hlt : t.val - 1 < cfg0.N) :
    tokens m c ⟨t.val - 1, hlt⟩ = tokens m c t := by unfold tokens; rw [head_pred t h hlt]

theorem gates_pred (c : Dev nD) (t : Fin cfg0.N) (h : t.val % 16 ≠ 0) (hlt : t.val - 1 < cfg0.N) :
    gates m c ⟨t.val - 1, hlt⟩ = gates m c t := by unfold gates; rw [tokens_pred m c t h hlt, head_pred t h hlt]

/-- Inside a tile the gates' buffer holds the tile's gates. -/
theorem before7 (c : Dev nD) (t : Fin cfg0.N) (h : t.val % 16 ≠ 0) (d) : (dats m 0 c).before 7 t d = gates m c t := by
  rw [Dat.before_out_traj _ 7 rfl (fun _ _ => rfl) (fun s hs hi hf => by
      rw [after7, after7]
      have hs16 : s.val % 16 ≠ 0 := by
        intro h0; rw [live7 s h0] at hi; exact Bool.false_ne_true hi
      exact (gates_pred m c s hs16 _).symm) t.val t rfl d,
    if_neg (by rw [fresh7, tab7, beq_iff_eq]; exact h), after7]
  exact gates_pred m c t h _

/-- So there it may be handed back as it is. -/
theorem keep7 (c : Dev nD) (t : Fin cfg0.N) (h : t.val % 16 ≠ 0) :
    owns (c : Thread nD τ) (win0_7.stage (cfg0.slots t 7)) fullShare (gates m c t) ⊢ ((dats m 0 c).leavesExact 7 t : sProp 𝕄) := by
  unfold Dat.leavesExact
  rw [idle7 t h, after7]
  cases hf : (cfg0.win 7).flush t
  · dsimp only
    iintro H
    iexists (gates m c t)
    rw [before7 m c t h]
    iexact H
  · exact Idealize.SL.BI.Entails.refl _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The seven buffers that are stored into, or only read, at every point. -/
theorem leaves_rest (c : Dev nD) (t : Fin cfg0.N) :
    (bodyPost m c t : sProp 𝕄) = iprop(PhiS m c (t.val + 1) t.isLt ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (cols m c t)
    ∗ (dats m 0 c).leavesExact 7 t) := by
  unfold bodyPost
  rw [show (dats m 0 c).owesAt () t.succ = (dats m 0 c).owesAt () t.castSucc from rfl,
    show (dats m 0 c).Φ t.succ = PhiS m c (t.val + 1) t.isLt from rfl]
  rw [show (dats m 0 c).leavesExact 0 t = owns (c : Thread nD τ) (win0_0.stage (cfg0.slots t 0)) fullShare ((dats m 0 c).after 0 t) from rfl, after0]
  rw [show (dats m 0 c).leavesExact 1 t = owns (c : Thread nD τ) (win0_1.stage (cfg0.slots t 1)) fullShare ((dats m 0 c).after 1 t) from rfl, after1]
  rw [show (dats m 0 c).leavesExact 2 t = owns (c : Thread nD τ) (win0_2.stage (cfg0.slots t 2)) fullShare ((dats m 0 c).after 2 t) from rfl, after2]
  rw [show (dats m 0 c).leavesExact 3 t = owns (c : Thread nD τ) (win0_3.stage (cfg0.slots t 3)) fullShare ((dats m 0 c).after 3 t) from rfl, after3]
  rw [show (dats m 0 c).leavesExact 4 t = owns (c : Thread nD τ) (win0_4.stage (cfg0.slots t 4)) fullShare ((dats m 0 c).after 4 t) from rfl, after4]
  rw [show (dats m 0 c).leavesExact 5 t = owns (c : Thread nD τ) (win0_5.stage (cfg0.slots t 5)) fullShare ((dats m 0 c).after 5 t) from rfl, after5]
  rw [show (dats m 0 c).leavesExact 6 t = owns (c : Thread nD τ) (win0_6.stage (cfg0.slots t 6)) fullShare ((dats m 0 c).after 6 t) from by
    unfold Dat.leavesExact; rw [live6 t], after6]

set_option maxHeartbeats 4000000 in
/-- At a tile's first point. -/
theorem body_first (c : Dev nD) (t : Fin cfg0.N) (h : t.val % 16 = 0) :
    bodyPre m c t ⊢ wp frame (wpE (defs₀ (F := F)) Variants.none c none) Set.univ (bodyAt0 t) (fun _ => bodyPost m c t) := by
  obtain ⟨h1, h2, h3, h4⟩ := conds_first t h
  rw [leaves_rest]
  unfold bodyPre bodyAt0
  simp only [before0, before1, before2, before3, before4, before5]
  rw [show (dats m 0 c).leavesExact 7 t = owns (c : Thread nD τ) (win0_7.stage (cfg0.slots t 7)) fullShare ((dats m 0 c).after 7 t) from by
    unfold Dat.leavesExact; rw [live7 t h], after7]
  rw [PhiS_pos m c (t.val + 1) _ (Nat.succ_ne_zero _)]
  have ec : cols m c t = k0_pay6 (tokens m c t) (iblk m c 2 t) := by unfold cols; rw [if_neg h2, if_neg h3]
  have et : tokens m c t = k0_pay1 (iblk m c 0 t) (iblk m c 1 t) := by unfold tokens; rw [head_self t h]
  have eg : gates m c t = k0_pay2 (k0_pay1 (iblk m c 0 t) (iblk m c 1 t)) (iblk m c 3 t) := by unfold gates; rw [et, head_self t h]
  rw [show tokens m c ⟨t.val + 1 - 1, by omega⟩ = tokens m c t from rfl, ec, eg, et, PhiS_castSucc]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := (PhiS_some m c t.val (Nat.le_of_lt t.isLt)) $$ HP
  icases HP with ⟨HS, Hg⟩
  iapply (run_first c (grid0.coords t) _ _ _ _ _ _ _ _ _ _ _ _ _ _ _ _ _ _ (iblk m c 0 t) (iblk m c 1 t) (iblk m c 2 t) (iblk m c 3 t) (iblk m c 4 t) (iblk m c 5 t) h1 h2 h3 h4 Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [HS]; · iexact HS
  iintro ⟨⟨H0, H1, H2, H3, H4, H5⟩, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The three other cases of the body as one. -/
theorem run_rest (c : Dev nD) (t : Fin cfg0.N) (h : t.val % 16 ≠ 0) (x7 : Vec F S1024x128 .f32) (K : PUnit → sProp 𝕄) :
    iprop(inputs c (win0_0.stage (cfg0.slots t 0)) (win0_1.stage (cfg0.slots t 1)) (win0_2.stage (cfg0.slots t 2)) (win0_3.stage (cfg0.slots t 3))
          (win0_4.stage (cfg0.slots t 4)) (win0_5.stage (cfg0.slots t 5)) (iblk m c 0 t) (iblk m c 1 t) (iblk m c 2 t) (iblk m c 3 t) (iblk m c 4 t) (iblk m c 5 t)
        ∗ (∃ d, owns (c : Thread nD τ) (win0_6.stage (cfg0.slots t 6)) fullShare d)
        ∗ owns (c : Thread nD τ) (win0_7.stage (cfg0.slots t 7)) fullShare x7
        ∗ owns (c : Thread nD τ) (Memref.whole cc0_scratch0 : Memref sig .tc .vmem S1024x1024 .bf16) fullShare (tokens m c t)
        ∗ (iprop(inputs c (win0_0.stage (cfg0.slots t 0)) (win0_1.stage (cfg0.slots t 1)) (win0_2.stage (cfg0.slots t 2)) (win0_3.stage (cfg0.slots t 3))
          (win0_4.stage (cfg0.slots t 4)) (win0_5.stage (cfg0.slots t 5)) (iblk m c 0 t) (iblk m c 1 t) (iblk m c 2 t) (iblk m c 3 t) (iblk m c 4 t) (iblk m c 5 t)
          ∗ owns (c : Thread nD τ) (win0_6.stage (cfg0.slots t 6)) fullShare (cols m c t)
          ∗ owns (c : Thread nD τ) (win0_7.stage (cfg0.slots t 7)) fullShare x7
          ∗ owns (c : Thread nD τ) (Memref.whole cc0_scratch0 : Memref sig .tc .vmem S1024x1024 .bf16) fullShare (tokens m c t)) -∗ K ⟨⟩))
      ⊢ wp frame (wpE (defs₀ (F := F)) Variants.none c none) Set.univ (bodyAt0 t) K := by
  obtain ⟨h1, ⟨h2, h3, h4⟩ | ⟨h2, h3, h4⟩ | ⟨h2, h3, h4⟩⟩ := conds_rest t h
  · have ec : cols m c t = k0_pay4 (tokens m c t) (iblk m c 2 t) (iblk m c 5 t) (iblk m c 4 t) := by unfold cols; rw [if_pos h2]
    rw [ec]
    exact run_norm c (grid0.coords t) _ _ _ _ _ _ _ _ _ _ _ _ _ _ _ _ _ _ _ _ _ _ _ _ h1 h2 h3 h4 _ _ Set.univ K
  · have ec : cols m c t = k0_pay5 (tokens m c t) (iblk m c 2 t) := by unfold cols; rw [if_neg h2, if_pos h3]
    rw [ec]
    exact run_sigmoid c (grid0.coords t) _ _ _ _ _ _ _ _ _ _ _ _ _ _ _ _ _ _ _ _ _ _ _ _ h1 h2 h3 h4 _ _ Set.univ K
  · have ec : cols m c t = k0_pay6 (tokens m c t) (iblk m c 2 t) := by unfold cols; rw [if_neg h2, if_neg h3]
    rw [ec]
    exact run_plain c (grid0.coords t) _ _ _ _ _ _ _ _ _ _ _ _ _ _ _ _ _ _ _ _ _ _ _ _ h1 h2 h3 h4 _ _ Set.univ K

set_option maxHeartbeats 4000000 in
/-- At a tile's other points. -/
theorem body_rest (c : Dev nD) (t : Fin cfg0.N) (h : t.val % 16 ≠ 0) :
    bodyPre m c t ⊢ wp frame (wpE (defs₀ (F := F)) Variants.none c none) Set.univ (bodyAt0 t) (fun _ => bodyPost m c t) := by
  have hz : t.val ≠ 0 := fun hz => h (by rw [hz])
  rw [leaves_rest]
  unfold bodyPre
  simp only [before0, before1, before2, before3, before4, before5, before7 m c t h]
  rw [PhiS_castSucc, PhiS_pos m c t.val _ hz, PhiS_pos m c (t.val + 1) _ (Nat.succ_ne_zero _), tokens_pred m c t h,
    show tokens m c ⟨t.val + 1 - 1, by omega⟩ = tokens m c t from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_rest m c t h (gates m c t) _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [HS]; · iexact HS
  iintro ⟨⟨H0, H1, H2, H3, H4, H5⟩, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (keep7 m c t h)
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have hb : bodyPre m c t ⊢ wp frame (wpE (defs₀ (F := F)) Variants.none c none) Set.univ (bodyAt0 t) (fun _ => bodyPost m c t) := by
    by_cases h : t.val % 16 = 0
    · exact body_first m c t h
    · exact body_rest m c t h
  exact triple_restated hb rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InprojIdeal.Hand

end
-- ==== Proof.Inproj.Model.lean ====
module

public import proofs.«01_k».proof.Proof.Merge.Model
public import Idealize.ShloMosaic.PureOps.Ideal
public import Idealize.ShloMosaic.Lib.Pointwise
public import Idealize.ShloMosaic.Lib.IdealHost

/-! What the input projection makes of a token: its norm, the product with the columns, the queries and keys of two branches under a
norm of each head, and the logistic of the gates. -/

@[expose] public section

noncomputable section

namespace Cert.InprojModel

open Idealize.ShloMosaic

variable (x2 : FVec Ideal ⟨2, ![32768, 1024]⟩ .f32) (g : FVec Ideal ⟨1, ![1024]⟩ .f32) (w : FVec Ideal ⟨2, ![1024, 8200]⟩ .f32)
  (bq cq : FVec Ideal ⟨2, ![2, 64]⟩ .f32) (n : Fin 32768)

/-- The projection of a token at a column of the weights. -/
def proj (q : Fin 8200) : EReal := ∑ k : Fin 1024, Cert.MergeModel.normed g (fun k => x2 (ix2 n k)) k * w (ix2 k q)

/-- Lane `l` of segment `j` among the weights' columns: the eight columns of the two small gates lie between the segments 3 and 4. -/
def colOf (j : Fin 16) (l : Fin 512) : Fin 8200 := ⟨512 * j.val + l.val + (if j.val < 4 then 0 else 8), by split <;> omega⟩

/-- Lane `s` of the head that has lane `l`. -/
def lane (l : Fin 512) (s : Fin 64) : Fin 512 := ⟨l.val / 64 * 64 + s.val, by omega⟩

/-- An entry of a row over the root of the mean square of its head. -/
def unit (v : Fin 512 → EReal) (l : Fin 512) : EReal :=
  v l * Ideal.rsqrt (Ideal.div (∑ s : Fin 64, v (lane l s) * v (lane l s)) (FloatOps.ofBits (F := Ideal) .f32 0x42800000#32)
    + FloatOps.ofBits (F := Ideal) .f32 0x358637BD#32)

/-- The gain of a segment at an entry of a head: the queries' has the attention's scale. -/
def gainOf (j : Fin 16) (s : Fin 64) : EReal :=
  if j.val = 4 then bq (ix2 0 s) * FloatOps.ofBits (F := Ideal) .f32 0x3E000000#32
  else if j.val = 5 then bq (ix2 1 s)
  else if j.val = 7 then cq (ix2 0 s) * FloatOps.ofBits (F := Ideal) .f32 0x3E000000#32
  else if j.val = 8 then cq (ix2 1 s)
  else FloatOps.ofBits (F := Ideal) .f32 0x3F800000#32

/-- The segments under a norm of each head. -/
def Normed (j : Fin 16) : Prop := j.val = 4 ∨ j.val = 5 ∨ j.val = 7 ∨ j.val = 8
/-- The segments under the logistic. -/
def Gate (j : Fin 16) : Prop := j.val = 3 ∨ 10 ≤ j.val

instance (j : Fin 16) : Decidable (Normed j) := by unfold Normed; infer_instance
instance (j : Fin 16) : Decidable (Gate j) := by unfold Gate; infer_instance

/-- What is made of a token's projections at lane `l` of segment `j`. -/
def outOf (P : Fin 8200 → EReal) (j : Fin 16) (l : Fin 512) : EReal :=
  if Normed j then unit (fun l => P (colOf j l)) l * gainOf bq cq j ⟨l.val % 64, by omega⟩
  else if Gate j then Ideal.logistic (P (colOf j l))
  else P (colOf j l)

/-- A token's projections at lane `l` of segment `j`. -/
def out (j : Fin 16) (l : Fin 512) : EReal := outOf bq cq (proj x2 g w n) j l

variable (P : Fin 8200 → EReal)

theorem outOf_normed (j : Fin 16) (l : Fin 512) (h : Normed j) :
    outOf bq cq P j l = unit (fun l => P (colOf j l)) l * gainOf bq cq j ⟨l.val % 64, by omega⟩ := if_pos h
theorem outOf_gate (j : Fin 16) (l : Fin 512) (h : ¬Normed j) (h' : Gate j) :
    outOf bq cq P j l = Ideal.logistic (P (colOf j l)) := (if_neg h).trans (if_pos h')
theorem outOf_plain (j : Fin 16) (l : Fin 512) (h : ¬Normed j) (h' : ¬Gate j) :
    outOf bq cq P j l = P (colOf j l) := (if_neg h).trans (if_neg h')
theorem colOf_low (j : Fin 16) (l : Fin 512) (h : j.val < 4) : (colOf j l).val = 512 * j.val + l.val := by
  show 512 * j.val + l.val + (if j.val < 4 then 0 else 8) = _
  rw [if_pos h, Nat.add_zero]
theorem colOf_high (j : Fin 16) (l : Fin 512) (h : ¬j.val < 4) : (colOf j l).val = 512 * j.val + l.val + 8 := by
  show 512 * j.val + l.val + (if j.val < 4 then 0 else 8) = _
  rw [if_neg h]

/-- A token's two small gates, then zeros. -/
def gate (l : Fin 128) : EReal := if h : l.val < 8 then proj x2 g w n ⟨2048 + l.val, by omega⟩ else 0

/-- The sum over a row of the entries of one head. -/
theorem sum_head (f : Fin 512 → EReal) (l : Fin 512) :
    ∑ k : Fin 512, f k * (if k.val / 64 = l.val / 64 then (1 : EReal) else 0) = ∑ s : Fin 64, f (lane l s) := by
  simp only [mul_ite, mul_one, mul_zero]
  rw [← Finset.sum_filter]
  symm
  refine Finset.sum_bij (fun s _ => lane l s) (fun s _ => ?_) (fun a _ b _ h => ?_) (fun k hk => ?_) (fun _ _ => rfl)
  · rw [Finset.mem_filter]
    refine ⟨Finset.mem_univ _, ?_⟩
    show (l.val / 64 * 64 + s.val) / 64 = l.val / 64
    omega
  · have := congrArg Fin.val h
    refine Fin.ext ?_
    change l.val / 64 * 64 + a.val = l.val / 64 * 64 + b.val at this
    omega
  · rw [Finset.mem_filter] at hk
    refine ⟨⟨k.val % 64, by omega⟩, Finset.mem_univ _, Fin.ext ?_⟩
    show l.val / 64 * 64 + k.val % 64 = k.val
    omega

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = (((64 : ℝ)⁻¹ : ℝ) : EReal) := by
  simp [Ideal.ofBits, Ideal.ieee, -EReal.coe_mul]; norm_num

/-- A 64th of a value, by the product and by the quotient. -/
theorem mul_64th (a : EReal) : a * Ideal.ofBits .f32 0x3C800000#32 = Ideal.div a (Ideal.ofBits .f32 0x42800000#32) := by
  rw [ofBits_64, ofBits_64th, Ideal.div, if_neg (by norm_num), EReal.coe_inv]

end Cert.InprojModel

end
-- ==== Proof.Inproj.RowSet.lean ====
module

public import Idealize.ShloMosaic.Lib.Routing.OpsSet
public import Idealize.ShloMosaic.Lib.Routing.OpsOne
public import Idealize.ShloMosaic.Lib.Pointwise

/-! One row of a matrix set by a scatter, read at an entry. -/

@[expose] public section

namespace Cert.InprojModel

open Idealize.ShloMosaic Idealize.ShloMosaic.Routing

/-- Update `e'` of a row set at `k` lands at `(w, e)` exactly when `e` is `e'` and `w` is `k`. -/
theorem lands_row {A N : Nat} (d : ScatterDims (shape2 N A) (shape1 1) (shape1 A)) (hiw : d.insertedWindowDims = [0]) (hsd : d.scatterDimsToOperandDims = [0])
    (idx : IVec (shape1 1) 32) (k : Fin N) (hidx : (idx (Idealize.ShloMosaic.ValueIdx.ix1 0)).toInt = (k.val : Int))
    (w' w : Fin A) (e : Fin N) : d.resultIdx? (Idealize.ShloMosaic.ValueIdx.ix1 w') idx = some (Idealize.ShloMosaic.ValueIdx.ix2 e w) ↔ w' = w ∧ e = k := by
  have hm : (0 : Fin 2) ∈ d.scatterDimsToOperandDims := by rw [hsd]; exact List.mem_singleton.2 rfl
  have hkept : d.sKept = [1] := by
    show (shape2 N A).kept d.insertedWindowDims = _
    rw [hiw]
    rfl
  have hwin0 : d.window (Idealize.ShloMosaic.ValueIdx.ix1 w') 0 = 0 := by
    unfold ScatterDims.window
    rw [dif_neg fun h => (of_decide_eq_true (List.mem_filter.1 h).2) (by rw [hiw]; exact List.mem_singleton.2 rfl)]
  have hwin1 : d.window (Idealize.ShloMosaic.ValueIdx.ix1 w') 1 = w'.val := by
    unfold ScatterDims.window
    rw [dif_pos (by rw [hkept]; exact List.mem_singleton.2 rfl)]
    have q : ∀ X : Fin 1, (Idealize.ShloMosaic.ValueIdx.ix1 w' X).val = w'.val := fun X => by
      obtain rfl : X = 0 := Subsingleton.elim _ _
      rfl
    exact q _
  have hstart1 : d.start (Idealize.ShloMosaic.ValueIdx.ix1 w') idx 1 = 0 := by
    unfold ScatterDims.start
    rw [dif_neg fun h => by rw [hsd] at h; exact absurd (List.mem_singleton.1 h) (by decide : (1 : Fin 2) ≠ 0)]
  have hstart0 : d.start (Idealize.ShloMosaic.ValueIdx.ix1 w') idx 0 = (k.val : Int) := by
    unfold ScatterDims.start
    rw [dif_pos hm]
    have hsi : d.siIdx (Idealize.ShloMosaic.ValueIdx.ix1 w') ⟨d.scatterDimsToOperandDims.idxOf 0, List.idxOf_lt_length_iff.2 hm⟩ = Idealize.ShloMosaic.ValueIdx.ix1 (0 : Fin 1) := by
      funext b'
      match b' with
      | ⟨0, _⟩ => exact Subsingleton.elim (α := Fin 1) _ _
    rw [hsi, hidx]
  rw [Fin.ext_iff, Fin.ext_iff, resultIdx?_ix2, hstart0, hwin0, hstart1, hwin1]
  omega

/-- A row set at one index word: the update in the row, the operand elsewhere. -/
theorem scatter_row {α : Type} {A N : Nat} (d : ScatterDims (shape2 N A) (shape1 1) (shape1 A)) (hiw : d.insertedWindowDims = [0])
    (hsd : d.scatterDimsToOperandDims = [0]) (x0 : (shape2 N A).Idx → α) (idx : IVec (shape1 1) 32) (upd : (shape1 A).Idx → α)
    (k : Fin N) (hidx : (idx (Idealize.ShloMosaic.ValueIdx.ix1 0)).toInt = (k.val : Int)) (e : Fin N) (w : Fin A) :
    Host.scatter d (fun _ b => b) x0 idx upd (Idealize.ShloMosaic.ValueIdx.ix2 e w) = if e = k then upd (Idealize.ShloMosaic.ValueIdx.ix1 w) else x0 (Idealize.ShloMosaic.ValueIdx.ix2 e w) := by
  have lands : ∀ j : (shape1 A).Idx, d.resultIdx? j idx = some (Idealize.ShloMosaic.ValueIdx.ix2 e w) → j 0 = w ∧ e = k := fun j hj =>
    (lands_row d hiw hsd idx k hidx (j 0) w e).1 ((congrArg (fun t => d.resultIdx? t idx) (Idealize.ShloMosaic.ValueIdx.eq_ix1 j).symm).trans hj)
  by_cases h : e = k
  · rw [if_pos h]
    exact scatter_set_hit d x0 idx upd _ _ (fun j hj => (congrArg upd (Idealize.ShloMosaic.ValueIdx.eq_ix1 j)).trans (congrArg (fun t => upd (Idealize.ShloMosaic.ValueIdx.ix1 t)) (lands j hj).1)) (Idealize.ShloMosaic.ValueIdx.ix1 w)
      ((lands_row d hiw hsd idx k hidx w w e).2 ⟨rfl, h⟩)
  · rw [if_neg h]
    exact scatter_set_miss d x0 idx upd _ fun j hj => h (lands j hj).2

/-- The same at the names of the indices that the reads of an entry use. -/
theorem scatter_row_at {α : Type} {A N : Nat} (d : ScatterDims (shape2 N A) (shape1 1) (shape1 A)) (hiw : d.insertedWindowDims = [0])
    (hsd : d.scatterDimsToOperandDims = [0]) (x0 : (shape2 N A).Idx → α) (idx : IVec (shape1 1) 32) (upd : (shape1 A).Idx → α)
    (k : Fin N) (hidx : (idx (Idealize.ShloMosaic.ix1 0)).toInt = (k.val : Int)) (e : Fin N) (w : Fin A) :
    Host.scatter d (fun _ b => b) x0 idx upd (Idealize.ShloMosaic.ix2 e w)
      = if e = k then upd (Idealize.ShloMosaic.ix1 w) else x0 (Idealize.ShloMosaic.ix2 e w) := by
  have h1 : ∀ {n : ℕ} (a : Fin n), Idealize.ShloMosaic.ix1 a = Idealize.ShloMosaic.ValueIdx.ix1 a := fun a => by
    funext x
    match x with
    | ⟨0, _⟩ => rfl
  have h2 : ∀ {p q : ℕ} (a : Fin p) (b : Fin q), Idealize.ShloMosaic.ix2 a b = Idealize.ShloMosaic.ValueIdx.ix2 a b := fun a b => by
    funext x
    match x with
    | ⟨0, _⟩ => rfl
    | ⟨1, _⟩ => rfl
  rw [h1] at hidx
  rw [h2, h1]
  exact scatter_row d hiw hsd x0 idx upd k hidx e w

end Cert.InprojModel
-- ==== Proof.Inproj.Kernel.lean ====
module

public import proofs.«01_k».proof.Proof.Inproj.Run
public import proofs.«01_k».proof.Proof.Inproj.Model
public import proofs.«01_k».proof.Proof.Inproj.RowSet
public import Idealize.ShloMosaic.Lib.Pipeline.ValueKit
public import Idealize.ShloMosaic.Lib.Pipeline.ReadBack
public import Idealize.ShloMosaic.Lib.Pointwise

/-! The kernel of the input projection: 32 tiles of 1024 tokens by 16 segments of 512 columns. -/

@[expose] public section

set_option maxRecDepth 16384

noncomputable section

namespace Cert.InprojIdeal.Hand

open Cert.InprojIdeal Cert.InprojIdeal.Gen Cert.InprojModel Idealize.ShloMosaic Idealize.ShloMosaic.TcCoe Idealize.SL.Sem

variable (m : (ℓ : Loc nD τ sig) → Buf (Elt Ideal) ℓ) (c : Dev nD)

/-- The residual stream. -/
def argX : FVec Ideal S32768x1024 .f32 := m ((c : Thread nD τ).loc main_arg0)
/-- The first norm's gain. -/
def argG : FVec Ideal S1024 .f32 := m ((c : Thread nD τ).loc main_arg1)
/-- The projections' weights. -/
def argW : FVec Ideal S1024x8200 .f32 := m ((c : Thread nD τ).loc main_arg2)
/-- The gains of one branch's queries and keys. -/
def argB : FVec Ideal S2x64 .f32 := m ((c : Thread nD τ).loc main_arg3)
/-- The gains of the other branch's. -/
def argC : FVec Ideal S2x64 .f32 := m ((c : Thread nD τ).loc main_arg4)

/-- The token that row `r` of the tile of point `t` holds. -/
def tok (t : Fin cfg0.N) (r : Fin 1024) : Fin 32768 :=
  ⟨1024 * (t.val / 16) + r.val, by have := lt_of_lt_of_eq t.isLt N_0; omega⟩

/-- The segment of point `t`. -/
def seg (t : Fin cfg0.N) : Fin 16 := ⟨t.val % 16, by omega⟩

theorem index_0 : ∀ t : Fin cfg0.N, win0_0.index t = ![t.val / 16, 0] := by decide +kernel
theorem index_1 : ∀ t : Fin cfg0.N, win0_1.index t = ![0, 0] := by decide +kernel
theorem index_2 : ∀ t : Fin cfg0.N, win0_2.index t = ![0, t.val % 16] := by decide +kernel
theorem index_3 : ∀ t : Fin cfg0.N, win0_3.index t = ![0, 0] := by decide +kernel
theorem index_4 : ∀ t : Fin cfg0.N, win0_4.index t = ![t.val % 16, 0, 0] := by decide +kernel
theorem index_5 : ∀ t : Fin cfg0.N, win0_5.index t = ![0, 0] := by decide +kernel
theorem index_6 : ∀ t : Fin cfg0.N, win0_6.index t = ![t.val / 16, t.val % 16] := by decide +kernel
theorem index_7 : ∀ t : Fin cfg0.N, win0_7.index t = ![t.val / 16, 0] := by decide +kernel

theorem tok_head (t : Fin cfg0.N) (r : Fin 1024) : tok (head t) r = tok t r := Fin.ext (by
  show 1024 * ((t.val - t.val % 16) / 16) + r.val = 1024 * (t.val / 16) + r.val
  omega)

theorem blk_x (t : Fin cfg0.N) (r k : Fin 1024) : iblk m c 0 t (ix2 r k) = argX m c (ix2 (tok t r) k) := by
  blk_ext! [iblk, V, argX, index_0 t, tok]
theorem blk_g' (t : Fin cfg0.N) (k : Fin 1024) : iblk m c 1 t (ix2 0 k) = V m c main_v48 (ix2 0 k) := by
  blk_ext! [iblk, index_1 t]
theorem blk_w' (t : Fin cfg0.N) (k : Fin 1024) (l : Fin 512) :
    iblk m c 2 t (ix2 k l) = V m c main_v3 (ix2 k ⟨512 * (seg t).val + l.val, by omega⟩) := by
  blk_ext! [iblk, index_2 t, seg]
theorem blk_if' (t : Fin cfg0.N) (k : Fin 1024) (l : Fin 128) : iblk m c 3 t (ix2 k l) = V m c main_v6 (ix2 k l) := by
  blk_ext! [iblk, index_3 t]
theorem blk_gain' (t : Fin cfg0.N) (l : Fin 512) : iblk m c 4 t (ix3 0 0 l) = V m c main_v49 (ix3 (seg t) 0 l) := by
  blk_ext! [iblk, index_4 t, seg]
theorem blk_bd' (t : Fin cfg0.N) (k l : Fin 512) : iblk m c 5 t (ix2 k l) = V m c main_v47 (ix2 k l) := by
  blk_ext! [iblk, index_5 t]

/-- What the host makes of the norm's gain. -/
theorem V_g : V m c main_v48 = shapeCast S1x1024 (argG m c) shapeCasts_S1024_S1x1024 := by
  simp only [V, hostOps0, hostOps0_1, hostOps0_2, hostOps0_3, hostOps0_4, List.flatten_cons, List.flatten_nil, List.append_nil,
    List.cons_append, List.nil_append]
  entry_read
  rfl

/-- What the host makes of the segments' weights. -/
theorem V_w : V m c main_v3 = truncf (F := Ideal) .bf16 (concatenate S1024x8192 1
    [⟨S1024x2048, extractStridedSlice S1024x2048 ![0, 0] (argW m c) slices_S1024x8200_S1024x2048_0_0⟩,
     ⟨S1024x6144, extractStridedSlice S1024x6144 ![0, 2056] (argW m c) slices_S1024x8200_S1024x6144_0_2056⟩]
    concatenates_S1024x2048_S1024x6144_S1024x8192_d1) bitsLt_bf16_f32 := by
  simp only [V, hostOps0, hostOps0_1, hostOps0_2, hostOps0_3, hostOps0_4, List.flatten_cons, List.flatten_nil, List.append_nil,
    List.cons_append, List.nil_append]
  entry_read
  rfl

/-- What the host makes of the small gates' weights. -/
theorem V_if : V m c main_v6 = truncf (F := Ideal) .bf16 (pad S1024x128 ![0, 0] ![0, 120] ![0, 0]
    (extractStridedSlice S1024x8 ![0, 2048] (argW m c) slices_S1024x8200_S1024x8_0_2048)
    (sitofp (F := Ideal) .f32 (constantI S_ 32 0#32)) pads_S1024x8_S1024x128_000_01200 h_S_) bitsLt_bf16_f32 := by
  simp only [V, hostOps0, hostOps0_1, hostOps0_2, hostOps0_3, hostOps0_4, List.flatten_cons, List.flatten_nil, List.append_nil,
    List.cons_append, List.nil_append]
  entry_read
  rfl

/-- The gains of one row of a table, over the eight heads. -/
def heads0 (x : FVec Ideal S2x64 .f32) : FVec Ideal S512 .f32 :=
  shapeCast _ (broadcastInDim S8x64 ![0, 1] bcast_S1x64_S8x64_0_1 (shapeCast _ (shapeCast _
    (extractStridedSlice S1x64 ![0, 0] x slices_S2x64_S1x64_0_0) shapeCasts_S1x64_S64) shapeCasts_S64_S1x64)) shapeCasts_S8x64_S512
/-- The same of the other row. -/
def heads1 (x : FVec Ideal S2x64 .f32) : FVec Ideal S512 .f32 :=
  shapeCast _ (broadcastInDim S8x64 ![0, 1] bcast_S1x64_S8x64_0_1 (shapeCast _ (shapeCast _
    (extractStridedSlice S1x64 ![1, 0] x slices_S2x64_S1x64_1_0) shapeCasts_S1x64_S64) shapeCasts_S64_S1x64)) shapeCasts_S8x64_S512
/-- The gains under the attention's scale. -/
def scaled (x : FVec Ideal S512 .f32) : FVec Ideal S512 .f32 :=
  mulf x (broadcastInDim S512 ![] bcast_S_S512 (constant S_ .f32 0x3E000000#32))
/-- One row of the gains set. -/
def setRow (x : FVec Ideal S16x512 .f32) (k : BitVec 32) (u : FVec Ideal S512 .f32) : FVec Ideal S16x512 .f32 :=
  Host.scatter scatter_S16x512_S1_S512_0_0_0_0 (fun _ b => b) x (broadcastInDim S1 ![] bcast_S_S1 (constantI S_ 32 k)) u

/-- What the host makes of the heads' gains. -/
theorem V_gain : V m c main_v49 = shapeCast S16x1x512 (setRow (setRow (setRow (setRow
    (broadcastInDim S16x512 ![] bcast_S_S16x512 (constant S_ .f32 0x3F800000#32))
    4#32 (scaled (heads0 (argB m c)))) 5#32 (heads1 (argB m c))) 7#32 (scaled (heads0 (argC m c)))) 8#32 (heads1 (argC m c)))
    shapeCasts_S16x512_S16x1x512 := by
  simp only [V, hostOps0, hostOps0_1, hostOps0_2, hostOps0_3, hostOps0_4, List.flatten_cons, List.flatten_nil, List.append_nil,
    List.cons_append, List.nil_append]
  entry_read
  rfl

/-- The quotients by 64 of the lanes, as the host takes them. -/
def blocks : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- What the host makes of the heads' table. -/
theorem V_bd : V m c main_v47 = uitofp (F := Ideal) .bf16 (cmpi .eq
    (broadcastInDim S512x512 ![0, 1] bcast_S512x1_S512x512_0_1 (broadcastInDim S512x1 ![0] bcast_S512_S512x1_0 blocks))
    (broadcastInDim S512x512 ![0, 1] bcast_S1x512_S512x512_0_1 (broadcastInDim S1x512 ![1] bcast_S512_S1x512_1 blocks))) := by
  simp only [V, hostOps0, hostOps0_1, hostOps0_2, hostOps0_3, hostOps0_4, List.flatten_cons, List.flatten_nil, List.append_nil,
    List.cons_append, List.nil_append]
  entry_read
  rfl

end Cert.InprojIdeal.Hand

end
-- ==== Proof.Inproj.Blocks.lean ====
module

public import proofs.«01_k».proof.Proof.Inproj.Kernel

/-! The kernel's blocks read at an entry, and what it makes of them. -/

@[expose] public section

set_option maxRecDepth 16384

noncomputable section

namespace Cert.InprojIdeal.Hand

open Cert.InprojIdeal Cert.InprojIdeal.Gen Cert.InprojModel Idealize.ShloMosaic Idealize.ShloMosaic.TcCoe Idealize.SL.Sem

variable (m : (ℓ : Loc nD τ sig) → Buf (Elt Ideal) ℓ) (c : Dev nD)

theorem blk_g (t : Fin cfg0.N) (k : Fin 1024) : iblk m c 1 t (ix2 0 k) = argG m c (ix1 k) := by
  rw [blk_g', V_g]; pointwise

theorem blk_w (t : Fin cfg0.N) (k : Fin 1024) (l : Fin 512) : iblk m c 2 t (ix2 k l) = argW m c (ix2 k (colOf (seg t) l)) := by
  rw [blk_w', V_w]; pointwise
  split
  · refine congrArg (argW m c) (congrArg (ix2 k) (Fin.ext ?_))
    rw [colOf_low _ _ (by omega)]
  · refine congrArg (argW m c) (congrArg (ix2 k) (Fin.ext ?_))
    rw [colOf_high _ _ (by omega)]
    dsimp only
    omega

theorem zero_word : FloatOps.sitofp (F := Ideal) FTy.f32 0#32 = (0 : EReal) := by
  show (((0#32 : BitVec 32).toInt : ℝ) : EReal) = 0
  simp

theorem blk_if (t : Fin cfg0.N) (k : Fin 1024) (l : Fin 128) :
    iblk m c 3 t (ix2 k l) = if h : l.val < 8 then argW m c (ix2 k ⟨2048 + l.val, by omega⟩) else (0 : EReal) := by
  rw [blk_if', V_if]; pointwise
  split
  · rfl
  · exact zero_word

theorem heads0_at (x : FVec Ideal S2x64 .f32) (l : Fin 512) : heads0 x (ix1 l) = x (ix2 0 ⟨l.val % 64, by omega⟩) := by
  pointwise [heads0]
theorem heads1_at (x : FVec Ideal S2x64 .f32) (l : Fin 512) : heads1 x (ix1 l) = x (ix2 1 ⟨l.val % 64, by omega⟩) := by
  pointwise [heads1]
theorem scaled_at (x : FVec Ideal S512 .f32) (l : Fin 512) :
    scaled x (ix1 l) = x (ix1 l) * FloatOps.ofBits (F := Ideal) .f32 0x3E000000#32 := by
  pointwise [scaled]

theorem setRow_at (x : FVec Ideal S16x512 .f32) (k : Fin 16) (u : FVec Ideal S512 .f32) (j : Fin 16) (l : Fin 512) :
    setRow x (BitVec.ofNat 32 k.val) u (ix2 j l) = if j = k then u (ix1 l) else x (ix2 j l) := by
  unfold setRow
  refine scatter_row_at _ rfl rfl x _ u k ?_ j l
  show (BitVec.ofNat 32 k.val).toInt = (k.val : ℤ)
  revert k
  decide

theorem blk_gain (t : Fin cfg0.N) (l : Fin 512) :
    iblk m c 4 t (ix3 0 0 l) = gainOf (argB m c) (argC m c) (seg t) ⟨l.val % 64, by omega⟩ := by
  rw [blk_gain', V_gain]; pointwise
  rw [show (8#32 : BitVec 32) = BitVec.ofNat 32 (8 : Fin 16).val from rfl, setRow_at,
    show (7#32 : BitVec 32) = BitVec.ofNat 32 (7 : Fin 16).val from rfl, setRow_at,
    show (5#32 : BitVec 32) = BitVec.ofNat 32 (5 : Fin 16).val from rfl, setRow_at,
    show (4#32 : BitVec 32) = BitVec.ofNat 32 (4 : Fin 16).val from rfl, setRow_at, scaled_at, scaled_at, heads0_at, heads1_at, heads0_at, heads1_at]
  generalize seg t = j
  unfold gainOf
  fin_cases j <;> rfl

theorem blocks_at : ∀ l : Fin 512, blocks (ix1 l) = BitVec.ofNat 32 (l.val / 64) := by decide +kernel

theorem blk_bd (t : Fin cfg0.N) (k l : Fin 512) :
    iblk m c 5 t (ix2 k l) = if k.val / 64 = l.val / 64 then (1 : EReal) else 0 := by
  rw [blk_bd', V_bd]; pointwise
  rw [blocks_at, blocks_at]
  by_cases h : k.val / 64 = l.val / 64
  · rw [if_pos h, h]
    show ((((BitVec.ofBool (BitVec.ofNat 32 (l.val / 64) == BitVec.ofNat 32 (l.val / 64))).toNat : ℕ) : ℝ) : EReal) = 1
    rw [beq_self_eq_true]
    simp
  · rw [if_neg h]
    have hne : (BitVec.ofNat 32 (k.val / 64) == BitVec.ofNat 32 (l.val / 64)) = false := by
      rw [beq_eq_false_iff_ne]
      intro e
      have := congrArg BitVec.toNat e
      rw [BitVec.toNat_ofNat, BitVec.toNat_ofNat] at this
      omega
    show ((((BitVec.ofBool (BitVec.ofNat 32 (k.val / 64) == BitVec.ofNat 32 (l.val / 64))).toNat : ℕ) : ℝ) : EReal) = 0
    rw [hne]
    simp

/-- The tokens' norm. -/
theorem tokens_at (t : Fin cfg0.N) (r k : Fin 1024) :
    tokens m c t (ix2 r k) = Cert.MergeModel.normed (argG m c) (fun k => argX m c (ix2 (tok t r) k)) k := by
  pointwise [tokens, k0_pay1, Cert.MergeModel.normed]
  simp only [blk_x, blk_g, tok_head]

/-- The tile's product with a segment's columns. -/
theorem prod_at (t : Fin cfg0.N) (r : Fin 1024) (l : Fin 512) :
    k0_pay3 (tokens m c t) (iblk m c 2 t) (ix2 r l) = proj (argX m c) (argG m c) (argW m c) (tok t r) (colOf (seg t) l) := by
  pointwise [k0_pay3, proj]
  simp only [tokens_at, blk_w]

theorem normed_at (t : Fin cfg0.N) (r : Fin 1024) (l : Fin 512) :
    k0_pay4 (tokens m c t) (iblk m c 2 t) (iblk m c 5 t) (iblk m c 4 t) (ix2 r l)
      = unit (fun l => proj (argX m c) (argG m c) (argW m c) (tok t r) (colOf (seg t) l)) l
        * gainOf (argB m c) (argC m c) (seg t) ⟨l.val % 64, by omega⟩ := by
  pointwise [k0_pay4, unit]
  simp only [prod_at, blk_bd, blk_gain, sum_head (fun k => _ * _), mul_64th]

theorem gate_at (t : Fin cfg0.N) (r : Fin 1024) (l : Fin 512) :
    k0_pay5 (tokens m c t) (iblk m c 2 t) (ix2 r l) = Ideal.logistic (proj (argX m c) (argG m c) (argW m c) (tok t r) (colOf (seg t) l)) := by
  pointwise [k0_pay5]
  simp only [prod_at]

theorem plain_at (t : Fin cfg0.N) (r : Fin 1024) (l : Fin 512) :
    k0_pay6 (tokens m c t) (iblk m c 2 t) (ix2 r l) = proj (argX m c) (argG m c) (argW m c) (tok t r) (colOf (seg t) l) := by
  pointwise [k0_pay6]
  simp only [prod_at]

theorem cond_normed : ∀ t : Fin cfg0.N, k0_cond2 (grid0.coords t) = 1#1 ↔ Normed (seg t) := by decide +kernel
theorem cond_gate : ∀ t : Fin cfg0.N, k0_cond3 (grid0.coords t) = 1#1 ↔ Gate (seg t) := by decide +kernel

/-- The columns that a point leaves. -/
theorem cols_at (t : Fin cfg0.N) (r : Fin 1024) (l : Fin 512) :
    cols m c t (ix2 r l) = out (argX m c) (argG m c) (argW m c) (argB m c) (argC m c) (tok t r) (seg t) l := by
  unfold cols out
  by_cases h : Normed (seg t)
  · rw [if_pos ((cond_normed t).2 h), outOf_normed _ _ _ _ _ h]
    exact normed_at m c t r l
  · rw [if_neg (fun e => h ((cond_normed t).1 e))]
    by_cases h' : Gate (seg t)
    · rw [if_pos ((cond_gate t).2 h'), outOf_gate _ _ _ _ _ h h']
      exact gate_at m c t r l
    · rw [if_neg (fun e => h' ((cond_gate t).1 e)), outOf_plain _ _ _ _ _ h h']
      exact plain_at m c t r l

/-- The small gates that a tile leaves. -/
theorem gates_at (t : Fin cfg0.N) (r : Fin 1024) (l : Fin 128) :
    gates m c t (ix2 r l) = gate (argX m c) (argG m c) (argW m c) (tok t r) l := by
  pointwise [gates, k0_pay2, gate]
  simp only [tokens_at, blk_if]
  split
  · rfl
  · simp only [mul_zero, Finset.sum_const_zero]

end Cert.InprojIdeal.Hand

end
-- ==== Proof.Inproj.Ends.lean ====
module

public import proofs.«01_k».proof.Proof.Inproj.Blocks

/-! What the kernel's two results end as. -/

@[expose] public section

set_option maxRecDepth 16384

noncomputable section

namespace Cert.InprojIdeal.Hand

open Cert.InprojIdeal Cert.InprojIdeal.Gen Cert.InprojModel Idealize.ShloMosaic Idealize.ShloMosaic.TcCoe Idealize.SL.Sem

variable (m : (ℓ : Loc nD τ sig) → Buf (Elt Ideal) ℓ) (ρ : Dev nD → PrngReg) (c : Dev nD)

/-- The projections that the kernel leaves. -/
def outP : FVec Ideal S32768x8192 .bf16 := fun i =>
  out (argX m c) (argG m c) (argW m c) (argB m c) (argC m c) (i 0) ⟨(i 1).val / 512, by have h : (i 1).val < 8192 := (i 1).isLt; omega⟩ ⟨(i 1).val % 512, by omega⟩
/-- The small gates that it leaves. -/
def outG : FVec Ideal S32768x128 .f32 := fun i => gate (argX m c) (argG m c) (argW m c) (i 0) (i 1)

theorem final6 : (dats m 0 c).arrAt 6 cfg0.N = outP m c := by
  refine (dats m 0 c).arrAt_eq_of_covers 6 _ (by decide +kernel) fun t hf y => ?_
  blk_simp
  rw [after6]
  obtain ⟨r, l, rfl⟩ : ∃ (r : Fin 1024) (l : Fin 512), y = ix2 r l := ⟨y 0, y 1, by
    funext a
    match a with
    | ⟨0, _⟩ => rfl
    | ⟨1, _⟩ => rfl⟩
  have e0 : (((View.whole main_v50_0).slice (win0_6.rect t)).emb (ix2 r l) 0) = tok t r := Fin.ext (by
    show win0_6.index t (0 : Fin 2) * 1024 + 1 * r.val = 1024 * (t.val / 16) + r.val
    rw [index_6]
    show t.val / 16 * 1024 + 1 * r.val = 1024 * (t.val / 16) + r.val
    omega)
  have e1 : (((View.whole main_v50_0).slice (win0_6.rect t)).emb (ix2 r l) 1).val = 512 * (seg t).val + l.val := by
    show win0_6.index t (1 : Fin 2) * 512 + 1 * l.val = 512 * (t.val % 16) + l.val
    rw [index_6]
    show t.val % 16 * 512 + 1 * l.val = 512 * (t.val % 16) + l.val
    omega
  refine (cols_at m c t r l).trans ?_
  unfold outP
  rw [e0]
  congr 1
  · exact Fin.ext (by dsimp only; rw [e1]; omega)
  · exact Fin.ext (by dsimp only; rw [e1]; omega)

theorem final7 : (dats m 0 c).arrAt 7 cfg0.N = outG m c := by
  refine (dats m 0 c).arrAt_eq_of_covers 7 _ (by decide +kernel) fun t hf y => ?_
  blk_simp
  rw [after7]
  obtain ⟨r, l, rfl⟩ : ∃ (r : Fin 1024) (l : Fin 128), y = ix2 r l := ⟨y 0, y 1, by
    funext a
    match a with
    | ⟨0, _⟩ => rfl
    | ⟨1, _⟩ => rfl⟩
  have e0 : (((View.whole main_v50_1).slice (win0_7.rect t)).emb (ix2 r l) 0) = tok t r := Fin.ext (by
    show win0_7.index t (0 : Fin 2) * 1024 + 1 * r.val = 1024 * (t.val / 16) + r.val
    rw [index_7]
    show t.val / 16 * 1024 + 1 * r.val = 1024 * (t.val / 16) + r.val
    omega)
  have e1 : (((View.whole main_v50_1).slice (win0_7.rect t)).emb (ix2 r l) 1) = l := Fin.ext (by
    show win0_7.index t (1 : Fin 2) * 128 + 1 * l.val = l.val
    rw [index_7]
    show 0 * 128 + 1 * l.val = l.val
    omega)
  refine (gates_at m c t r l).trans ?_
  unfold outG
  rw [e0, e1]

/-- The two results after a run. -/
theorem run_values : θ_run defs (onTc (τ := τ) (main (F := Ideal))) ⟨m, fun _ => 0, ρ⟩ (fun r => ∀ c : Dev nD,
      r.2.mem ((c.tc : Thread nD τ).loc main_v50_0) = outP m c
      ∧ r.2.mem ((c.tc : Thread nD τ).loc main_v50_1) = outG m c) :=
  (θ_run defs _ _).mono (fun _ h c => ⟨((h c).1 6).trans (final6 m c), ((h c).1 7).trans (final7 m c)⟩) (run_main m ρ)

/-- The two results and the arguments after a run. -/
theorem run_all : θ_run defs (onTc (τ := τ) (main (F := Ideal))) ⟨m, fun _ => 0, ρ⟩ (fun r => ∀ c : Dev nD,
      r.2.mem ((c.tc : Thread nD τ).loc main_v50_0) = outP m c
      ∧ r.2.mem ((c.tc : Thread nD τ).loc main_v50_1) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1, (h.1 c).2, h.2 c⟩) (θ_run_and (run_values m ρ) (unchanged m ρ))

end Cert.InprojIdeal.Hand

end
-- ==== Proof.Inproj.Ref.lean ====
module

public import proofs.«01_k».proof.Proof.Gen.InprojRefIdeal.Run
public import proofs.«01_k».proof.Proof.Inproj.Model
public import Idealize.ShloMosaic.Lib.Pointwise

/-! The reference of the input projection in stages, each read at an index. -/

@[expose] public section

set_option maxRecDepth 16384

noncomputable section

namespace Cert.InprojRefIdeal.Mine

open Cert.InprojRefIdeal Cert.InprojRefIdeal.Gen Cert.InprojRefIdeal.Value Cert.InprojModel Idealize.ShloMosaic Idealize.ShloMosaic.TcCoe Idealize.SL.Sem

variable (x2 : FVec Ideal S32768x1024 .f32) (g : FVec Ideal S1024 .f32) (w : FVec Ideal S1024x8200 .f32) (bq cq : FVec Ideal S2x64 .f32)

/-- The normed tokens times the weights. -/
def projs : FVec Ideal S32768x8200 .f32 :=
  Host.dotGeneral (F := Ideal) dot_S32768x1024_S1024x8200_S32768x8200_1_0_0_1_n_n none
    (mulf (mulf x2 (broadcastInDim S32768x1024 ![0, 1] bcast_S32768x1_S32768x1024_0_1 (Host.rsqrt (addf (Host.divf
      (broadcastInDim S32768x1 ![0] bcast_S32768_S32768x1_0 (Host.reduceAdd (mulf x2 x2) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g))) w

/-- A segment's norm of each head, under a gain. -/
def headNorm (v : FVec Ideal S32768x512 .f32) (gg : FVec Ideal S64 .f32) : FVec Ideal S32768x512 .f32 :=
  shapeCast _ (mulf (mulf (shapeCast _ v shapeCasts_S32768x512_S32768x8x64) (broadcastInDim S32768x8x64 ![0, 1, 2] bcast_S32768x8x1_S32768x8x64_0_1_2
    (Host.rsqrt (addf (Host.divf (broadcastInDim S32768x8x1 ![0, 1] bcast_S32768x8_S32768x8x1_0_1 (Host.reduceAdd
      (mulf (shapeCast _ v shapeCasts_S32768x512_S32768x8x64) (shapeCast _ v shapeCasts_S32768x512_S32768x8x64)) (constant S_ .f32 0x00000000#32) reducesTo_S32768x8x64_S32768x8_d2 h_S_))
      (broadcastInDim S32768x8x1 ![] bcast_S_S32768x8x1 (constant S_ .f32 0x42800000#32))) (broadcastInDim S32768x8x1 ![] bcast_S_S32768x8x1 (constant S_ .f32 0x358637BD#32))))))
    (broadcastInDim S32768x8x64 ![0, 1, 2] bcast_S1x1x64_S32768x8x64_0_1_2 (broadcastInDim S1x1x64 ![2] bcast_S64_S1x1x64_2 gg))) shapeCasts_S32768x8x64_S32768x512

/-- A segment under the attention's scale. -/
def scaled (v : FVec Ideal S32768x512 .f32) : FVec Ideal S32768x512 .f32 :=
  mulf v (broadcastInDim S32768x512 ![] bcast_S_S32768x512 (constant S_ .f32 0x3E000000#32))

/-- One row of a table of gains. -/
def row0 (x : FVec Ideal S2x64 .f32) : FVec Ideal S64 .f32 := shapeCast _ (extractStridedSlice S1x64 ![0, 0] x slices_S2x64_S1x64_0_0) shapeCasts_S1x64_S64
/-- The other row. -/
def row1 (x : FVec Ideal S2x64 .f32) : FVec Ideal S64 .f32 := shapeCast _ (extractStridedSlice S1x64 ![1, 0] x slices_S2x64_S1x64_1_0) shapeCasts_S1x64_S64

/-- The logistic of the output gate. -/
def gated (v : FVec Ideal S32768x512 .f32) : FVec Ideal S32768x512 .f32 :=
  Host.divf (broadcastInDim S32768x512 ![] bcast_S_S32768x512 (constant S_ .f32 0x3F800000#32))
    (addf (broadcastInDim S32768x512 ![] bcast_S_S32768x512 (constant S_ .f32 0x3F800000#32)) (Host.exp (Host.negf v)))
/-- The logistic of the merge's gates. -/
def gated3 (v : FVec Ideal S32768x3072 .f32) : FVec Ideal S32768x3072 .f32 :=
  Host.divf (broadcastInDim S32768x3072 ![] bcast_S_S32768x3072 (constant S_ .f32 0x3F800000#32))
    (addf (broadcastInDim S32768x3072 ![] bcast_S_S32768x3072 (constant S_ .f32 0x3F800000#32)) (Host.exp (Host.negf v)))

/-- The segments of the projections, side by side. -/
def segs (p : FVec Ideal S32768x8200 .f32) : FVec Ideal S32768x8192 .bf16 :=
  truncf (F := Ideal) .bf16 (fn_main_v111 (F := Ideal)
    (extractStridedSlice S32768x512 ![0, 0] p slices_S32768x8200_S32768x512_0_0)
    (extractStridedSlice S32768x512 ![0, 512] p slices_S32768x8200_S32768x512_0_512)
    (extractStridedSlice S32768x512 ![0, 1024] p slices_S32768x8200_S32768x512_0_1024)
    (gated (extractStridedSlice S32768x512 ![0, 1536] p slices_S32768x8200_S32768x512_0_1536))
    (scaled (headNorm (extractStridedSlice S32768x512 ![0, 2056] p slices_S32768x8200_S32768x512_0_2056) (row0 bq)))
    (headNorm (extractStridedSlice S32768x512 ![0, 2568] p slices_S32768x8200_S32768x512_0_2568) (row1 bq))
    (extractStridedSlice S32768x512 ![0, 3080] p slices_S32768x8200_S32768x512_0_3080)
    (scaled (headNorm (extractStridedSlice S32768x512 ![0, 3592] p slices_S32768x8200_S32768x512_0_3592) (row0 cq)))
    (headNorm (extractStridedSlice S32768x512 ![0, 4104] p slices_S32768x8200_S32768x512_0_4104) (row1 cq))
    (extractStridedSlice S32768x512 ![0, 4616] p slices_S32768x8200_S32768x512_0_4616)
    (gated3 (extractStridedSlice S32768x3072 ![0, 5128] p slices_S32768x8200_S32768x3072_0_5128))) bitsLt_bf16_f32

/-- The small gates of the projections, then zeros. -/
def small (p : FVec Ideal S32768x8200 .f32) : FVec Ideal S32768x128 .f32 :=
  concatenate S32768x128 1 [⟨S32768x4, extractStridedSlice S32768x4 ![0, 2048] p slices_S32768x8200_S32768x4_0_2048⟩,
    ⟨S32768x4, extractStridedSlice S32768x4 ![0, 2052] p slices_S32768x8200_S32768x4_0_2052⟩,
    ⟨S32768x120, broadcastInDim S32768x120 ![] bcast_S_S32768x120 (constant S_ .f32 0x00000000#32)⟩]
    concatenates_S32768x4_S32768x4_S32768x120_S32768x128_d1

variable (n : Fin 32768)

theorem projs_at (q : Fin 8200) : projs x2 g w (ix2 n q) = proj x2 g w n q := by
  pointwise [projs, proj, Cert.MergeModel.normed]

theorem headNorm_at (v : FVec Ideal S32768x512 .f32) (gg : FVec Ideal S64 .f32) (l : Fin 512) :
    headNorm v gg (ix2 n l) = unit (fun k => v (ix2 n k)) l * gg (ix1 ⟨l.val % 64, by omega⟩) := by
  pointwise [headNorm, unit, lane]

theorem row0_at (x : FVec Ideal S2x64 .f32) (s : Fin 64) : row0 x (ix1 s) = x (ix2 0 s) := by pointwise [row0]
theorem row1_at (x : FVec Ideal S2x64 .f32) (s : Fin 64) : row1 x (ix1 s) = x (ix2 1 s) := by pointwise [row1]

theorem gated_at (v : FVec Ideal S32768x512 .f32) (l : Fin 512) : gated v (ix2 n l) = Ideal.logistic (v (ix2 n l)) := by
  pointwise [gated, Ideal.logistic]
theorem gated3_at (v : FVec Ideal S32768x3072 .f32) (l : Fin 3072) : gated3 v (ix2 n l) = Ideal.logistic (v (ix2 n l)) := by
  pointwise [gated3, Ideal.logistic]

theorem small_at (p : FVec Ideal S32768x8200 .f32) (l : Fin 128) :
    small p (ix2 n l) = if h : l.val < 8 then p (ix2 n ⟨2048 + l.val, by omega⟩) else 0 := by
  pointwise [small]
  by_cases h0 : l.val < 4
  · rw [dif_pos h0, dif_pos (by omega)]
  · rw [dif_neg h0]
    by_cases h1 : l.val < 8
    · rw [dif_pos (by omega), dif_pos h1]
      exact congrArg p (congrArg (ix2 n) (Fin.ext (by show 2052 + (l.val - 4) = 2048 + l.val; omega)))
    · rw [dif_neg (by omega), dif_neg h1]

section
variable (u0 u1 u2 u3 u4 u5 u6 u7 u8 u9 : FVec Ideal S32768x512 .f32) (u10 : FVec Ideal S32768x3072 .f32)
theorem cat_0 (q : Fin 8192) (l : Fin 512) (h : q.val = 0 + l.val) :
    fn_main_v111 (F := Ideal) u0 u1 u2 u3 u4 u5 u6 u7 u8 u9 u10 (ix2 n q) = u0 (ix2 n l) := by
  pointwise [fn_main_v111]
  rw [dif_pos (show q.val < 512 by omega)]
  exact congrArg u0 (congrArg (ix2 n) (Fin.ext (by dsimp only; omega)))
theorem cat_1 (q : Fin 8192) (l : Fin 512) (h : q.val = 512 + l.val) :
    fn_main_v111 (F := Ideal) u0 u1 u2 u3 u4 u5 u6 u7 u8 u9 u10 (ix2 n q) = u1 (ix2 n l) := by
  pointwise [fn_main_v111]
  rw [dif_neg (show ¬q.val < 512 by omega), dif_pos (show q.val - 512 < 512 by omega)]
  exact congrArg u1 (congrArg (ix2 n) (Fin.ext (by dsimp only; omega)))
theorem cat_2 (q : Fin 8192) (l : Fin 512) (h : q.val = 1024 + l.val) :
    fn_main_v111 (F := Ideal) u0 u1 u2 u3 u4 u5 u6 u7 u8 u9 u10 (ix2 n q) = u2 (ix2 n l) := by
  pointwise [fn_main_v111]
  rw [dif_neg (show ¬q.val < 512 by omega), dif_neg (show ¬q.val - 512 < 512 by omega), dif_pos (show q.val - 512 - 512 < 512 by omega)]
  exact congrArg u2 (congrArg (ix2 n) (Fin.ext (by dsimp only; omega)))
theorem cat_3 (q : Fin 8192) (l : Fin 512) (h : q.val = 1536 + l.val) :
    fn_main_v111 (F := Ideal) u0 u1 u2 u3 u4 u5 u6 u7 u8 u9 u10 (ix2 n q) = u3 (ix2 n l) := by
  pointwise [fn_main_v111]
  rw [dif_neg (show ¬q.val < 512 by omega), dif_neg (show ¬q.val - 512 < 512 by omega), dif_neg (show ¬q.val - 512 - 512 < 512 by omega), dif_pos (show q.val - 512 - 512 - 512 < 512 by omega)]
  exact congrArg u3 (congrArg (ix2 n) (Fin.ext (by dsimp only; omega)))
theorem cat_4 (q : Fin 8192) (l : Fin 512) (h : q.val = 2048 + l.val) :
    fn_main_v111 (F := Ideal) u0 u1 u2 u3 u4 u5 u6 u7 u8 u9 u10 (ix2 n q) = u4 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_pos (show q.val - 512 - 512 - 512 - 512 < 512 by omega)]
  exact congrArg u4 (congrArg (ix2 n) (Fin.ext (by dsimp only; omega)))
theorem cat_5 (q : Fin 8192) (l : Fin 512) (h : q.val = 2560 + l.val) :
    fn_main_v111 (F := Ideal) u0 u1 u2 u3 u4 u5 u6 u7 u8 u9 u10 (ix2 n q) = u5 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_pos (show q.val - 512 - 512 - 512 - 512 - 512 < 512 by omega)]
  exact congrArg u5 (congrArg (ix2 n) (Fin.ext (by dsimp only; omega)))
theorem cat_6 (q : Fin 8192) (l : Fin 512) (h : q.val = 3072 + l.val) :
    fn_main_v111 (F := Ideal) u0 u1 u2 u3 u4 u5 u6 u7 u8 u9 u10 (ix2 n q) = u6 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_neg (show ¬q.val - 512 - 512 - 512 - 512 - 512 < 512 by omega), dif_pos (show q.val - 512 - 512 - 512 - 512 - 512 - 512 < 512 by omega)]
  exact congrArg u6 (congrArg (ix2 n) (Fin.ext (by dsimp only; omega)))
theorem cat_7 (q : Fin 8192) (l : Fin 512) (h : q.val = 3584 + l.val) :
    fn_main_v111 (F := Ideal) u0 u1 u2 u3 u4 u5 u6 u7 u8 u9 u10 (ix2 n q) = u7 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_neg (show ¬q.val - 512 - 512 - 512 - 512 - 512 < 512 by omega), dif_neg (show ¬q.val - 512 - 512 - 512 - 512 - 512 - 512 < 512 by omega), dif_pos (show q.val - 512 - 512 - 512 - 512 - 512 - 512 - 512 < 512 by omega)]
  exact congrArg u7 (congrArg (ix2 n) (Fin.ext (by dsimp only; omega)))
theorem cat_8 (q : Fin 8192) (l : Fin 512) (h : q.val = 4096 + l.val) :
    fn_main_v111 (F := Ideal) u0 u1 u2 u3 u4 u5 u6 u7 u8 u9 u10 (ix2 n q) = u8 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_neg (show ¬q.val - 512 - 512 - 512 - 512 - 512 < 512 by omega), dif_neg (show ¬q.val - 512 - 512 - 512 - 512 - 512 - 512 < 512 by omega), dif_neg (show ¬q.val - 512 - 512 - 512 - 512 - 512 - 512 - 512 < 512 by omega), dif_pos (show q.val - 512 - 512 - 512 - 512 - 512 - 512 - 512 - 512 < 512 by omega)]
  exact congrArg u8 (congrArg (ix2 n) (Fin.ext (by dsimp only; omega)))
theorem cat_9 (q : Fin 8192) (l : Fin 512) (h : q.val = 4608 + l.val) :
    fn_main_v111 (F := Ideal) u0 u1 u2 u3 u4 u5 u6 u7 u8 u9 u10 (ix2 n q) = u9 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_neg (show ¬q.val - 512 - 512 - 512 - 512 - 512 < 512 by omega), dif_neg (show ¬q.val - 512 - 512 - 512 - 512 - 512 - 512 < 512 by omega), dif_neg (show ¬q.val - 512 - 512 - 512 - 512 - 512 - 512 - 512 < 512 by omega), dif_neg (show ¬q.val - 512 - 512 - 512 - 512 - 512 - 512 - 512 - 512 < 512 by omega), dif_pos (show q.val - 512 - 512 - 512 - 512 - 512 - 512 - 512 - 512 - 512 < 512 by omega)]
  exact congrArg u9 (congrArg (ix2 n) (Fin.ext (by dsimp only; omega)))
theorem cat_10 (q : Fin 8192) (l : Fin 3072) (h : q.val = 5120 + l.val) :
    fn_main_v111 (F := Ideal) u0 u1 u2 u3 u4 u5 u6 u7 u8 u9 u10 (ix2 n q) = u10 (ix2 n l) := by
  pointwise [fn_main_v111]
  rw [dif_neg (show ¬q.val < 512 by omega), dif_neg (show ¬q.val - 512 < 512 by omega), dif_neg (show ¬q.val - 512 - 512 < 512 by omega), dif_neg (show ¬q.val - 512 - 512 - 512 < 512 by omega), dif_neg (show ¬q.val - 512 - 512 - 512 - 512 < 512 by omega), dif_neg (show ¬q.val - 512 - 512 - 512 - 512 - 512 < 512 by omega), dif_neg (show ¬q.val - 512 - 512 - 512 - 512 - 512 - 512 < 512 by omega), dif_neg (show ¬q.val - 512 - 512 - 512 - 512 - 512 - 512 - 512 < 512 by omega), dif_neg (show ¬q.val - 512 - 512 - 512 - 512 - 512 - 512 - 512 - 512 < 512 by omega), dif_neg (show ¬q.val - 512 - 512 - 512 - 512 - 512 - 512 - 512 - 512 - 512 < 512 by omega)]
  exact congrArg u10 (congrArg (ix2 n) (Fin.ext (by dsimp only; omega)))
end

theorem segs_at (p : FVec Ideal S32768x8200 .f32) (j : Fin 16) (l : Fin 512) :
    segs bq cq p (ix2 n ⟨512 * j.val + l.val, by omega⟩) = outOf bq cq (fun q => p (ix2 n q)) j l := by
  unfold segs
  by_cases h0 : j.val = 0
  · refine Eq.trans (cat_0 n _ _ _ _ _ _ _ _ _ _ _ _ l (by dsimp only; omega)) ?_
    rw [outOf_plain _ _ _ _ _ (by unfold Normed; omega) (by unfold Gate; omega)]
    pointwise
    exact congrArg p (congrArg (ix2 n) (Fin.ext (by rw [colOf_low _ _ (by omega)]; dsimp only; omega)))
  by_cases h1 : j.val = 1
  · refine Eq.trans (cat_1 n _ _ _ _ _ _ _ _ _ _ _ _ l (by dsimp only; omega)) ?_
    rw [outOf_plain _ _ _ _ _ (by unfold Normed; omega) (by unfold Gate; omega)]
    pointwise
    exact congrArg p (congrArg (ix2 n) (Fin.ext (by rw [colOf_low _ _ (by omega)]; dsimp only; omega)))
  by_cases h2 : j.val = 2
  · refine Eq.trans (cat_2 n _ _ _ _ _ _ _ _ _ _ _ _ l (by dsimp only; omega)) ?_
    rw [outOf_plain _ _ _ _ _ (by unfold Normed; omega) (by unfold Gate; omega)]
    pointwise
    exact congrArg p (congrArg (ix2 n) (Fin.ext (by rw [colOf_low _ _ (by omega)]; dsimp only; omega)))
  by_cases h3 : j.val = 3
  · refine Eq.trans (cat_3 n _ _ _ _ _ _ _ _ _ _ _ _ l (by dsimp only; omega)) ?_
    rw [outOf_gate _ _ _ _ _ (by unfold Normed; omega) (by unfold Gate; omega), gated_at]
    pointwise
    exact congrArg (fun q => Ideal.logistic (p (ix2 n q))) (Fin.ext (by rw [colOf_low _ _ (by omega)]; dsimp only; omega))
  by_cases h4 : j.val = 4
  · refine Eq.trans (cat_4 n _ _ _ _ _ _ _ _ _ _ _ _ l (by dsimp only; omega)) ?_
    rw [outOf_normed _ _ _ _ _ (by unfold Normed; omega), gainOf, if_pos h4]
    rw [show (fun l => p (ix2 n (colOf j l))) = fun k : Fin 512 => p (ix2 n ⟨2056 + k.val, by omega⟩) from
        funext fun k => congrArg p (congrArg (ix2 n) (Fin.ext (by rw [colOf_high _ _ (by omega)]; dsimp only; omega)))]
    pointwise [scaled, headNorm_at, row0_at, row1_at]
    rw [mul_assoc]
  by_cases h5 : j.val = 5
  · refine Eq.trans (cat_5 n _ _ _ _ _ _ _ _ _ _ _ _ l (by dsimp only; omega)) ?_
    rw [outOf_normed _ _ _ _ _ (by unfold Normed; omega), gainOf, if_neg (show ¬j.val = 4 by omega), if_pos h5]
    rw [show (fun l => p (ix2 n (colOf j l))) = fun k : Fin 512 => p (ix2 n ⟨2568 + k.val, by omega⟩) from
        funext fun k => congrArg p (congrArg (ix2 n) (Fin.ext (by rw [colOf_high _ _ (by omega)]; dsimp only; omega)))]
    pointwise [headNorm_at, row0_at, row1_at]
  by_cases h6 : j.val = 6
  · refine Eq.trans (cat_6 n _ _ _ _ _ _ _ _ _ _ _ _ l (by dsimp only; omega)) ?_
    rw [outOf_plain _ _ _ _ _ (by unfold Normed; omega) (by unfold Gate; omega)]
    pointwise
    exact congrArg p (congrArg (ix2 n) (Fin.ext (by rw [colOf_high _ _ (by omega)]; dsimp only; omega)))
  by_cases h7 : j.val = 7
  · refine Eq.trans (cat_7 n _ _ _ _ _ _ _ _ _ _ _ _ l (by dsimp only; omega)) ?_
    rw [outOf_normed _ _ _ _ _ (by unfold Normed; omega), gainOf, if_neg (show ¬j.val = 4 by omega), if_neg (show ¬j.val = 5 by omega), if_pos h7]
    rw [show (fun l => p (ix2 n (colOf j l))) = fun k : Fin 512 => p (ix2 n ⟨3592 + k.val, by omega⟩) from
        funext fun k => congrArg p (congrArg (ix2 n) (Fin.ext (by rw [colOf_high _ _ (by omega)]; dsimp only; omega)))]
    pointwise [scaled, headNorm_at, row0_at, row1_at]
    rw [mul_assoc]
  by_cases h8 : j.val = 8
  · refine Eq.trans (cat_8 n _ _ _ _ _ _ _ _ _ _ _ _ l (by dsimp only; omega)) ?_
    rw [outOf_normed _ _ _ _ _ (by unfold Normed; omega), gainOf, if_neg (show ¬j.val = 4 by omega), if_neg (show ¬j.val = 5 by omega), if_neg (show ¬j.val = 7 by omega), if_pos h8]
    rw [show (fun l => p (ix2 n (colOf j l))) = fun k : Fin 512 => p (ix2 n ⟨4104 + k.val, by omega⟩) from
        funext fun k => congrArg p (congrArg (ix2 n) (Fin.ext (by rw [colOf_high _ _ (by omega)]; dsimp only; omega)))]
    pointwise [headNorm_at, row0_at, row1_at]
  by_cases h9 : j.val = 9
  · refine Eq.trans (cat_9 n _ _ _ _ _ _ _ _ _ _ _ _ l (by dsimp only; omega)) ?_
    rw [outOf_plain _ _ _ _ _ (by unfold Normed; omega) (by unfold Gate; omega)]
    pointwise
    exact congrArg p (congrArg (ix2 n) (Fin.ext (by rw [colOf_high _ _ (by omega)]; dsimp only; omega)))
  · refine Eq.trans (cat_10 n _ _ _ _ _ _ _ _ _ _ _ _ ⟨512 * j.val + l.val - 5120, by omega⟩ (by dsimp only; omega)) ?_
    rw [outOf_gate _ _ _ _ _ (by unfold Normed; omega) (by unfold Gate; omega), gated3_at]
    pointwise
    exact congrArg (fun q => Ideal.logistic (p (ix2 n q))) (Fin.ext (by rw [colOf_high _ _ (by omega)]; dsimp only; omega))

variable (m : (ℓ : Loc nD τ sig) → Buf (Elt Ideal) ℓ) (c : Dev nD)

theorem res_segs : res_out0 m c = segs (m ((c.tc : Thread nD τ).loc main_arg3)) (m ((c.tc : Thread nD τ).loc main_arg4))
    (projs (m ((c.tc : Thread nD τ).loc main_arg0)) (m ((c.tc : Thread nD τ).loc main_arg1)) (m ((c.tc : Thread nD τ).loc main_arg2))) := rfl

end Cert.InprojRefIdeal.Mine

end
-- ==== Proof.Inproj.Tie.lean ====
module

public import proofs.«01_k».proof.Proof.Inproj.Ends
public import proofs.«01_k».proof.Proof.Inproj.Ref

/-! The input projection's two results are the reference's. -/

@[expose] public section

set_option maxRecDepth 16384

noncomputable section

namespace Cert.InprojTie

open Idealize.ShloMosaic Idealize.ShloMosaic.TcCoe Idealize.SL.Sem Cert.InprojModel
open Cert.InprojIdeal.Hand

variable (m : (ℓ : Loc Cert.InprojIdeal.nD Cert.InprojIdeal.τ Cert.InprojIdeal.sig) → Buf (Elt Ideal) ℓ) (c : Dev Cert.InprojIdeal.nD)

theorem idx_eq {R C : ℕ} (i : (⟨2, ![R, C]⟩ : Shape).Idx) : i = ix2 (i 0) (i 1) := by
  funext a
  match a with
  | ⟨0, _⟩ => rfl
  | ⟨1, _⟩ => rfl

/-- The reference's projections of the kernel's arguments. -/
abbrev refP : FVec Ideal Cert.InprojRefIdeal.S32768x8200 .f32 := Cert.InprojRefIdeal.Mine.projs (argX m c) (argG m c) (argW m c)

theorem segs_eq : Cert.InprojRefIdeal.Mine.segs (argB m c) (argC m c) (refP m c) = outP m c := by
  funext i
  have hi : (i 1).val < 8192 := (i 1).isLt
  have e : i = ix2 (i 0) ⟨512 * ((i 1).val / 512) + (i 1).val % 512, by omega⟩ :=
    (idx_eq i).trans (congrArg (ix2 (i 0)) (Fin.ext (by dsimp only; omega)))
  refine (congrArg (Cert.InprojRefIdeal.Mine.segs (argB m c) (argC m c) (refP m c)) e).trans ?_
  refine (Cert.InprojRefIdeal.Mine.segs_at (argB m c) (argC m c) (i 0) (refP m c) ⟨(i 1).val / 512, by omega⟩ ⟨(i 1).val % 512, by omega⟩).trans ?_
  exact congrArg (fun P => outOf (argB m c) (argC m c) P ⟨(i 1).val / 512, by omega⟩ ⟨(i 1).val % 512, by omega⟩)
    (funext fun q => Cert.InprojRefIdeal.Mine.projs_at _ _ _ _ _)

theorem small_eq : Cert.InprojRefIdeal.Mine.small (refP m c) = outG m c := by
  funext i
  obtain ⟨n, l, rfl⟩ : ∃ (n : Fin 32768) (l : Fin 128), i = ix2 n l := ⟨i 0, i 1, idx_eq i⟩
  refine (Cert.InprojRefIdeal.Mine.small_at _ _ _).trans ?_
  show _ = gate (argX m c) (argG m c) (argW m c) n l
  unfold gate
  by_cases h : l.val < 8
  · rw [dif_pos h, dif_pos h]
    exact Cert.InprojRefIdeal.Mine.projs_at _ _ _ _ _
  · rw [dif_neg h, dif_neg h]

end Cert.InprojTie

end
-- ==== Proof.lean ====
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Gen.Pre_largest_logits_are_finite
public import proofs.«01_k».proof.Proof.Gen.Diff.Frame
public import proofs.«01_k».proof.Proof.Gen.DiffIdeal.Value
public import proofs.«01_k».proof.Proof.Gen.DiffRefIdeal.Run
public import proofs.«01_k».proof.Proof.Gen.Pre_entries_are_finite
public import proofs.«01_k».proof.Proof.Gen.Merge.Frame
public import proofs.«01_k».proof.Proof.Gen.MergeIdeal.Value
public import proofs.«01_k».proof.Proof.Gen.MergeRefIdeal.Run
public import proofs.«01_k».proof.Proof.Moe.Tie
public import proofs.«01_k».proof.Proof.Diff.Tie
public import proofs.«01_k».proof.Proof.Merge.Tie
public import proofs.«01_k».proof.Proof.Inproj.WordsRun
public import proofs.«01_k».proof.Proof.Inproj.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, with its arguments as they were. -/
theorem reference_ends : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The same under the precondition. -/
theorem reference_ends_pre : quiescent_MoeRefIdeal_pre_largest_logits_are_finite := fun m ρ _ => reference_ends m ρ trivial

/-- The kernel's result is the reference's. -/
theorem values_agree : algebraic_MoeIdeal_MoeRefIdeal_pre_largest_logits_are_finite := by
  intro m ρ m' ρ' hpre hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1, Cert.MoeRefIdeal.Mine.res_eq]
  obtain ⟨h0, h1, h2, h3, h4, h5⟩ := hagree c
  rw [h0, h1, h2, h3, h4, h5]
  exact Cert.MoeTie.result_eq m c (hpre c)

/-- The merge's reference ends, with its arguments as they were. -/
theorem merge_reference_ends : quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- The merge's three results are the reference's. -/
theorem merge_agrees : algebraic_MergeIdeal_MergeRefIdeal := by
  intro m ρ m' ρ' _ hagree
  refine ⟨Cert.MergeIdeal.Mine.outX m, Cert.MergeIdeal.Mine.outH m, Cert.MergeIdeal.Mine.outL m,
    (θ_run Cert.MergeIdeal.defs _ _).mono (fun _ h c => ⟨(h c).1.trans (Cert.MergeIdeal.Mine.final12 m c),
      (h c).2.1.trans (Cert.MergeIdeal.Mine.final13 m c), (h c).2.2.1.trans (Cert.MergeIdeal.Mine.final14 m c), (h c).2.2.2⟩)
      (Cert.MergeIdeal.Value.run_blocks (F := Ideal) m ρ), ?_⟩
  refine (θ_run Cert.MergeRefIdeal.defs _ _).mono (fun _ h c => ?_) (Cert.MergeRefIdeal.Value.run (F := Ideal) m' ρ')
  obtain ⟨h0, h1, h2, h3, h4, h5, h6, h7, h8, h9, h10, h11⟩ := hagree c
  refine ⟨(h c).1.trans ?_, (h c).2.1.trans ?_, (h c).2.2.1.trans ?_, (h c).2.2.2⟩
  · refine Eq.trans ?_ (Cert.MergeTie.stream_eq m c)
    rw [h0, h1, h2, h3, h4, h5, h6]
    rfl
  · refine (Cert.MergeRefIdeal.Mine.res_normed m' c).trans (Eq.trans ?_ (Cert.MergeTie.normed_eq m c))
    unfold Cert.MergeRefIdeal.Mine.streamOf
    rw [h0, h1, h2, h3, h4, h5, h6, h7]
    rfl
  · refine (Cert.MergeRefIdeal.Mine.res_logits m' c).trans (Eq.trans ?_ (Cert.MergeTie.logits_eq m c))
    unfold Cert.MergeRefIdeal.Mine.streamOf
    rw [h0, h1, h2, h3, h4, h5, h6, h7, h8, h9, h10, h11]
    rfl

/-- The input projection's reference ends, with its arguments as they were. -/
theorem inproj_reference_ends : quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)

/-- The input projection's two results are the reference's. -/
theorem inproj_agrees : algebraic_InprojIdeal_InprojRefIdeal := by
  intro m ρ m' ρ' _ hagree
  refine ⟨Cert.InprojIdeal.Hand.outP m, Cert.InprojIdeal.Hand.outG m, Cert.InprojIdeal.Hand.run_all m ρ, ?_⟩
  refine (θ_run Cert.InprojRefIdeal.defs _ _).mono (fun _ h c => ?_) (Cert.InprojRefIdeal.Value.run (F := Ideal) m' ρ')
  obtain ⟨h0, h1, h2, h3, h4⟩ := hagree c
  refine ⟨(h c).1.trans ?_, (h c).2.1.trans ?_, (h c).2.2⟩
  · refine (Cert.InprojRefIdeal.Mine.res_segs m' c).trans (Eq.trans ?_ (Cert.InprojTie.segs_eq m c))
    rw [h0, h1, h2, h3, h4]
    rfl
  · refine Eq.trans ?_ (Cert.InprojTie.small_eq m c)
    rw [h0, h1, h2]
    rfl

/-- The differential attention's reference ends, with its arguments as they were. -/
theorem diff_reference_ends : quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)

/-- The same under the precondition. -/
theorem diff_reference_ends_pre : quiescent_DiffRefIdeal_pre_entries_are_finite := fun m ρ _ => diff_reference_ends m ρ trivial

/-- The differential attention's result is the reference's. -/
theorem diff_agrees : algebraic_DiffIdeal_DiffRefIdeal_pre_entries_are_finite := by
  intro m ρ m' ρ' hpre hagree
  refine ⟨Cert.DiffIdeal.Hand.outA m,
    (θ_run Cert.DiffIdeal.defs _ _).mono (fun _ h c => ⟨(h c).1.trans (Cert.DiffIdeal.Hand.final6 m c (Cert.DiffTie.fine m c (hpre c))), (h c).2⟩)
      (Cert.DiffIdeal.Value.run_blocks (F := Ideal) m ρ), ?_⟩
  refine (θ_run Cert.DiffRefIdeal.defs _ _).mono (fun _ h c => ⟨(h c).1.trans ?_, (h c).2⟩) (Cert.DiffRefIdeal.Value.run (F := Ideal) m' ρ')
  obtain ⟨h0, h1, h2, h3⟩ := hagree c
  refine (Cert.DiffRefIdeal.Mine.res_out m' c).trans (Eq.trans ?_ (Cert.DiffTie.result_eq m c (Cert.DiffTie.fine m c (hpre c))))
  rw [h0, h1, h2, h3]
  rfl

theorem claim : Cert.Claim := ⟨Cert.Moe.Gen.facts, Cert.MoeIdeal.Gen.facts, Cert.MoeRefIdeal.Gen.facts,
  Cert.Merge.Gen.facts, Cert.MergeIdeal.Gen.facts, Cert.MergeRefIdeal.Gen.facts,
  Cert.Inproj.Gen.facts, Cert.InprojIdeal.Gen.facts, Cert.InprojRefIdeal.Gen.facts,
  Cert.Diff.Gen.facts, Cert.DiffIdeal.Gen.facts, Cert.DiffRefIdeal.Gen.facts,
  Cert.Pre_largest_logits_are_finite.Gen.facts, Cert.Pre_entries_are_finite.Gen.facts,
  fun m ρ _ => Cert.Moe.Gen.frame m ρ, fun m ρ _ => Cert.MoeIdeal.Gen.frame m ρ, fun m ρ _ => Cert.MoeIdeal.Gen.frame m ρ,
  reference_ends, reference_ends_pre,
  fun m ρ _ => Cert.Merge.Gen.frame m ρ, fun m ρ _ => Cert.MergeIdeal.Gen.frame m ρ, merge_reference_ends,
  fun m ρ _ => Cert.Inproj.Hand.frame_run m ρ, fun m ρ _ => Cert.InprojIdeal.Hand.frame_run m ρ, inproj_reference_ends,
  fun m ρ _ => Cert.Diff.Gen.frame m ρ, fun m ρ _ => Cert.DiffIdeal.Gen.frame m ρ, fun m ρ _ => Cert.DiffIdeal.Gen.frame m ρ,
  diff_reference_ends, diff_reference_ends_pre,
  (trivial : preserves_Moe_MoeIdeal), values_agree, (trivial : preserves_Merge_MergeIdeal), merge_agrees,
  (trivial : preserves_Inproj_InprojIdeal), inproj_agrees,
  (trivial : preserves_Diff_DiffIdeal), diff_agrees⟩

end Cert.Proof

end
